-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_inputs [hPre_finite_inputs : Cert.Pre_finite_inputs.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_inputs.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_inputs [hPre_finite_inputs : Cert.Pre_finite_inputs.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_inputs.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_finite_inputs [hKernel5Ideal : Cert.Kernel5Ideal.Facts] [hPre_finite_inputs : Cert.Pre_finite_inputs.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_inputs m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_finite_inputs [hReference5Ideal : Cert.Reference5Ideal.Facts] [hPre_finite_inputs : Cert.Pre_finite_inputs.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_inputs m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v53) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v17_0)) (v1 : (c : Dev Cert.Kernel4Ideal.nD) → Buf (Elt Ideal) ((c.tc : Thread Cert.Kernel4Ideal.nD Cert.Kernel4Ideal.τ).loc Cert.Kernel4Ideal.main_v17_1)) (v2 : (c : Dev Cert.Kernel4Ideal.nD) → Buf (Elt Ideal) ((c.tc : Thread Cert.Kernel4Ideal.nD Cert.Kernel4Ideal.τ).loc Cert.Kernel4Ideal.main_v17_2)) (v3 : (c : Dev Cert.Kernel4Ideal.nD) → Buf (Elt Ideal) ((c.tc : Thread Cert.Kernel4Ideal.nD Cert.Kernel4Ideal.τ).loc Cert.Kernel4Ideal.main_v17_3)) (v4 : (c : Dev Cert.Kernel4Ideal.nD) → Buf (Elt Ideal) ((c.tc : Thread Cert.Kernel4Ideal.nD Cert.Kernel4Ideal.τ).loc Cert.Kernel4Ideal.main_v17_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v17_0) = v0 c
          ∧ r.2.mem ((c.tc : Thread Cert.Kernel4Ideal.nD Cert.Kernel4Ideal.τ).loc Cert.Kernel4Ideal.main_v17_1) = v1 c
          ∧ r.2.mem ((c.tc : Thread Cert.Kernel4Ideal.nD Cert.Kernel4Ideal.τ).loc Cert.Kernel4Ideal.main_v17_2) = v2 c
          ∧ r.2.mem ((c.tc : Thread Cert.Kernel4Ideal.nD Cert.Kernel4Ideal.τ).loc Cert.Kernel4Ideal.main_v17_3) = v3 c
          ∧ r.2.mem ((c.tc : Thread Cert.Kernel4Ideal.nD Cert.Kernel4Ideal.τ).loc Cert.Kernel4Ideal.main_v17_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_v43) = v1 c
          ∧ r.2.mem ((c.tc : Thread Cert.Reference4Ideal.nD Cert.Reference4Ideal.τ).loc Cert.Reference4Ideal.main_v50) = v2 c
          ∧ r.2.mem ((c.tc : Thread Cert.Reference4Ideal.nD Cert.Reference4Ideal.τ).loc Cert.Reference4Ideal.main_v52) = v3 c
          ∧ r.2.mem ((c.tc : Thread Cert.Reference4Ideal.nD Cert.Reference4Ideal.τ).loc Cert.Reference4Ideal.main_v53) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite_inputs [hKernel5Ideal : Cert.Kernel5Ideal.Facts] [hReference5Ideal : Cert.Reference5Ideal.Facts] [hPre_finite_inputs : Cert.Pre_finite_inputs.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_inputs m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v107) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v18)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v18) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v49) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite_inputs : Cert.Pre_finite_inputs.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_inputs (hKernel5Ideal := hKernel5Ideal) (hPre_finite_inputs := hPre_finite_inputs)
    ∧ quiescent_Reference5Ideal (hReference5Ideal := hReference5Ideal)
    ∧ quiescent_Reference5Ideal_pre_finite_inputs (hReference5Ideal := hReference5Ideal) (hPre_finite_inputs := hPre_finite_inputs)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_inputs (hKernel5Ideal := hKernel5Ideal) (hReference5Ideal := hReference5Ideal) (hPre_finite_inputs := hPre_finite_inputs)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S8x4096x1024 : Shape := ⟨3, ![8, 4096, 1024]⟩
abbrev S8x256x2048 : Shape := ⟨3, ![8, 256, 2048]⟩
abbrev S1024x1024 : Shape := ⟨2, ![1024, 1024]⟩
abbrev S1024 : Shape := ⟨1, ![1024]⟩
abbrev S_ : Shape := ⟨0, ![]⟩
abbrev S8x256x1024 : Shape := ⟨3, ![8, 256, 1024]⟩

class Facts : Prop where
  bcast_S_S8x4096x1024 : S_.BroadcastsInDim S8x4096x1024 (![] : Fin 0 → Fin S8x4096x1024.rank)
  slices_S8x256x2048_S8x256x1024_0_0_0 : S8x256x2048.Slices ![0, 0, 0] S8x256x1024
  bitsLt_bf16_f32 : FTy.bits .bf16 < FTy.bits .f32
  bcast_S_S8x256x1024 : S_.BroadcastsInDim S8x256x1024 (![] : Fin 0 → Fin S8x256x1024.rank)
  bcast_S_S1024x1024 : S_.BroadcastsInDim S1024x1024 (![] : Fin 0 → Fin S1024x1024.rank)

variable [Facts]

def fn {F : FTy → Type} [FloatOps F] (main_arg0 : FVec F S8x4096x1024 .f32) (main_arg1 : FVec F S8x256x2048 .bf16) (main_arg2 : FVec F S1024x1024 .f32) (main_arg3 : FVec F S1024x1024 .f32) (main_arg4 : FVec F S1024 .f32) (main_arg5 : FVec F S1024 .f32) : IVec S8x4096x1024 1 × IVec S8x256x1024 1 × IVec S1024x1024 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_v3 : FVec F S8x256x1024 .bf16 := (extractStridedSlice S8x256x1024 ![0, 0, 0] · slices_S8x256x2048_S8x256x1024_0_0_0) main_arg1
  let main_v4 : FVec F S8x256x1024 .f32 := (extf .f32 · bitsLt_bf16_f32) main_v3
  let main_v5 : FVec F S8x256x1024 .f32 := Host.absf main_v4
  let main_cst_0 : FVec F S_ .f32 := constant S_ .f32 0x7F800000#32
  let main_v6 : FVec F S8x256x1024 .f32 := broadcastInDim S8x256x1024 ![] bcast_S_S8x256x1024 main_cst_0
  let main_v7 : IVec S8x256x1024 1 := cmpf .olt main_v5 main_v6
  let main_v8 : FVec F S1024x1024 .f32 := Host.absf main_arg2
  let main_cst_1 : FVec F S_ .f32 := constant S_ .f32 0x7F800000#32
  let main_v9 : FVec F S1024x1024 .f32 := broadcastInDim S1024x1024 ![] bcast_S_S1024x1024 main_cst_1
  let main_v10 : IVec S1024x1024 1 := cmpf .olt main_v8 main_v9
  (main_v2, main_v7, main_v10)
-- ==== Pre_finite_inputs.lean ====
abbrev S8x4096x1024 : Shape := ⟨3, ![8, 4096, 1024]⟩
abbrev S8x4096x512 : Shape := ⟨3, ![8, 4096, 512]⟩
abbrev S4x128x128 : Shape := ⟨3, ![4, 128, 128]⟩
abbrev S512 : Shape := ⟨1, ![512]⟩
abbrev S1024x1024 : Shape := ⟨2, ![1024, 1024]⟩
abbrev S1024 : Shape := ⟨1, ![1024]⟩
abbrev S_ : Shape := ⟨0, ![]⟩

class Facts : Prop where
  bcast_S_S8x4096x512 : S_.BroadcastsInDim S8x4096x512 (![] : Fin 0 → Fin S8x4096x512.rank)

variable [Facts]

def fn {F : FTy → Type} [FloatOps F] (main_arg0 : FVec F S8x4096x1024 .f32) (main_arg1 : FVec F S8x4096x512 .bf16) (main_arg2 : FVec F S8x4096x512 .f32) (main_arg3 : FVec F S4x128x128 .f32) (main_arg4 : FVec F S512 .f32) (main_arg5 : FVec F S1024x1024 .f32) (main_arg6 : FVec F S1024 .f32) (main_arg7 : FVec F S1024 .f32) : IVec S8x4096x512 1 :=
  let main_v0 : FVec F S8x4096x512 .f32 := Host.absf main_arg2
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  main_v2
-- ==== Kernel.lean ====
abbrev S8x4096x1024 : Shape := ⟨3, ![8, 4096, 1024]⟩
abbrev S1024x2048 : Shape := ⟨2, ![1024, 2048]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S32768x1024 : Shape := ⟨2, ![32768, 1024]⟩
abbrev S128x8 : Shape := ⟨2, ![128, 8]⟩
abbrev S128x8x128 : Shape := ⟨3, ![128, 8, 128]⟩
abbrev S128x1024 : Shape := ⟨2, ![128, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x512 : Shape := ⟨2, ![128, 512]⟩

abbrev nBuf : Space → Nat
  | .hbm => 20
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S1024x2048, .f32⟩
  | .hbm, ⟨2, _⟩ => ⟨S1024, .f32⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S32768x1024, .f32⟩
  | .hbm, ⟨10, _⟩ => ⟨S128x8, .f32⟩
  | .hbm, ⟨11, _⟩ => ⟨S128x8x128, .f32⟩
  | .hbm, ⟨12, _⟩ => ⟨S128x1024, .f32⟩
  | .hbm, ⟨13, _⟩ => ⟨S1024x2048, .bf16⟩
  | .hbm, ⟨14, _⟩ => ⟨S1x1024, .f32⟩
  | .hbm, ⟨15, _⟩ => ⟨S1x1024, .f32⟩
  | .hbm, ⟨16, _⟩ => ⟨S1024x1024, .bf16⟩
  | .hbm, ⟨17, _⟩ => ⟨S1x1024, .f32⟩
  | .hbm, ⟨18, _⟩ => ⟨S1x1024, .f32⟩
  | .hbm, ⟨19, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1x1024, .f32⟩
  | .local _ .vmem, ⟨4, _⟩ => ⟨S1x1024, .f32⟩
  | .local _ .vmem, ⟨5, _⟩ => ⟨S8x128x128, .f32⟩
  | .local _ .vmem, ⟨6, _⟩ => ⟨S128x1024, .f32⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S8x4096x1024 : Shape := ⟨3, ![8, 4096, 1024]⟩
abbrev S1024x2048 : Shape := ⟨2, ![1024, 2048]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S8x4096x2048 : Shape := ⟨3, ![8, 4096, 2048]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x32x128x8x128 : Shape := ⟨5, ![8, 32, 128, 8, 128]⟩
abbrev S128x128 : Shape := ⟨2, ![128, 128]⟩
abbrev S1x128x128 : Shape := ⟨3, ![1, 128, 128]⟩
abbrev S8x8x32x128x128 : Shape := ⟨5, ![8, 8, 32, 128, 128]⟩
abbrev S128x8 : Shape := ⟨2, ![128, 8]⟩
abbrev S1x1x128x8x1 : Shape := ⟨5, ![1, 1, 128, 8, 1]⟩
abbrev S32768x1024 : Shape := ⟨2, ![32768, 1024]⟩

abbrev nBuf : Space → Nat
  | .hbm => 116
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x2048, .f32⟩
  | .hbm, ⟨2, _⟩ => ⟨S1024, .f32⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S8x4096x2048, .f32⟩
  | .hbm, ⟨10, _⟩ => ⟨S8x4096x2048, .f32⟩
  | .hbm, ⟨11, _⟩ => ⟨S8x4096x2048, .f32⟩
  | .hbm, ⟨12, _⟩ => ⟨S_, .f32⟩
  | .hbm, ⟨13, _⟩ => ⟨S8x4096x2048, .f32⟩
  | .hbm, ⟨14, _⟩ => ⟨S8x4096x2048, .f32⟩
  | .hbm, ⟨15, _⟩ => ⟨S8x4096x2048, .f32⟩
  | .hbm, ⟨16, _⟩ => ⟨S_, .f32⟩
  | .hbm, ⟨17, _⟩ => ⟨S8x4096x2048, .f32⟩
  | .hbm, ⟨18, _⟩ => ⟨S8x4096x2048, .f32⟩
  | .hbm, ⟨19, _⟩ => ⟨S8x4096x2048, .f32⟩
  | .hbm, ⟨20, _⟩ => ⟨S_, .f32⟩
  | .hbm, ⟨21, _⟩ => ⟨S8x4096x2048, .f32⟩
  | .hbm, ⟨22, _⟩ => ⟨S8x4096x2048, .f32⟩
  | .hbm, ⟨23, _⟩ => ⟨S_, .f32⟩
  | .hbm, ⟨24, _⟩ => ⟨S8x4096x2048, .f32⟩
  | .hbm, ⟨25, _⟩ => ⟨S8x4096x2048, .f32⟩
  | .hbm, ⟨26, _⟩ => ⟨S8x4096x2048, .f32⟩
  | .hbm, ⟨27, _⟩ => ⟨S8x4096x1024, .f32⟩
  | .hbm, ⟨28, _⟩ => ⟨S8x4096x1024, .f32⟩
  | .hbm, ⟨29, _⟩ => ⟨S_, .f32⟩
  | .hbm, ⟨30, _⟩ => ⟨S8x4096, .f32⟩
  | .hbm, ⟨31, _⟩ => ⟨S8x4096x1, .f32⟩
  | .hbm, ⟨32, _⟩ => ⟨S_, .f32⟩
  | .hbm, ⟨33, _⟩ => ⟨S8x4096x1, .f32⟩
  | .hbm, ⟨34, _⟩ => ⟨S8x4096x1, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S_, .f32⟩
  | .hbm, ⟨39, _⟩ => ⟨S8x4096, .f32⟩
  | .hbm, ⟨40, _⟩ => ⟨S8x4096x1, .f32⟩
  | .hbm, ⟨41, _⟩ => ⟨S_, .f32⟩
  | .hbm, ⟨42, _⟩ => ⟨S8x4096x1, .f32⟩
  | .hbm, ⟨43, _⟩ => ⟨S8x4096x1, .f32⟩
  | .hbm, ⟨44, _⟩ => ⟨S8x4096x1024, .f32⟩
  | .hbm, ⟨45, _⟩ => ⟨S8x4096x1024, .f32⟩
  | .hbm, ⟨46, _⟩ => ⟨S_, .f32⟩
  | .hbm, ⟨47, _⟩ => ⟨S8x4096x1, .f32⟩
  | .hbm, ⟨48, _⟩ => ⟨S8x4096x1, .f32⟩
  | .hbm, ⟨49, _⟩ => ⟨S8x4096x1, .f32⟩
  | .hbm, ⟨50, _⟩ => ⟨S8x4096x1024, .f32⟩
  | .hbm, ⟨51, _⟩ => ⟨S8x4096x1024, .f32⟩
  | .hbm, ⟨52, _⟩ => ⟨S1x1x1024, .f32⟩
  | .hbm, ⟨53, _⟩ => ⟨S8x4096x1024, .f32⟩
  | .hbm, ⟨54, _⟩ => ⟨S8x4096x1024, .f32⟩
  | .hbm, ⟨55, _⟩ => ⟨S1x1x1024, .f32⟩
  | .hbm, ⟨56, _⟩ => ⟨S8x4096x1024, .f32⟩
  | .hbm, ⟨57, _⟩ => ⟨S8x4096x1024, .f32⟩
  | .hbm, ⟨58, _⟩ => ⟨S8x32x128x8x128, .f32⟩
  | .hbm, ⟨59, _⟩ => ⟨S_, .f32⟩
  | .hbm, ⟨60, _⟩ => ⟨S128x128, .f32⟩
  | .hbm, ⟨61, _⟩ => ⟨S128x128, .i32⟩
  | .hbm, ⟨62, _⟩ => ⟨S_, .i32⟩
  | .hbm, ⟨63, _⟩ => ⟨S128x128, .i32⟩
  | .hbm, ⟨64, _⟩ => ⟨S128x128, .i32⟩
  | .hbm, ⟨65, _⟩ => ⟨S128x128, .i32⟩
  | .hbm, ⟨66, _⟩ => ⟨S128x128, .i1⟩
  | .hbm, ⟨67, _⟩ => ⟨S_, .f32⟩
  | .hbm, ⟨68, _⟩ => ⟨S128x128, .f32⟩
  | .hbm, ⟨69, _⟩ => ⟨S128x128, .f32⟩
  | .hbm, ⟨70, _⟩ => ⟨S1x128x128, .f32⟩
  | .hbm, ⟨71, _⟩ => ⟨S8x128x128, .f32⟩
  | .hbm, ⟨72, _⟩ => ⟨S8x128x128, .f32⟩
  | .hbm, ⟨73, _⟩ => ⟨S8x8x32x128x128, .f32⟩
  | .hbm, ⟨74, _⟩ => ⟨S8x32x128x8x128, .f32⟩
  | .hbm, ⟨75, _⟩ => ⟨S128x8, .f32⟩
  | .hbm, ⟨76, _⟩ => ⟨S1x1x128x8x1, .f32⟩
  | .hbm, ⟨77, _⟩ => ⟨S8x32x128x8x128, .f32⟩
  | .hbm, ⟨78, _⟩ => ⟨S8x32x128x8x128, .f32⟩
  | .hbm, ⟨79, _⟩ => ⟨S8x4096x1024, .f32⟩
  | .hbm, ⟨80, _⟩ => ⟨S8x4096x1024, .f32⟩
  | .hbm, ⟨81, _⟩ => ⟨S8x4096x1024, .f32⟩
  | .hbm, ⟨82, _⟩ => ⟨S_, .f32⟩
  | .hbm, ⟨83, _⟩ => ⟨S8x4096x1024, .f32⟩
  | .hbm, ⟨84, _⟩ => ⟨S8x4096x1024, .f32⟩
  | .hbm, ⟨85, _⟩ => ⟨S8x4096x1024, .f32⟩
  | .hbm, ⟨86, _⟩ => ⟨S_, .f32⟩
  | .hbm, ⟨87, _⟩ => ⟨S8x4096, .f32⟩
  | .hbm, ⟨88, _⟩ => ⟨S8x4096x1, .f32⟩
  | .hbm, ⟨89, _⟩ => ⟨S_, .f32⟩
  | .hbm, ⟨90, _⟩ => ⟨S8x4096x1, .f32⟩
  | .hbm, ⟨91, _⟩ => ⟨S8x4096x1, .f32⟩
  | .hbm, ⟨92, _⟩ => ⟨S8x4096x1024, .f32⟩
  | .hbm, ⟨93, _⟩ => ⟨S8x4096x1024, .f32⟩
  | .hbm, ⟨94, _⟩ => ⟨S8x4096x1024, .f32⟩
  | .hbm, ⟨95, _⟩ => ⟨S_, .f32⟩
  | .hbm, ⟨96, _⟩ => ⟨S8x4096, .f32⟩
  | .hbm, ⟨97, _⟩ => ⟨S8x4096x1, .f32⟩
  | .hbm, ⟨98, _⟩ => ⟨S_, .f32⟩
  | .hbm, ⟨99, _⟩ => ⟨S8x4096x1, .f32⟩
  | .hbm, ⟨100, _⟩ => ⟨S8x4096x1, .f32⟩
  | .hbm, ⟨101, _⟩ => ⟨S8x4096x1024, .f32⟩
  | .hbm, ⟨102, _⟩ => ⟨S8x4096x1024, .f32⟩
  | .hbm, ⟨103, _⟩ => ⟨S_, .f32⟩
  | .hbm, ⟨104, _⟩ => ⟨S8x4096x1, .f32⟩
  | .hbm, ⟨105, _⟩ => ⟨S8x4096x1, .f32⟩
  | .hbm, ⟨106, _⟩ => ⟨S8x4096x1, .f32⟩
  | .hbm, ⟨107, _⟩ => ⟨S8x4096x1024, .f32⟩
  | .hbm, ⟨108, _⟩ => ⟨S8x4096x1024, .f32⟩
  | .hbm, ⟨109, _⟩ => ⟨S1x1x1024, .f32⟩
  | .hbm, ⟨110, _⟩ => ⟨S8x4096x1024, .f32⟩
  | .hbm, ⟨111, _⟩ => ⟨S8x4096x1024, .f32⟩
  | .hbm, ⟨112, _⟩ => ⟨S1x1x1024, .f32⟩
  | .hbm, ⟨113, _⟩ => ⟨S8x4096x1024, .f32⟩
  | .hbm, ⟨114, _⟩ => ⟨S8x4096x1024, .f32⟩
  | .hbm, ⟨115, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_call0_v0 : Ref sig .tc := ⟨.hbm, 61, rfl⟩
abbrev main_call0_c : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_cst : Ref sig .tc := ⟨.hbm, 67, rfl⟩
abbrev main_call0_v5 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_9 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_10 : Ref sig .tc := ⟨.hbm, 86, rfl⟩
abbrev main_v58 : Ref sig .tc := ⟨.hbm, 87, rfl⟩
abbrev main_v59 : Ref sig .tc := ⟨.hbm, 88, rfl⟩
abbrev main_cst_11 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_12 : Ref sig .tc := ⟨.hbm, 95, rfl⟩
abbrev main_v65 : Ref sig .tc := ⟨.hbm, 96, rfl⟩
abbrev main_v66 : Ref sig .tc := ⟨.hbm, 97, rfl⟩
abbrev main_cst_13 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_14 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩

abbrev nD : Nat := 1
abbrev τ : Topo := Topo.v7x

variable {F : FTy → Type} [FloatOps F]
-- ==== Kernel2.lean ====
abbrev S8x4096x1024 : Shape := ⟨3, ![8, 4096, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S32768x1024 : Shape := ⟨2, ![32768, 1024]⟩
abbrev S1x5632 : Shape := ⟨2, ![1, 5632]⟩
abbrev S1x1024 : Shape := ⟨2, ![1, 1024]⟩
abbrev S1024x1024 : Shape := ⟨2, ![1024, 1024]⟩
abbrev S8x1024 : Shape := ⟨2, ![8, 1024]⟩
abbrev S1032x1024 : Shape := ⟨2, ![1032, 1024]⟩
abbrev S1024x256 : Shape := ⟨2, ![1024, 256]⟩
abbrev S1032x256 : Shape := ⟨2, ![1032, 256]⟩
abbrev S1032x512 : Shape := ⟨2, ![1032, 512]⟩
abbrev S3x256 : Shape := ⟨2, ![3, 256]⟩
abbrev S3x512 : Shape := ⟨2, ![3, 512]⟩
abbrev S1x512 : Shape := ⟨2, ![1, 512]⟩
abbrev S129x8x512 : Shape := ⟨3, ![129, 8, 512]⟩
abbrev S1x8x512 : Shape := ⟨3, ![1, 8, 512]⟩
abbrev S128x8x512 : Shape := ⟨3, ![128, 8, 512]⟩
abbrev S1x8x1 : Shape := ⟨3, ![1, 8, 1]⟩
abbrev S1024x512 : Shape := ⟨2, ![1024, 512]⟩
abbrev S1x256 : Shape := ⟨2, ![1, 256]⟩
abbrev S1024x2816 : Shape := ⟨2, ![1024, 2816]⟩
abbrev S1024x1 : Shape := ⟨2, ![1024, 1]⟩

abbrev nBuf : Space → Nat
  | .hbm => 14
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S32768x1024, .f32⟩
  | .hbm, ⟨8, _⟩ => ⟨S1024x5632, .bf16⟩
  | .hbm, ⟨9, _⟩ => ⟨S1x5632, .f32⟩
  | .hbm, ⟨10, _⟩ => ⟨S2816x1024, .bf16⟩
  | .hbm, ⟨11, _⟩ => ⟨S1x1024, .f32⟩
  | .hbm, ⟨12, _⟩ => ⟨S1x1024, .f32⟩
  | .hbm, ⟨13, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1024, .f32⟩
  | .local _ .vmem, ⟨4, _⟩ => ⟨S1024x5632, .bf16⟩
  | .local _ .vmem, ⟨5, _⟩ => ⟨S3x5632, .f32⟩
  | .local _ .vmem, ⟨6, _⟩ => ⟨S1x5632, .f32⟩
  | .local _ .vmem, ⟨7, _⟩ => ⟨S2816x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S8x4096x1024 : Shape := ⟨3, ![8, 4096, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S8x4096x5632 : Shape := ⟨3, ![8, 4096, 5632]⟩
abbrev S_ : Shape := ⟨0, ![]⟩
abbrev S8x4098x5632 : Shape := ⟨3, ![8, 4098, 5632]⟩
abbrev S1x5632 : Shape := ⟨2, ![1, 5632]⟩
abbrev S1x1x5632 : Shape := ⟨3, ![1, 1, 5632]⟩
abbrev S8x4096x2816 : Shape := ⟨3, ![8, 4096, 2816]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩

abbrev nBuf : Space → Nat
  | .hbm => 81
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S8x4096x5632, .f32⟩
  | .hbm, ⟨8, _⟩ => ⟨S_, .i32⟩
  | .hbm, ⟨9, _⟩ => ⟨S_, .f32⟩
  | .hbm, ⟨10, _⟩ => ⟨S8x4098x5632, .f32⟩
  | .hbm, ⟨11, _⟩ => ⟨S8x4096x5632, .f32⟩
  | .hbm, ⟨12, _⟩ => ⟨S1x5632, .f32⟩
  | .hbm, ⟨13, _⟩ => ⟨S5632, .f32⟩
  | .hbm, ⟨14, _⟩ => ⟨S1x1x5632, .f32⟩
  | .hbm, ⟨15, _⟩ => ⟨S8x4096x5632, .f32⟩
  | .hbm, ⟨16, _⟩ => ⟨S8x4096x5632, .f32⟩
  | .hbm, ⟨17, _⟩ => ⟨S8x4096x5632, .f32⟩
  | .hbm, ⟨18, _⟩ => ⟨S1x5632, .f32⟩
  | .hbm, ⟨19, _⟩ => ⟨S5632, .f32⟩
  | .hbm, ⟨20, _⟩ => ⟨S1x1x5632, .f32⟩
  | .hbm, ⟨21, _⟩ => ⟨S8x4096x5632, .f32⟩
  | .hbm, ⟨22, _⟩ => ⟨S8x4096x5632, .f32⟩
  | .hbm, ⟨23, _⟩ => ⟨S8x4096x5632, .f32⟩
  | .hbm, ⟨24, _⟩ => ⟨S8x4096x5632, .f32⟩
  | .hbm, ⟨25, _⟩ => ⟨S1x5632, .f32⟩
  | .hbm, ⟨26, _⟩ => ⟨S5632, .f32⟩
  | .hbm, ⟨27, _⟩ => ⟨S1x1x5632, .f32⟩
  | .hbm, ⟨28, _⟩ => ⟨S8x4096x5632, .f32⟩
  | .hbm, ⟨29, _⟩ => ⟨S8x4096x5632, .f32⟩
  | .hbm, ⟨30, _⟩ => ⟨S8x4096x5632, .f32⟩
  | .hbm, ⟨31, _⟩ => ⟨S1x1x5632, .f32⟩
  | .hbm, ⟨32, _⟩ => ⟨S8x4096x5632, .f32⟩
  | .hbm, ⟨33, _⟩ => ⟨S8x4096x5632, .f32⟩
  | .hbm, ⟨34, _⟩ => ⟨S8x4096x2816, .f32⟩
  | .hbm, ⟨35, _⟩ => ⟨S8x4096x2816, .f32⟩
  | .hbm, ⟨36, _⟩ => ⟨S8x4096x2816, .f32⟩
  | .hbm, ⟨37, _⟩ => ⟨S8x4096x2816, .f32⟩
  | .hbm, ⟨38, _⟩ => ⟨S_, .f32⟩
  | .hbm, ⟨39, _⟩ => ⟨S8x4096x2816, .f32⟩
  | .hbm, ⟨40, _⟩ => ⟨S8x4096x2816, .f32⟩
  | .hbm, ⟨41, _⟩ => ⟨S_, .f32⟩
  | .hbm, ⟨42, _⟩ => ⟨S8x4096x2816, .f32⟩
  | .hbm, ⟨43, _⟩ => ⟨S8x4096x2816, .f32⟩
  | .hbm, ⟨44, _⟩ => ⟨S8x4096x2816, .f32⟩
  | .hbm, ⟨45, _⟩ => ⟨S8x4096x2816, .f32⟩
  | .hbm, ⟨46, _⟩ => ⟨S8x4096x1024, .f32⟩
  | .hbm, ⟨47, _⟩ => ⟨S_, .f32⟩
  | .hbm, ⟨48, _⟩ => ⟨S8x4096x1024, .f32⟩
  | .hbm, ⟨49, _⟩ => ⟨S8x4096x1024, .f32⟩
  | .hbm, ⟨50, _⟩ => ⟨S8x4096x1024, .f32⟩
  | .hbm, ⟨51, _⟩ => ⟨S_, .f32⟩
  | .hbm, ⟨52, _⟩ => ⟨S8x4096, .f32⟩
  | .hbm, ⟨53, _⟩ => ⟨S8x4096x1, .f32⟩
  | .hbm, ⟨54, _⟩ => ⟨S_, .f32⟩
  | .hbm, ⟨55, _⟩ => ⟨S8x4096x1, .f32⟩
  | .hbm, ⟨56, _⟩ => ⟨S8x4096x1, .f32⟩
  | .hbm, ⟨57, _⟩ => ⟨S8x4096x1024, .f32⟩
  | .hbm, ⟨58, _⟩ => ⟨S8x4096x1024, .f32⟩
  | .hbm, ⟨59, _⟩ => ⟨S8x4096x1024, .f32⟩
  | .hbm, ⟨60, _⟩ => ⟨S_, .f32⟩
  | .hbm, ⟨61, _⟩ => ⟨S8x4096, .f32⟩
  | .hbm, ⟨62, _⟩ => ⟨S8x4096x1, .f32⟩
  | .hbm, ⟨63, _⟩ => ⟨S_, .f32⟩
  | .hbm, ⟨64, _⟩ => ⟨S8x4096x1, .f32⟩
  | .hbm, ⟨65, _⟩ => ⟨S8x4096x1, .f32⟩
  | .hbm, ⟨66, _⟩ => ⟨S8x4096x1024, .f32⟩
  | .hbm, ⟨67, _⟩ => ⟨S8x4096x1024, .f32⟩
  | .hbm, ⟨68, _⟩ => ⟨S_, .f32⟩
  | .hbm, ⟨69, _⟩ => ⟨S8x4096x1, .f32⟩
  | .hbm, ⟨70, _⟩ => ⟨S8x4096x1, .f32⟩
  | .hbm, ⟨71, _⟩ => ⟨S8x4096x1, .f32⟩
  | .hbm, ⟨72, _⟩ => ⟨S8x4096x1024, .f32⟩
  | .hbm, ⟨73, _⟩ => ⟨S8x4096x1024, .f32⟩
  | .hbm, ⟨74, _⟩ => ⟨S1x1x1024, .f32⟩
  | .hbm, ⟨75, _⟩ => ⟨S8x4096x1024, .f32⟩
  | .hbm, ⟨76, _⟩ => ⟨S8x4096x1024, .f32⟩
  | .hbm, ⟨77, _⟩ => ⟨S1x1x1024, .f32⟩
  | .hbm, ⟨78, _⟩ => ⟨S8x4096x1024, .f32⟩
  | .hbm, ⟨79, _⟩ => ⟨S8x4096x1024, .f32⟩
  | .hbm, ⟨80, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_0 : Ref sig .tc := ⟨.hbm, 51, rfl⟩
abbrev main_v33 : Ref sig .tc := ⟨.hbm, 52, rfl⟩
abbrev main_v34 : Ref sig .tc := ⟨.hbm, 53, rfl⟩
abbrev main_cst_1 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_2 : Ref sig .tc := ⟨.hbm, 60, rfl⟩
abbrev main_v40 : Ref sig .tc := ⟨.hbm, 61, rfl⟩
abbrev main_v41 : Ref sig .tc := ⟨.hbm, 62, rfl⟩
abbrev main_cst_3 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_4 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x256x2048 : Shape := ⟨3, ![8, 256, 2048]⟩
abbrev S1024x1024 : Shape := ⟨2, ![1024, 1024]⟩
abbrev S1024 : Shape := ⟨1, ![1024]⟩
abbrev S32768x1024 : Shape := ⟨2, ![32768, 1024]⟩
abbrev S_ : Shape := ⟨0, ![]⟩
abbrev S1x1024 : Shape := ⟨2, ![1, 1024]⟩
abbrev S2048x1024 : Shape := ⟨2, ![2048, 1024]⟩
abbrev S1x256x2048 : Shape := ⟨3, ![1, 256, 2048]⟩
abbrev S512x1024 : Shape := ⟨2, ![512, 1024]⟩
abbrev S1x256x256 : Shape := ⟨3, ![1, 256, 256]⟩
abbrev S256x256 : Shape := ⟨2, ![256, 256]⟩
abbrev S512x256 : Shape := ⟨2, ![512, 256]⟩
abbrev S512 : Shape := ⟨1, ![512]⟩
abbrev S512x1 : Shape := ⟨2, ![512, 1]⟩

abbrev nBuf : Space → Nat
  | .hbm => 15
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x256x2048, .bf16⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S32768x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S32768x1024, .f32⟩
  | .local _ .vmem, ⟨0, _⟩ => ⟨S2048x1024, .f32⟩
  | .local _ .vmem, ⟨1, _⟩ => ⟨S2048x1024, .f32⟩
  | .local _ .vmem, ⟨2, _⟩ => ⟨S1x256x2048, .bf16⟩
  | .local _ .vmem, ⟨3, _⟩ => ⟨S1x256x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S2048x1024, .f32⟩
  | .local _ .vmem, ⟨9, _⟩ => ⟨S2048x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8x4096x1024 : Shape := ⟨3, ![8, 4096, 1024]⟩
abbrev S8x256x2048 : Shape := ⟨3, ![8, 256, 2048]⟩
abbrev S1024x1024 : Shape := ⟨2, ![1024, 1024]⟩
abbrev S1024 : Shape := ⟨1, ![1024]⟩
abbrev S8x4096x4x256 : Shape := ⟨4, ![8, 4096, 4, 256]⟩
abbrev S_ : Shape := ⟨0, ![]⟩
abbrev S8x256x2x4x256 : Shape := ⟨5, ![8, 256, 2, 4, 256]⟩
abbrev S8x256x1x4x256 : Shape := ⟨5, ![8, 256, 1, 4, 256]⟩
abbrev S8x256x4x256 : Shape := ⟨4, ![8, 256, 4, 256]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x256x4096 : Shape := ⟨4, ![8, 4, 256, 4096]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩

abbrev nBuf : Space → Nat
  | .hbm => 70
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x256x2048, .bf16⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S8x4096x1024, .f32⟩
  | .hbm, ⟨7, _⟩ => ⟨S8x4096x4x256, .f32⟩
  | .hbm, ⟨8, _⟩ => ⟨S_, .f32⟩
  | .hbm, ⟨9, _⟩ => ⟨S8x4096x4x256, .f32⟩
  | .hbm, ⟨10, _⟩ => ⟨S8x4096x4x256, .f32⟩
  | .hbm, ⟨11, _⟩ => ⟨S8x256x2048, .f32⟩
  | .hbm, ⟨12, _⟩ => ⟨S8x256x2x4x256, .f32⟩
  | .hbm, ⟨13, _⟩ => ⟨S8x256x1x4x256, .f32⟩
  | .hbm, ⟨14, _⟩ => ⟨S8x256x4x256, .f32⟩
  | .hbm, ⟨15, _⟩ => ⟨S8x4x4096x256, .f32⟩
  | .hbm, ⟨16, _⟩ => ⟨S_, .f32⟩
  | .hbm, ⟨17, _⟩ => ⟨S8x4x4096, .f32⟩
  | .hbm, ⟨18, _⟩ => ⟨S_, .f32⟩
  | .hbm, ⟨19, _⟩ => ⟨S8x4x4096, .f32⟩
  | .hbm, ⟨20, _⟩ => ⟨S8x4x4096, .f32⟩
  | .hbm, ⟨21, _⟩ => ⟨S8x4x4096x1, .f32⟩
  | .hbm, ⟨22, _⟩ => ⟨S8x4x4096x256, .f32⟩
  | .hbm, ⟨23, _⟩ => ⟨S8x4x4096x256, .f32⟩
  | .hbm, ⟨24, _⟩ => ⟨S8x4x4096x256, .f32⟩
  | .hbm, ⟨25, _⟩ => ⟨S_, .f32⟩
  | .hbm, ⟨26, _⟩ => ⟨S8x4x4096, .f32⟩
  | .hbm, ⟨27, _⟩ => ⟨S8x4x4096x1, .f32⟩
  | .hbm, ⟨28, _⟩ => ⟨S8x4x4096x256, .f32⟩
  | .hbm, ⟨29, _⟩ => ⟨S8x4x4096x256, .f32⟩
  | .hbm, ⟨30, _⟩ => ⟨S8x256x1x4x256, .f32⟩
  | .hbm, ⟨31, _⟩ => ⟨S8x256x4x256, .f32⟩
  | .hbm, ⟨32, _⟩ => ⟨S8x4x256x4096, .f32⟩
  | .hbm, ⟨33, _⟩ => ⟨S8x4096x4x256, .f32⟩
  | .hbm, ⟨34, _⟩ => ⟨S8x4096x1024, .f32⟩
  | .hbm, ⟨35, _⟩ => ⟨S_, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S_, .f32⟩
  | .hbm, ⟨41, _⟩ => ⟨S8x4096, .f32⟩
  | .hbm, ⟨42, _⟩ => ⟨S8x4096x1, .f32⟩
  | .hbm, ⟨43, _⟩ => ⟨S_, .f32⟩
  | .hbm, ⟨44, _⟩ => ⟨S8x4096x1, .f32⟩
  | .hbm, ⟨45, _⟩ => ⟨S8x4096x1, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S_, .f32⟩
  | .hbm, ⟨50, _⟩ => ⟨S8x4096, .f32⟩
  | .hbm, ⟨51, _⟩ => ⟨S8x4096x1, .f32⟩
  | .hbm, ⟨52, _⟩ => ⟨S_, .f32⟩
  | .hbm, ⟨53, _⟩ => ⟨S8x4096x1, .f32⟩
  | .hbm, ⟨54, _⟩ => ⟨S8x4096x1, .f32⟩
  | .hbm, ⟨55, _⟩ => ⟨S8x4096x1024, .f32⟩
  | .hbm, ⟨56, _⟩ => ⟨S8x4096x1024, .f32⟩
  | .hbm, ⟨57, _⟩ => ⟨S_, .f32⟩
  | .hbm, ⟨58, _⟩ => ⟨S8x4096x1, .f32⟩
  | .hbm, ⟨59, _⟩ => ⟨S8x4096x1, .f32⟩
  | .hbm, ⟨60, _⟩ => ⟨S8x4096x1, .f32⟩
  | .hbm, ⟨61, _⟩ => ⟨S8x4096x1024, .f32⟩
  | .hbm, ⟨62, _⟩ => ⟨S8x4096x1024, .f32⟩
  | .hbm, ⟨63, _⟩ => ⟨S1x1x1024, .f32⟩
  | .hbm, ⟨64, _⟩ => ⟨S8x4096x1024, .f32⟩
  | .hbm, ⟨65, _⟩ => ⟨S8x4096x1024, .f32⟩
  | .hbm, ⟨66, _⟩ => ⟨S1x1x1024, .f32⟩
  | .hbm, ⟨67, _⟩ => ⟨S8x4096x1024, .f32⟩
  | .hbm, ⟨68, _⟩ => ⟨S8x4096x1024, .f32⟩
  | .hbm, ⟨69, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩

abbrev nD : Nat := 1
abbrev τ : Topo := Topo.v7x

variable {F : FTy → Type} [FloatOps F]
-- ==== Kernel4.lean ====
abbrev S8x4096x1024 : Shape := ⟨3, ![8, 4096, 1024]⟩
abbrev S1024x1816 : Shape := ⟨2, ![1024, 1816]⟩
abbrev S32768x1024 : Shape := ⟨2, ![32768, 1024]⟩
abbrev S1024x512 : Shape := ⟨2, ![1024, 512]⟩
abbrev S_ : Shape := ⟨0, ![]⟩
abbrev S1024x768 : Shape := ⟨2, ![1024, 768]⟩
abbrev S1024x3x2x2x64 : Shape := ⟨5, ![1024, 3, 2, 2, 64]⟩
abbrev S1024x1x2x2x64 : Shape := ⟨5, ![1024, 1, 2, 2, 64]⟩
abbrev S1024x2x2x64 : Shape := ⟨4, ![1024, 2, 2, 64]⟩
abbrev S1024x256 : Shape := ⟨2, ![1024, 256]⟩
abbrev S1024x2x2x2x64 : Shape := ⟨5, ![1024, 2, 2, 2, 64]⟩
abbrev S1024x24 : Shape := ⟨2, ![1024, 24]⟩
abbrev S1024x128 : Shape := ⟨2, ![1024, 128]⟩
abbrev S1024x1920 : Shape := ⟨2, ![1024, 1920]⟩
abbrev S32768x256 : Shape := ⟨2, ![32768, 256]⟩
abbrev S32768x128 : Shape := ⟨2, ![32768, 128]⟩
abbrev S32768x512 : Shape := ⟨2, ![32768, 512]⟩
abbrev S1024x1024 : Shape := ⟨2, ![1024, 1024]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S512x1 : Shape := ⟨2, ![512, 1]⟩
abbrev S1x128 : Shape := ⟨2, ![1, 128]⟩

abbrev nBuf : Space → Nat
  | .hbm => 27
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S1024x1816, .f32⟩
  | .hbm, ⟨2, _⟩ => ⟨S32768x1024, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S1024x768, .f32⟩
  | .hbm, ⟨8, _⟩ => ⟨S1024x3x2x2x64, .f32⟩
  | .hbm, ⟨9, _⟩ => ⟨S1024x3x2x2x64, .f32⟩
  | .hbm, ⟨10, _⟩ => ⟨S1024x1x2x2x64, .f32⟩
  | .hbm, ⟨11, _⟩ => ⟨S1024x2x2x64, .f32⟩
  | .hbm, ⟨12, _⟩ => ⟨S1024x256, .f32⟩
  | .hbm, ⟨13, _⟩ => ⟨S1024x2x2x2x64, .f32⟩
  | .hbm, ⟨14, _⟩ => ⟨S1024x512, .f32⟩
  | .hbm, ⟨15, _⟩ => ⟨S1024x24, .f32⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S1024x512, .f32⟩
  | .hbm, ⟨20, _⟩ => ⟨S1024x1920, .f32⟩
  | .hbm, ⟨21, _⟩ => ⟨S1024x1920, .bf16⟩
  | .hbm, ⟨22, _⟩ => ⟨S32768x1024, .bf16⟩
  | .hbm, ⟨23, _⟩ => ⟨S32768x256, .f32⟩
  | .hbm, ⟨24, _⟩ => ⟨S32768x1024, .bf16⟩
  | .hbm, ⟨25, _⟩ => ⟨S32768x128, .f32⟩
  | .hbm, ⟨26, _⟩ => ⟨S32768x512, .f32⟩
  | .local _ .vmem, ⟨0, _⟩ => ⟨S1024x1024, .f32⟩
  | .local _ .vmem, ⟨1, _⟩ => ⟨S1024x1024, .f32⟩
  | .local _ .vmem, ⟨2, _⟩ => ⟨S1024x1920, .bf16⟩
  | .local _ .vmem, ⟨3, _⟩ => ⟨S1024x1024, .bf16⟩
  | .local _ .vmem, ⟨4, _⟩ => ⟨S1024x1024, .bf16⟩
  | .local _ .vmem, ⟨5, _⟩ => ⟨S1024x256, .f32⟩
  | .local _ .vmem, ⟨6, _⟩ => ⟨S1024x256, .f32⟩
  | .local _ .vmem, ⟨7, _⟩ => ⟨S1024x1024, .bf16⟩
  | .local _ .vmem, ⟨8, _⟩ => ⟨S1024x1024, .bf16⟩
  | .local _ .vmem, ⟨9, _⟩ => ⟨S1024x128, .f32⟩
  | .local _ .vmem, ⟨10, _⟩ => ⟨S1024x128, .f32⟩
  | .local _ .vmem, ⟨11, _⟩ => ⟨S1024x512, .f32⟩
  | .local _ .vmem, ⟨12, _⟩ => ⟨S1024x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_call0_v0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17_0 : Ref sig .tc := ⟨.hbm, 22, rfl⟩
abbrev main_v17_1 : Ref sig .tc := ⟨.hbm, 23, rfl⟩
abbrev main_v17_2 : Ref sig .tc := ⟨.hbm, 24, rfl⟩
abbrev main_v17_3 : Ref sig .tc := ⟨.hbm, 25, rfl⟩
abbrev main_v17_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1920 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S8x4096x1024 : Shape := ⟨3, ![8, 4096, 1024]⟩
abbrev S1024x1816 : Shape := ⟨2, ![1024, 1816]⟩
abbrev S8x4096x1816 : Shape := ⟨3, ![8, 4096, 1816]⟩
abbrev S8x4096x512 : Shape := ⟨3, ![8, 4096, 512]⟩
abbrev S8x4096x8x64 : Shape := ⟨4, ![8, 4096, 8, 64]⟩
abbrev S_ : Shape := ⟨0, ![]⟩
abbrev S8x4096x768 : Shape := ⟨3, ![8, 4096, 768]⟩
abbrev S8x4096x3x2x2x64 : Shape := ⟨6, ![8, 4096, 3, 2, 2, 64]⟩
abbrev S8x4096x24 : Shape := ⟨3, ![8, 4096, 24]⟩
abbrev S4096 : Shape := ⟨1, ![4096]⟩
abbrev S4096x1 : Shape := ⟨2, ![4096, 1]⟩
abbrev S64 : Shape := ⟨1, ![64]⟩
abbrev S1x64 : Shape := ⟨2, ![1, 64]⟩
abbrev S4096x64 : Shape := ⟨2, ![4096, 64]⟩
abbrev S1x4096x1x64 : Shape := ⟨4, ![1, 4096, 1, 64]⟩
abbrev S8x4096x2x64 : Shape := ⟨4, ![8, 4096, 2, 64]⟩
abbrev S8x4096x1x1x2x64 : Shape := ⟨6, ![8, 4096, 1, 1, 2, 64]⟩
abbrev S8x4096x2x128 : Shape := ⟨4, ![8, 4096, 2, 128]⟩
abbrev S8x4096x8x128 : Shape := ⟨4, ![8, 4096, 8, 128]⟩
abbrev S32768x1024 : Shape := ⟨2, ![32768, 1024]⟩
abbrev S8x4096x1x2x2x64 : Shape := ⟨6, ![8, 4096, 1, 2, 2, 64]⟩
abbrev S8x4096x2x2x64 : Shape := ⟨5, ![8, 4096, 2, 2, 64]⟩
abbrev S32768x256 : Shape := ⟨2, ![32768, 256]⟩
abbrev S8x4096x1x2x128 : Shape := ⟨5, ![8, 4096, 1, 2, 128]⟩
abbrev S8x4096x4x2x128 : Shape := ⟨5, ![8, 4096, 4, 2, 128]⟩
abbrev S8x4096x128 : Shape := ⟨3, ![8, 4096, 128]⟩
abbrev S32768x128 : Shape := ⟨2, ![32768, 128]⟩
abbrev S32768x512 : Shape := ⟨2, ![32768, 512]⟩

abbrev nBuf : Space → Nat
  | .hbm => 85
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x1816, .f32⟩
  | .hbm, ⟨2, _⟩ => ⟨S8x4096x1816, .f32⟩
  | .hbm, ⟨3, _⟩ => ⟨S8x4096x512, .f32⟩
  | .hbm, ⟨4, _⟩ => ⟨S8x4096x8x64, .f32⟩
  | .hbm, ⟨5, _⟩ => ⟨S_, .f32⟩
  | .hbm, ⟨6, _⟩ => ⟨S8x4096x8x64, .f32⟩
  | .hbm, ⟨7, _⟩ => ⟨S8x4096x8x64, .f32⟩
  | .hbm, ⟨8, _⟩ => ⟨S_, .f32⟩
  | .hbm, ⟨9, _⟩ => ⟨S8x4096x8x64, .f32⟩
  | .hbm, ⟨10, _⟩ => ⟨S8x4096x8x64, .f32⟩
  | .hbm, ⟨11, _⟩ => ⟨S8x4096x768, .f32⟩
  | .hbm, ⟨12, _⟩ => ⟨S8x4096x3x2x2x64, .f32⟩
  | .hbm, ⟨13, _⟩ => ⟨S8x4096x24, .f32⟩
  | .hbm, ⟨14, _⟩ => ⟨S8x4096x512, .f32⟩
  | .hbm, ⟨15, _⟩ => ⟨S4096, .i32⟩
  | .hbm, ⟨16, _⟩ => ⟨S4096x1, .i32⟩
  | .hbm, ⟨17, _⟩ => ⟨S_, .i32⟩
  | .hbm, ⟨18, _⟩ => ⟨S_, .i32⟩
  | .hbm, ⟨19, _⟩ => ⟨S4096x1, .i32⟩
  | .hbm, ⟨20, _⟩ => ⟨S4096x1, .i32⟩
  | .hbm, ⟨21, _⟩ => ⟨S4096x1, .i32⟩
  | .hbm, ⟨22, _⟩ => ⟨S_, .i32⟩
  | .hbm, ⟨23, _⟩ => ⟨S4096x1, .i32⟩
  | .hbm, ⟨24, _⟩ => ⟨S4096x1, .i1⟩
  | .hbm, ⟨25, _⟩ => ⟨S4096x1, .i32⟩
  | .hbm, ⟨26, _⟩ => ⟨S4096x1, .i32⟩
  | .hbm, ⟨27, _⟩ => ⟨S_, .i32⟩
  | .hbm, ⟨28, _⟩ => ⟨S4096x1, .i32⟩
  | .hbm, ⟨29, _⟩ => ⟨S4096x1, .i1⟩
  | .hbm, ⟨30, _⟩ => ⟨S4096x1, .i1⟩
  | .hbm, ⟨31, _⟩ => ⟨S_, .i32⟩
  | .hbm, ⟨32, _⟩ => ⟨S4096x1, .i32⟩
  | .hbm, ⟨33, _⟩ => ⟨S4096x1, .i32⟩
  | .hbm, ⟨34, _⟩ => ⟨S4096x1, .i32⟩
  | .hbm, ⟨35, _⟩ => ⟨S64, .i32⟩
  | .hbm, ⟨36, _⟩ => ⟨S1x64, .i32⟩
  | .hbm, ⟨37, _⟩ => ⟨S4096x64, .i32⟩
  | .hbm, ⟨38, _⟩ => ⟨S4096x64, .i32⟩
  | .hbm, ⟨39, _⟩ => ⟨S4096x64, .i1⟩
  | .hbm, ⟨40, _⟩ => ⟨S_, .f32⟩
  | .hbm, ⟨41, _⟩ => ⟨S_, .f32⟩
  | .hbm, ⟨42, _⟩ => ⟨S4096x64, .f32⟩
  | .hbm, ⟨43, _⟩ => ⟨S4096x64, .f32⟩
  | .hbm, ⟨44, _⟩ => ⟨S4096x64, .f32⟩
  | .hbm, ⟨45, _⟩ => ⟨S1x4096x1x64, .f32⟩
  | .hbm, ⟨46, _⟩ => ⟨S8x4096x2x64, .f32⟩
  | .hbm, ⟨47, _⟩ => ⟨S_, .f32⟩
  | .hbm, ⟨48, _⟩ => ⟨S8x4096x2x64, .f32⟩
  | .hbm, ⟨49, _⟩ => ⟨S_, .f32⟩
  | .hbm, ⟨50, _⟩ => ⟨S8x4096x2x64, .f32⟩
  | .hbm, ⟨51, _⟩ => ⟨S8x4096x1x1x2x64, .f32⟩
  | .hbm, ⟨52, _⟩ => ⟨S8x4096x2x64, .f32⟩
  | .hbm, ⟨53, _⟩ => ⟨S8x4096x2x64, .f32⟩
  | .hbm, ⟨54, _⟩ => ⟨S8x4096x2x128, .f32⟩
  | .hbm, ⟨55, _⟩ => ⟨S8x4096x1x1x2x64, .f32⟩
  | .hbm, ⟨56, _⟩ => ⟨S8x4096x2x64, .f32⟩
  | .hbm, ⟨57, _⟩ => ⟨S8x4096x2x128, .f32⟩
  | .hbm, ⟨58, _⟩ => ⟨S8x4096x1x1x2x64, .f32⟩
  | .hbm, ⟨59, _⟩ => ⟨S8x4096x2x64, .f32⟩
  | .hbm, ⟨60, _⟩ => ⟨S8x4096x2x128, .f32⟩
  | .hbm, ⟨61, _⟩ => ⟨S8x4096x1x1x2x64, .f32⟩
  | .hbm, ⟨62, _⟩ => ⟨S8x4096x2x64, .f32⟩
  | .hbm, ⟨63, _⟩ => ⟨S8x4096x2x128, .f32⟩
  | .hbm, ⟨64, _⟩ => ⟨S_, .i32⟩
  | .hbm, ⟨65, _⟩ => ⟨S_, .f32⟩
  | .hbm, ⟨66, _⟩ => ⟨S8x4096x8x128, .f32⟩
  | .hbm, ⟨67, _⟩ => ⟨S8x4096x8x128, .bf16⟩
  | .hbm, ⟨68, _⟩ => ⟨S32768x1024, .bf16⟩
  | .hbm, ⟨69, _⟩ => ⟨S8x4096x1x2x2x64, .f32⟩
  | .hbm, ⟨70, _⟩ => ⟨S8x4096x2x2x64, .f32⟩
  | .hbm, ⟨71, _⟩ => ⟨S8x4096x2x2x64, .f32⟩
  | .hbm, ⟨72, _⟩ => ⟨S32768x256, .f32⟩
  | .hbm, ⟨73, _⟩ => ⟨S8x4096x1x2x128, .f32⟩
  | .hbm, ⟨74, _⟩ => ⟨S8x4096x1x2x128, .f32⟩
  | .hbm, ⟨75, _⟩ => ⟨S8x4096x1x2x128, .f32⟩
  | .hbm, ⟨76, _⟩ => ⟨S8x4096x1x2x128, .f32⟩
  | .hbm, ⟨77, _⟩ => ⟨S8x4096x4x2x128, .f32⟩
  | .hbm, ⟨78, _⟩ => ⟨S8x4096x4x2x128, .bf16⟩
  | .hbm, ⟨79, _⟩ => ⟨S32768x1024, .bf16⟩
  | .hbm, ⟨80, _⟩ => ⟨S_, .i32⟩
  | .hbm, ⟨81, _⟩ => ⟨S_, .f32⟩
  | .hbm, ⟨82, _⟩ => ⟨S8x4096x128, .f32⟩
  | .hbm, ⟨83, _⟩ => ⟨S32768x128, .f32⟩
  | .hbm, ⟨84, _⟩ => ⟨S32768x512, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_1 : Ref sig .tc := ⟨.hbm, 40, rfl⟩
abbrev main_cst_2 : Ref sig .tc := ⟨.hbm, 41, rfl⟩
abbrev main_call1_v0 : Ref sig .tc := ⟨.hbm, 42, rfl⟩
abbrev main_call1_v1 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_3 : Ref sig .tc := ⟨.hbm, 47, rfl⟩
abbrev main_v22 : Ref sig .tc := ⟨.hbm, 48, rfl⟩
abbrev main_cst_4 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_5 : Ref sig .tc := ⟨.hbm, 64, rfl⟩
abbrev main_call2_v0 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_6 : Ref sig .tc := ⟨.hbm, 80, rfl⟩
abbrev main_call3_v0 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩

abbrev nD : Nat := 1
abbrev τ : Topo := Topo.v7x

variable {F : FTy → Type} [FloatOps F]
-- ==== Kernel5.lean ====
abbrev S8x4096x1024 : Shape := ⟨3, ![8, 4096, 1024]⟩
abbrev S8x4096x512 : Shape := ⟨3, ![8, 4096, 512]⟩
abbrev S4x128x128 : Shape := ⟨3, ![4, 128, 128]⟩
abbrev S512 : Shape := ⟨1, ![512]⟩
abbrev S1024x1024 : Shape := ⟨2, ![1024, 1024]⟩
abbrev S1024 : Shape := ⟨1, ![1024]⟩
abbrev S32768x1024 : Shape := ⟨2, ![32768, 1024]⟩
abbrev S32768x512 : Shape := ⟨2, ![32768, 512]⟩
abbrev S1x512 : Shape := ⟨2, ![1, 512]⟩
abbrev S1x1024 : Shape := ⟨2, ![1, 1024]⟩
abbrev S1024x512 : Shape := ⟨2, ![1024, 512]⟩
abbrev S16x512 : Shape := ⟨2, ![16, 512]⟩
abbrev S512x1 : Shape := ⟨2, ![512, 1]⟩
abbrev S512x512 : Shape := ⟨2, ![512, 512]⟩
abbrev S528x512 : Shape := ⟨2, ![528, 512]⟩
abbrev S512x1024 : Shape := ⟨2, ![512, 1024]⟩
abbrev S528x128 : Shape := ⟨2, ![528, 128]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 17
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .f32⟩
  | .hbm, ⟨3, _⟩ => ⟨S4x128x128, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S32768x1024, .f32⟩
  | .hbm, ⟨9, _⟩ => ⟨S32768x512, .bf16⟩
  | .hbm, ⟨10, _⟩ => ⟨S32768x512, .f32⟩
  | .hbm, ⟨11, _⟩ => ⟨S4x128x128, .bf16⟩
  | .hbm, ⟨12, _⟩ => ⟨S1x512, .f32⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S16x512, .f32⟩
  | .local _ .vmem, ⟨7, _⟩ => ⟨S16x512, .f32⟩
  | .local _ .vmem, ⟨8, _⟩ => ⟨S4x128x128, .bf16⟩
  | .local _ .vmem, ⟨9, _⟩ => ⟨S1x512, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S8x4096x1024 : Shape := ⟨3, ![8, 4096, 1024]⟩
abbrev S8x4096x512 : Shape := ⟨3, ![8, 4096, 512]⟩
abbrev S4x128x128 : Shape := ⟨3, ![4, 128, 128]⟩
abbrev S512 : Shape := ⟨1, ![512]⟩
abbrev S1024x1024 : Shape := ⟨2, ![1024, 1024]⟩
abbrev S1024 : Shape := ⟨1, ![1024]⟩
abbrev S8x4096x4x128 : Shape := ⟨4, ![8, 4096, 4, 128]⟩
abbrev S4096 : Shape := ⟨1, ![4096]⟩
abbrev S8x4096x1x128 : Shape := ⟨4, ![8, 4096, 1, 128]⟩
abbrev S8x4096x128 : Shape := ⟨3, ![8, 4096, 128]⟩
abbrev S_ : Shape := ⟨0, ![]⟩
abbrev S8x4098x128 : Shape := ⟨3, ![8, 4098, 128]⟩
abbrev S4096x1 : Shape := ⟨2, ![4096, 1]⟩
abbrev S1x4096x1 : Shape := ⟨3, ![1, 4096, 1]⟩
abbrev S8x4100x128 : Shape := ⟨3, ![8, 4100, 128]⟩
abbrev S8x4104x128 : Shape := ⟨3, ![8, 4104, 128]⟩
abbrev S8x4112x128 : Shape := ⟨3, ![8, 4112, 128]⟩
abbrev S4x128x8x4096 : Shape := ⟨4, ![4, 128, 8, 4096]⟩
abbrev S1x1x512 : Shape := ⟨3, ![1, 1, 512]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩

abbrev nBuf : Space → Nat
  | .hbm => 146
  | .vmem => 0
  | .smem => 0
  | _ => 0

abbrev hbmTy0_0 (i : Nat) : BufTy := match i % 128 with
  | 0 => ⟨S8x4096x1024, .f32⟩
  | 1 => ⟨S8x4096x512, .bf16⟩
  | 2 => ⟨S8x4096x512, .f32⟩
  | 3 => ⟨S4x128x128, .f32⟩
  | 4 => ⟨S512, .f32⟩
  | 5 => ⟨S1024x1024, .f32⟩
  | 6 => ⟨S1024, .f32⟩
  | 7 => ⟨S1024, .f32⟩
  | 8 => ⟨S8x4096x512, .f32⟩
  | 9 => ⟨S8x4096x4x128, .f32⟩
  | 10 => ⟨S4096, .i32⟩
  | 11 => ⟨S8x4096x1x128, .f32⟩
  | 12 => ⟨S8x4096x128, .f32⟩
  | 13 => ⟨S_, .f32⟩
  | 14 => ⟨S_, .f32⟩
  | 15 => ⟨S8x4096x128, .f32⟩
  | 16 => ⟨S_, .i32⟩
  | 17 => ⟨S_, .f32⟩
  | 18 => ⟨S8x4098x128, .f32⟩
  | 19 => ⟨S8x4096x128, .f32⟩
  | 20 => ⟨S_, .i32⟩
  | 21 => ⟨S4096, .i32⟩
  | 22 => ⟨S4096, .i32⟩
  | 23 => ⟨S_, .i32⟩
  | 24 => ⟨S4096, .i32⟩
  | 25 => ⟨S4096, .i32⟩
  | 26 => ⟨S4096, .f32⟩
  | 27 => ⟨S4096x1, .f32⟩
  | 28 => ⟨S8x4096x128, .f32⟩
  | 29 => ⟨S1x4096x1, .f32⟩
  | 30 => ⟨S8x4096x128, .f32⟩
  | 31 => ⟨S8x4096x128, .f32⟩
  | 32 => ⟨S8x4096x128, .f32⟩
  | 33 => ⟨S8x4096x1x128, .f32⟩
  | 34 => ⟨S8x4096x128, .f32⟩
  | 35 => ⟨S_, .f32⟩
  | 36 => ⟨S_, .f32⟩
  | 37 => ⟨S8x4096x128, .f32⟩
  | 38 => ⟨S_, .i32⟩
  | 39 => ⟨S_, .f32⟩
  | 40 => ⟨S8x4100x128, .f32⟩
  | 41 => ⟨S8x4096x128, .f32⟩
  | 42 => ⟨S_, .i32⟩
  | 43 => ⟨S4096, .i32⟩
  | 44 => ⟨S4096, .i32⟩
  | 45 => ⟨S_, .i32⟩
  | 46 => ⟨S4096, .i32⟩
  | 47 => ⟨S4096, .i32⟩
  | 48 => ⟨S4096, .f32⟩
  | 49 => ⟨S4096x1, .f32⟩
  | 50 => ⟨S8x4096x128, .f32⟩
  | 51 => ⟨S1x4096x1, .f32⟩
  | 52 => ⟨S8x4096x128, .f32⟩
  | 53 => ⟨S8x4096x128, .f32⟩
  | 54 => ⟨S8x4096x128, .f32⟩
  | 55 => ⟨S8x4096x1x128, .f32⟩
  | 56 => ⟨S8x4096x128, .f32⟩
  | 57 => ⟨S_, .f32⟩
  | 58 => ⟨S_, .f32⟩
  | 59 => ⟨S8x4096x128, .f32⟩
  | 60 => ⟨S_, .i32⟩
  | 61 => ⟨S_, .f32⟩
  | 62 => ⟨S8x4104x128, .f32⟩
  | 63 => ⟨S8x4096x128, .f32⟩
  | 64 => ⟨S_, .i32⟩
  | 65 => ⟨S4096, .i32⟩
  | 66 => ⟨S4096, .i32⟩
  | 67 => ⟨S_, .i32⟩
  | 68 => ⟨S4096, .i32⟩
  | 69 => ⟨S4096, .i32⟩
  | 70 => ⟨S4096, .f32⟩
  | 71 => ⟨S4096x1, .f32⟩
  | 72 => ⟨S8x4096x128, .f32⟩
  | 73 => ⟨S1x4096x1, .f32⟩
  | 74 => ⟨S8x4096x128, .f32⟩
  | 75 => ⟨S8x4096x128, .f32⟩
  | 76 => ⟨S8x4096x128, .f32⟩
  | 77 => ⟨S8x4096x1x128, .f32⟩
  | 78 => ⟨S8x4096x128, .f32⟩
  | 79 => ⟨S_, .f32⟩
  | 80 => ⟨S_, .f32⟩
  | 81 => ⟨S8x4096x128, .f32⟩
  | 82 => ⟨S_, .i32⟩
  | 83 => ⟨S_, .f32⟩
  | 84 => ⟨S8x4112x128, .f32⟩
  | 85 => ⟨S8x4096x128, .f32⟩
  | 86 => ⟨S_, .i32⟩
  | 87 => ⟨S4096, .i32⟩
  | 88 => ⟨S4096, .i32⟩
  | 89 => ⟨S_, .i32⟩
  | 90 => ⟨S4096, .i32⟩
  | 91 => ⟨S4096, .i32⟩
  | 92 => ⟨S4096, .f32⟩
  | 93 => ⟨S4096x1, .f32⟩
  | 94 => ⟨S8x4096x128, .f32⟩
  | 95 => ⟨S1x4096x1, .f32⟩
  | 96 => ⟨S8x4096x128, .f32⟩
  | 97 => ⟨S8x4096x128, .f32⟩
  | 98 => ⟨S8x4096x128, .f32⟩
  | 99 => ⟨S8x4096x1x128, .f32⟩
  | 100 => ⟨S8x4096x1x128, .f32⟩
  | 101 => ⟨S8x4096x1x128, .f32⟩
  | 102 => ⟨S8x4096x1x128, .f32⟩
  | 103 => ⟨S8x4096x4x128, .f32⟩
  | 104 => ⟨S4x128x8x4096, .f32⟩
  | 105 => ⟨S8x4096x4x128, .f32⟩
  | 106 => ⟨S8x4096x512, .f32⟩
  | 107 => ⟨S1x1x512, .f32⟩
  | 108 => ⟨S8x4096x512, .f32⟩
  | 109 => ⟨S8x4096x512, .f32⟩
  | 110 => ⟨S8x4096x1024, .f32⟩
  | 111 => ⟨S_, .f32⟩
  | 112 => ⟨S8x4096x1024, .f32⟩
  | 113 => ⟨S8x4096x1024, .f32⟩
  | 114 => ⟨S8x4096x1024, .f32⟩
  | 115 => ⟨S8x4096x1024, .f32⟩
  | 116 => ⟨S_, .f32⟩
  | 117 => ⟨S8x4096, .f32⟩
  | 118 => ⟨S8x4096x1, .f32⟩
  | 119 => ⟨S_, .f32⟩
  | 120 => ⟨S8x4096x1, .f32⟩
  | 121 => ⟨S8x4096x1, .f32⟩
  | 122 => ⟨S8x4096x1024, .f32⟩
  | 123 => ⟨S8x4096x1024, .f32⟩
  | 124 => ⟨S8x4096x1024, .f32⟩
  | 125 => ⟨S_, .f32⟩
  | 126 => ⟨S8x4096, .f32⟩
  | 127 => ⟨S8x4096x1, .f32⟩
  | _ => ⟨S8x4096x1024, .f32⟩

abbrev hbmTy0_1 (i : Nat) : BufTy := match i % 128 with
  | 0 => ⟨S_, .f32⟩
  | 1 => ⟨S8x4096x1, .f32⟩
  | 2 => ⟨S8x4096x1, .f32⟩
  | 3 => ⟨S8x4096x1024, .f32⟩
  | 4 => ⟨S8x4096x1024, .f32⟩
  | 5 => ⟨S_, .f32⟩
  | 6 => ⟨S8x4096x1, .f32⟩
  | 7 => ⟨S8x4096x1, .f32⟩
  | 8 => ⟨S8x4096x1, .f32⟩
  | 9 => ⟨S8x4096x1024, .f32⟩
  | 10 => ⟨S8x4096x1024, .f32⟩
  | 11 => ⟨S1x1x1024, .f32⟩
  | 12 => ⟨S8x4096x1024, .f32⟩
  | 13 => ⟨S8x4096x1024, .f32⟩
  | 14 => ⟨S1x1x1024, .f32⟩
  | 15 => ⟨S8x4096x1024, .f32⟩
  | 16 => ⟨S8x4096x1024, .f32⟩
  | 17 => ⟨S32768x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_call0_cst : Ref sig .tc := ⟨.hbm, 13, rfl⟩
abbrev main_call0_call0_v0 : Ref sig .tc := ⟨.hbm, 14, rfl⟩
abbrev main_v5 : Ref sig .tc := ⟨.hbm, 15, rfl⟩
abbrev main_c : Ref sig .tc := ⟨.hbm, 16, rfl⟩
abbrev main_call1_v0 : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call2_call0_cst : Ref sig .tc := ⟨.hbm, 35, rfl⟩
abbrev main_call2_call0_v0 : Ref sig .tc := ⟨.hbm, 36, rfl⟩
abbrev main_v21 : Ref sig .tc := ⟨.hbm, 37, rfl⟩
abbrev main_c_2 : Ref sig .tc := ⟨.hbm, 38, rfl⟩
abbrev main_call3_v0 : Ref sig .tc := ⟨.hbm, 39, rfl⟩
abbrev main_v22 : Ref sig .tc := ⟨.hbm, 40, rfl⟩
abbrev main_v23 : Ref sig .tc := ⟨.hbm, 41, rfl⟩
abbrev main_c_3 : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call4_call0_cst : Ref sig .tc := ⟨.hbm, 57, rfl⟩
abbrev main_call4_call0_v0 : Ref sig .tc := ⟨.hbm, 58, rfl⟩
abbrev main_v37 : Ref sig .tc := ⟨.hbm, 59, rfl⟩
abbrev main_c_5 : Ref sig .tc := ⟨.hbm, 60, rfl⟩
abbrev main_call5_v0 : Ref sig .tc := ⟨.hbm, 61, rfl⟩
abbrev main_v38 : Ref sig .tc := ⟨.hbm, 62, rfl⟩
abbrev main_v39 : Ref sig .tc := ⟨.hbm, 63, rfl⟩
abbrev main_c_6 : Ref sig .tc := ⟨.hbm, 64, rfl⟩
abbrev main_v40 : Ref sig .tc := ⟨.hbm, 65, rfl⟩
abbrev main_v41 : Ref sig .tc := ⟨.hbm, 66, rfl⟩
abbrev main_c_7 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call6_call0_cst : Ref sig .tc := ⟨.hbm, 79, rfl⟩
abbrev main_call6_call0_v0 : Ref sig .tc := ⟨.hbm, 80, rfl⟩
abbrev main_v53 : Ref sig .tc := ⟨.hbm, 81, rfl⟩
abbrev main_c_8 : Ref sig .tc := ⟨.hbm, 82, rfl⟩
abbrev main_call7_v0 : Ref sig .tc := ⟨.hbm, 83, rfl⟩
abbrev main_v54 : Ref sig .tc := ⟨.hbm, 84, rfl⟩
abbrev main_v55 : Ref sig .tc := ⟨.hbm, 85, rfl⟩
abbrev main_c_9 : Ref sig .tc := ⟨.hbm, 86, rfl⟩
abbrev main_v56 : Ref sig .tc := ⟨.hbm, 87, rfl⟩
abbrev main_v57 : Ref sig .tc := ⟨.hbm, 88, rfl⟩
abbrev main_c_10 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_11 : Ref sig .tc := ⟨.hbm, 116, rfl⟩
abbrev main_v83 : Ref sig .tc := ⟨.hbm, 117, rfl⟩
abbrev main_v84 : Ref sig .tc := ⟨.hbm, 118, rfl⟩
abbrev main_cst_12 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_13 : Ref sig .tc := ⟨.hbm, 125, rfl⟩
abbrev main_v90 : Ref sig .tc := ⟨.hbm, 126, rfl⟩
abbrev main_v91 : Ref sig .tc := ⟨.hbm, 127, rfl⟩
abbrev main_cst_14 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_15 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩

abbrev nD : Nat := 1
abbrev τ : Topo := Topo.v7x

variable {F : FTy → Type} [FloatOps F]
-- ==== Kernel6.lean ====
abbrev S8x256x1024 : Shape := ⟨3, ![8, 256, 1024]⟩
abbrev S1024x2048 : Shape := ⟨2, ![1024, 2048]⟩
abbrev S2048x1024 : Shape := ⟨2, ![2048, 1024]⟩
abbrev S2048x2048 : Shape := ⟨2, ![2048, 2048]⟩
abbrev S512x1024 : Shape := ⟨2, ![512, 1024]⟩
abbrev S512x2048 : Shape := ⟨2, ![512, 2048]⟩

abbrev nBuf : Space → Nat
  | .hbm => 5
  | .vmem => 5
  | .smem => 0
  | _ => 0

abbrev bufTy : (tb : Table) → Fin (tcTables nBuf tb) → BufTy
  | .hbm, ⟨0, _⟩ => ⟨S8x256x1024, .f32⟩
  | .hbm, ⟨1, _⟩ => ⟨S1024x2048, .f32⟩
  | .hbm, ⟨2, _⟩ => ⟨S2048x1024, .f32⟩
  | .hbm, ⟨3, _⟩ => ⟨S1024x2048, .bf16⟩
  | .hbm, ⟨4, _⟩ => ⟨S2048x2048, .bf16⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S512x2048, .bf16⟩
  | .local _ .vmem, ⟨4, _⟩ => ⟨S512x2048, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S8x256x1024 : Shape := ⟨3, ![8, 256, 1024]⟩
abbrev S1024x2048 : Shape := ⟨2, ![1024, 2048]⟩
abbrev S8x256x2048 : Shape := ⟨3, ![8, 256, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024x2048, .f32⟩
  | .hbm, ⟨2, _⟩ => ⟨S8x256x2048, .f32⟩
  | .hbm, ⟨3, _⟩ => ⟨S8x256x2048, .bf16⟩
  | .hbm, ⟨4, _⟩ => ⟨S2048x2048, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S32768x256 : Shape := ⟨2, ![32768, 256]⟩
abbrev S2x32x64 : Shape := ⟨3, ![2, 32, 64]⟩
abbrev S2x2048x128 : Shape := ⟨3, ![2, 2048, 128]⟩
abbrev S2x128x64 : Shape := ⟨3, ![2, 128, 64]⟩
abbrev S8x4096x256 : Shape := ⟨3, ![8, 4096, 256]⟩
abbrev S2x2x16x64 : Shape := ⟨4, ![2, 2, 16, 64]⟩
abbrev S2x16x2x64 : Shape := ⟨4, ![2, 16, 2, 64]⟩
abbrev S2x16x128 : Shape := ⟨3, ![2, 16, 128]⟩
abbrev S2x2x16x64x128 : Shape := ⟨5, ![2, 2, 16, 64, 128]⟩
abbrev S1x2x16x64x128 : Shape := ⟨5, ![1, 2, 16, 64, 128]⟩
abbrev S2x16x64x128 : Shape := ⟨4, ![2, 16, 64, 128]⟩
abbrev S_ : Shape := ⟨0, ![]⟩
abbrev S2x16x64x256 : Shape := ⟨4, ![2, 16, 64, 256]⟩
abbrev S2x16x128x256 : Shape := ⟨4, ![2, 16, 128, 256]⟩
abbrev S2x128x128 : Shape := ⟨3, ![2, 128, 128]⟩
abbrev S8x2x2x256x128 : Shape := ⟨5, ![8, 2, 2, 256, 128]⟩
abbrev S1x4096x128 : Shape := ⟨3, ![1, 4096, 128]⟩
abbrev S1x1x2x256x128 : Shape := ⟨5, ![1, 1, 2, 256, 128]⟩
abbrev S1x128 : Shape := ⟨2, ![1, 128]⟩
abbrev S1x256x128 : Shape := ⟨3, ![1, 256, 128]⟩
abbrev S256x128 : Shape := ⟨2, ![256, 128]⟩
abbrev S1x1x128 : Shape := ⟨3, ![1, 1, 128]⟩
abbrev S1x1x128x256 : Shape := ⟨4, ![1, 1, 128, 256]⟩
abbrev S128x256 : Shape := ⟨2, ![128, 256]⟩
abbrev S256x256 : Shape := ⟨2, ![256, 256]⟩
abbrev S1x128x128 : Shape := ⟨3, ![1, 128, 128]⟩
abbrev S128x128 : Shape := ⟨2, ![128, 128]⟩
abbrev S1x1x1x256x128 : Shape := ⟨5, ![1, 1, 1, 256, 128]⟩

abbrev nBuf : Space → Nat
  | .hbm => 26
  | .vmem => 7
  | .smem => 0
  | _ => 0

abbrev bufTy : (tb : Table) → Fin (tcTables nBuf tb) → BufTy
  | .hbm, ⟨0, _⟩ => ⟨S32768x256, .f32⟩
  | .hbm, ⟨1, _⟩ => ⟨S2x32x64, .f32⟩
  | .hbm, ⟨2, _⟩ => ⟨S2x2048x128, .f32⟩
  | .hbm, ⟨3, _⟩ => ⟨S2x128x64, .f32⟩
  | .hbm, ⟨4, _⟩ => ⟨S8x4096x256, .f32⟩
  | .hbm, ⟨5, _⟩ => ⟨S2x2x16x64, .f32⟩
  | .hbm, ⟨6, _⟩ => ⟨S2x16x2x64, .f32⟩
  | .hbm, ⟨7, _⟩ => ⟨S2x16x128, .f32⟩
  | .hbm, ⟨8, _⟩ => ⟨S2x2x16x64x128, .f32⟩
  | .hbm, ⟨9, _⟩ => ⟨S1x2x16x64x128, .f32⟩
  | .hbm, ⟨10, _⟩ => ⟨S2x16x64x128, .f32⟩
  | .hbm, ⟨11, _⟩ => ⟨S_, .f32⟩
  | .hbm, ⟨12, _⟩ => ⟨S2x16x64x128, .f32⟩
  | .hbm, ⟨13, _⟩ => ⟨S1x2x16x64x128, .f32⟩
  | .hbm, ⟨14, _⟩ => ⟨S2x16x64x128, .f32⟩
  | .hbm, ⟨15, _⟩ => ⟨S2x16x64x256, .f32⟩
  | .hbm, ⟨16, _⟩ => ⟨S1x2x16x64x128, .f32⟩
  | .hbm, ⟨17, _⟩ => ⟨S2x16x64x128, .f32⟩
  | .hbm, ⟨18, _⟩ => ⟨S2x16x64x256, .f32⟩
  | .hbm, ⟨19, _⟩ => ⟨S2x16x128x256, .f32⟩
  | .hbm, ⟨20, _⟩ => ⟨S2x16x128x256, .bf16⟩
  | .hbm, ⟨21, _⟩ => ⟨S_, .i32⟩
  | .hbm, ⟨22, _⟩ => ⟨S_, .f32⟩
  | .hbm, ⟨23, _⟩ => ⟨S2x128x128, .f32⟩
  | .hbm, ⟨24, _⟩ => ⟨S2x128x128, .bf16⟩
  | .hbm, ⟨25, _⟩ => ⟨S8x2x2x256x128, .bf16⟩
  | .local _ .vmem, ⟨0, _⟩ => ⟨S1x4096x128, .f32⟩
  | .local _ .vmem, ⟨1, _⟩ => ⟨S1x4096x128, .f32⟩
  | .local _ .vmem, ⟨2, _⟩ => ⟨S2x16x128, .f32⟩
  | .local _ .vmem, ⟨3, _⟩ => ⟨S2x16x128x256, .bf16⟩
  | .local _ .vmem, ⟨4, _⟩ => ⟨S2x128x128, .bf16⟩
  | .local _ .vmem, ⟨5, _⟩ => ⟨S1x1x2x256x128, .bf16⟩
  | .local _ .vmem, ⟨6, _⟩ => ⟨S1x1x2x256x128, .bf16⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_call0_v0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x16x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x2x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S32768x256 : Shape := ⟨2, ![32768, 256]⟩
abbrev S2x32x64 : Shape := ⟨3, ![2, 32, 64]⟩
abbrev S2x2048x128 : Shape := ⟨3, ![2, 2048, 128]⟩
abbrev S2x128x64 : Shape := ⟨3, ![2, 128, 64]⟩
abbrev S8x4096x2x2x64 : Shape := ⟨5, ![8, 4096, 2, 2, 64]⟩
abbrev S256 : Shape := ⟨1, ![256]⟩
abbrev S256x1 : Shape := ⟨2, ![256, 1]⟩
abbrev S_ : Shape := ⟨0, ![]⟩
abbrev S32 : Shape := ⟨1, ![32]⟩
abbrev S1x32 : Shape := ⟨2, ![1, 32]⟩
abbrev S256x32 : Shape := ⟨2, ![256, 32]⟩
abbrev S256x32x1 : Shape := ⟨3, ![256, 32, 1]⟩
abbrev S8x256x32x2x2x64 : Shape := ⟨6, ![8, 256, 32, 2, 2, 64]⟩
abbrev S32x2x64 : Shape := ⟨3, ![32, 2, 64]⟩
abbrev S1x1x32x2x1x64 : Shape := ⟨6, ![1, 1, 32, 2, 1, 64]⟩
abbrev S8x2x2x256x32x64 : Shape := ⟨6, ![8, 2, 2, 256, 32, 64]⟩
abbrev S8x2x2x256x2048 : Shape := ⟨5, ![8, 2, 2, 256, 2048]⟩
abbrev S2x128x8x2x256 : Shape := ⟨5, ![2, 128, 8, 2, 256]⟩
abbrev S8x2x2x256x128 : Shape := ⟨5, ![8, 2, 2, 256, 128]⟩
abbrev S2x64x8x2x256 : Shape := ⟨5, ![2, 64, 8, 2, 256]⟩
abbrev S8x2x2x256x64 : Shape := ⟨5, ![8, 2, 2, 256, 64]⟩
abbrev S8x2x256x64 : Shape := ⟨4, ![8, 2, 256, 64]⟩
abbrev S8x1x2x256x64 : Shape := ⟨5, ![8, 1, 2, 256, 64]⟩

abbrev nBuf : Space → Nat
  | .hbm => 84
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S2x32x64, .f32⟩
  | .hbm, ⟨2, _⟩ => ⟨S2x2048x128, .f32⟩
  | .hbm, ⟨3, _⟩ => ⟨S2x128x64, .f32⟩
  | .hbm, ⟨4, _⟩ => ⟨S8x4096x2x2x64, .f32⟩
  | .hbm, ⟨5, _⟩ => ⟨S8x4096x2x2x64, .f32⟩
  | .hbm, ⟨6, _⟩ => ⟨S256, .i32⟩
  | .hbm, ⟨7, _⟩ => ⟨S256x1, .i32⟩
  | .hbm, ⟨8, _⟩ => ⟨S_, .i32⟩
  | .hbm, ⟨9, _⟩ => ⟨S256x1, .i32⟩
  | .hbm, ⟨10, _⟩ => ⟨S256x1, .i32⟩
  | .hbm, ⟨11, _⟩ => ⟨S32, .i32⟩
  | .hbm, ⟨12, _⟩ => ⟨S1x32, .i32⟩
  | .hbm, ⟨13, _⟩ => ⟨S256x32, .i32⟩
  | .hbm, ⟨14, _⟩ => ⟨S256x32, .i32⟩
  | .hbm, ⟨15, _⟩ => ⟨S256x32, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S256x32, .i32⟩
  | .hbm, ⟨23, _⟩ => ⟨S256x32, .i32⟩
  | .hbm, ⟨24, _⟩ => ⟨S_, .i32⟩
  | .hbm, ⟨25, _⟩ => ⟨S256x32, .i32⟩
  | .hbm, ⟨26, _⟩ => ⟨S256x32, .i1⟩
  | .hbm, ⟨27, _⟩ => ⟨S_, .i32⟩
  | .hbm, ⟨28, _⟩ => ⟨S256x32, .i32⟩
  | .hbm, ⟨29, _⟩ => ⟨S256x32, .i1⟩
  | .hbm, ⟨30, _⟩ => ⟨S_, .i32⟩
  | .hbm, ⟨31, _⟩ => ⟨S_, .i1⟩
  | .hbm, ⟨32, _⟩ => ⟨S256x32, .i1⟩
  | .hbm, ⟨33, _⟩ => ⟨S256x32, .i1⟩
  | .hbm, ⟨34, _⟩ => ⟨S256x32, .i1⟩
  | .hbm, ⟨35, _⟩ => ⟨S256x32, .i32⟩
  | .hbm, ⟨36, _⟩ => ⟨S256x32, .i32⟩
  | .hbm, ⟨37, _⟩ => ⟨S256x32, .i32⟩
  | .hbm, ⟨38, _⟩ => ⟨S_, .i32⟩
  | .hbm, ⟨39, _⟩ => ⟨S256x32, .i32⟩
  | .hbm, ⟨40, _⟩ => ⟨S256x32, .i1⟩
  | .hbm, ⟨41, _⟩ => ⟨S_, .i32⟩
  | .hbm, ⟨42, _⟩ => ⟨S256x32, .i32⟩
  | .hbm, ⟨43, _⟩ => ⟨S256x32, .i32⟩
  | .hbm, ⟨44, _⟩ => ⟨S256x32, .i32⟩
  | .hbm, ⟨45, _⟩ => ⟨S256x32x1, .i32⟩
  | .hbm, ⟨46, _⟩ => ⟨S8x256x32x2x2x64, .f32⟩
  | .hbm, ⟨47, _⟩ => ⟨S32x2x64, .f32⟩
  | .hbm, ⟨48, _⟩ => ⟨S1x1x32x2x1x64, .f32⟩
  | .hbm, ⟨49, _⟩ => ⟨S8x256x32x2x2x64, .f32⟩
  | .hbm, ⟨50, _⟩ => ⟨S8x256x32x2x2x64, .f32⟩
  | .hbm, ⟨51, _⟩ => ⟨S8x2x2x256x32x64, .f32⟩
  | .hbm, ⟨52, _⟩ => ⟨S8x2x2x256x2048, .f32⟩
  | .hbm, ⟨53, _⟩ => ⟨S2x128x8x2x256, .f32⟩
  | .hbm, ⟨54, _⟩ => ⟨S8x2x2x256x128, .f32⟩
  | .hbm, ⟨55, _⟩ => ⟨S8x2x2x256x128, .f32⟩
  | .hbm, ⟨56, _⟩ => ⟨S8x2x2x256x128, .f32⟩
  | .hbm, ⟨57, _⟩ => ⟨S_, .f32⟩
  | .hbm, ⟨58, _⟩ => ⟨S8x2x2x256x128, .f32⟩
  | .hbm, ⟨59, _⟩ => ⟨S8x2x2x256x128, .f32⟩
  | .hbm, ⟨60, _⟩ => ⟨S8x2x2x256x128, .f32⟩
  | .hbm, ⟨61, _⟩ => ⟨S_, .f32⟩
  | .hbm, ⟨62, _⟩ => ⟨S8x2x2x256x128, .f32⟩
  | .hbm, ⟨63, _⟩ => ⟨S8x2x2x256x128, .f32⟩
  | .hbm, ⟨64, _⟩ => ⟨S8x2x2x256x128, .f32⟩
  | .hbm, ⟨65, _⟩ => ⟨S_, .f32⟩
  | .hbm, ⟨66, _⟩ => ⟨S8x2x2x256x128, .f32⟩
  | .hbm, ⟨67, _⟩ => ⟨S8x2x2x256x128, .f32⟩
  | .hbm, ⟨68, _⟩ => ⟨S_, .f32⟩
  | .hbm, ⟨69, _⟩ => ⟨S8x2x2x256x128, .f32⟩
  | .hbm, ⟨70, _⟩ => ⟨S8x2x2x256x128, .f32⟩
  | .hbm, ⟨71, _⟩ => ⟨S8x2x2x256x128, .f32⟩
  | .hbm, ⟨72, _⟩ => ⟨S2x64x8x2x256, .f32⟩
  | .hbm, ⟨73, _⟩ => ⟨S8x2x2x256x64, .f32⟩
  | .hbm, ⟨74, _⟩ => ⟨S_, .f32⟩
  | .hbm, ⟨75, _⟩ => ⟨S8x2x256x64, .f32⟩
  | .hbm, ⟨76, _⟩ => ⟨S_, .f32⟩
  | .hbm, ⟨77, _⟩ => ⟨S8x2x256x64, .f32⟩
  | .hbm, ⟨78, _⟩ => ⟨S8x1x2x256x64, .f32⟩
  | .hbm, ⟨79, _⟩ => ⟨S8x1x2x256x64, .f32⟩
  | .hbm, ⟨80, _⟩ => ⟨S8x2x2x256x64, .f32⟩
  | .hbm, ⟨81, _⟩ => ⟨S8x2x2x256x128, .f32⟩
  | .hbm, ⟨82, _⟩ => ⟨S8x2x2x256x128, .f32⟩
  | .hbm, ⟨83, _⟩ => ⟨S8x2x2x256x128, .bf16⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_1 : Ref sig .tc := ⟨.hbm, 24, rfl⟩
abbrev main_call0_v5 : Ref sig .tc := ⟨.hbm, 25, rfl⟩
abbrev main_call0_v6 : Ref sig .tc := ⟨.hbm, 26, rfl⟩
abbrev main_call0_c_2 : Ref sig .tc := ⟨.hbm, 27, rfl⟩
abbrev main_call0_v7 : Ref sig .tc := ⟨.hbm, 28, rfl⟩
abbrev main_call0_v8 : Ref sig .tc := ⟨.hbm, 29, rfl⟩
abbrev main_call0_c_3 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_v11 : Ref sig .tc := ⟨.hbm, 37, rfl⟩
abbrev main_c_1 : Ref sig .tc := ⟨.hbm, 38, rfl⟩
abbrev main_v12 : Ref sig .tc := ⟨.hbm, 39, rfl⟩
abbrev main_v13 : Ref sig .tc := ⟨.hbm, 40, rfl⟩
abbrev main_c_2 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_3 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_4 : Ref sig .tc := ⟨.hbm, 65, rfl⟩
abbrev main_v35 : Ref sig .tc := ⟨.hbm, 66, rfl⟩
abbrev main_v36 : Ref sig .tc := ⟨.hbm, 67, rfl⟩
abbrev main_cst_5 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_6 : Ref sig .tc := ⟨.hbm, 74, rfl⟩
abbrev main_v42 : Ref sig .tc := ⟨.hbm, 75, rfl⟩
abbrev main_cst_7 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩

abbrev nD : Nat := 1
abbrev τ : Topo := Topo.v7x

variable {F : FTy → Type} [FloatOps F]
-- ==== Proof.Rows.lean ====
module

public import Idealize.ShloMosaic.Lib.Pointwise
public import Idealize.ShloMosaic.Lib.IdealHost

/-! The row functions in which both the kernels and the references are read: the layer norm of a row,
    the conv FFN's gated activation, and a few facts of extended real arithmetic. -/

@[expose] public section

set_option maxRecDepth 16384

noncomputable section

namespace Trunk

open Idealize.ShloMosaic

/-- The number of lanes of a row, 1024, as the programs spell it. -/
abbrev lanes : EReal := Ideal.ofBits .f32 0x44800000#32

/-- The layer norm's epsilon, as the programs spell it. -/
abbrev eps : EReal := Ideal.ofBits .f32 0x3727C5AC#32

/-- The residual's weight, the fourth root of 4, as the programs spell it. -/
abbrev alpha : EReal := Ideal.ofBits .f32 0x3FB504F3#32

/-- The mean of a row of 1024 lanes. -/
def rowMean (y : Fin 1024 → EReal) : EReal := Ideal.div (∑ k, y k) lanes

/-- The layer norm of a row at one lane, from the row, the lane's gain and its bias. -/
def rowNorm (y : Fin 1024 → EReal) (g b : EReal) (n : Fin 1024) : EReal :=
  (y n - rowMean y) * Ideal.rsqrt (Ideal.div (∑ k, (y k - rowMean y) * (y k - rowMean y)) lanes + eps) * g + b

/-- Rows that agree lane by lane have the same norm. -/
theorem rowNorm_congr {y y' : Fin 1024 → EReal} {g g' b b' : EReal} (h : ∀ k, y k = y' k) (hg : g = g') (hb : b = b')
    (n : Fin 1024) : rowNorm y g b n = rowNorm y' g' b' n := by
  rw [funext h, hg, hb]

/-- The product of one input row and one column of a weight. -/
def rowDot {K : ℕ} (x w : Fin K → EReal) : EReal := ∑ k, x k * w k

/-- The product of the zero row is zero. -/
theorem rowDot_zero {K : ℕ} (w : Fin K → EReal) : rowDot (fun _ => 0) w = 0 := by
  simp [rowDot]

/-- The causal convolution of width three at one channel: the weights of the two rows before, of the row itself,
    the three rows' products, and the bias. -/
def conv3 (c0 c1 c2 b h2 h1 h0 : EReal) : EReal := c2 * h0 + (c1 * h1 + c0 * h2) + b

/-- One channel of the convolved up projection, from the two rows before and the row itself. -/
def chanConv (h2 h1 h0 : Fin 1024 → EReal) (W : Fin 1024 → Fin 5632 → EReal) (C : Fin 3 → Fin 5632 → EReal)
    (B : Fin 5632 → EReal) (o : Fin 5632) : EReal :=
  conv3 (C 0 o) (C 1 o) (C 2 o) (B o) (rowDot h2 fun k => W k o) (rowDot h1 fun k => W k o) (rowDot h0 fun k => W k o)

/-- One channel of the gated activation: the value channel times the gate channel's `g · logistic g`. -/
def actCol (h2 h1 h0 : Fin 1024 → EReal) (W : Fin 1024 → Fin 5632 → EReal) (C : Fin 3 → Fin 5632 → EReal)
    (B : Fin 5632 → EReal) (c : Fin 2816) : EReal :=
  chanConv h2 h1 h0 W C B ⟨c, by omega⟩
    * (chanConv h2 h1 h0 W C B ⟨2816 + c, by omega⟩ * Ideal.logistic (chanConv h2 h1 h0 W C B ⟨2816 + c, by omega⟩))

/-- One row of the conv FFN with its residual and layer norm, at one lane. -/
def ffnRow (h2 h1 h0 : Fin 1024 → EReal) (W : Fin 1024 → Fin 5632 → EReal) (C : Fin 3 → Fin 5632 → EReal)
    (B : Fin 5632 → EReal) (D : Fin 2816 → Fin 1024 → EReal) (g b : EReal) (n : Fin 1024) : EReal :=
  rowNorm (fun k => alpha * h0 k + rowDot (actCol h2 h1 h0 W C B) (fun c => D c k)) g b n

/-- A case distinction whose cases agree has their common value. -/
theorem dite_same {p : Prop} [Decidable p] (A : p → EReal) (B : ¬p → EReal) (v : EReal) (hA : ∀ h, A h = v)
    (hB : ∀ h, B h = v) : dite p A B = v := by
  by_cases h : p
  · rw [dif_pos h]
    exact hA h
  · rw [dif_neg h]
    exact hB h

/-- The three products of a convolution with its bias, in the other order. -/
theorem conv_comm (a b c d e f g : EReal) : a * b + c * d + e * f + g = f * e + (d * c + b * a) + g := by
  ac_rfl

/-- The row `d` rows before row `s` of batch `b`, the zero row where there is none. -/
def before (X : Fin 8 → Fin 4096 → Fin 1024 → EReal) (d : ℕ) (b : Fin 8) (s : Fin 4096) (k : Fin 1024) : EReal :=
  if _h : d ≤ (s : ℕ) then X b ⟨(s : ℕ) - d, by omega⟩ k else 0

/-- The batch of a row of the flattened array. -/
def bat (R : Fin 32768) : Fin 8 := ⟨R / 4096, by omega⟩

/-- The row within its batch of a row of the flattened array. -/
def pos (R : Fin 32768) : Fin 4096 := ⟨R % 4096, by omega⟩

/-- The conv FFN sublayer at one row of the flattened array and one lane. -/
def ffnOut (X : Fin 8 → Fin 4096 → Fin 1024 → EReal) (W : Fin 1024 → Fin 5632 → EReal) (C : Fin 3 → Fin 5632 → EReal)
    (B : Fin 5632 → EReal) (D : Fin 2816 → Fin 1024 → EReal) (g b : Fin 1024 → EReal) (R : Fin 32768) (n : Fin 1024) : EReal :=
  ffnRow (before X 2 (bat R) (pos R)) (before X 1 (bat R) (pos R)) (X (bat R) (pos R)) W C B D (g n) (b n) n

end Trunk
-- ==== Proof.SguRows.lean ====
module

public import proofs.«01_k».proof.Proof.Rows

/-! The row functions of the chunked spatial gating: the gelu, the normed value rows of a chunk of 128 rows, the causal mix of
    the chunk's value rows by a group's weights, the gated row, and the sublayer's row. -/

@[expose] public section

noncomputable section

namespace Trunk

open Idealize.ShloMosaic

/-- The gelu's one half, as the programs spell it. -/
abbrev gHalf : EReal := Ideal.ofBits .f32 0x3F000000#32

/-- The gelu's cubic coefficient, as the programs spell it. -/
abbrev gCube : EReal := Ideal.ofBits .f32 0x3D372713#32

/-- The gelu's slope, the root of 2/π, as the programs spell it. -/
abbrev gSlope : EReal := Ideal.ofBits .f32 0x3F4C422A#32

/-- One, as the programs spell it. -/
abbrev gOne : EReal := Ideal.ofBits .f32 0x3F800000#32

/-- The gelu in its tanh form. -/
def gelu (z : EReal) : EReal := gHalf * z * (gOne + Ideal.tanh (gSlope * (z + gCube * (z * z * z))))

/-- The gelu with the half taken last. -/
theorem gelu_right (z : EReal) : z * (gHalf * (gOne + Ideal.tanh (gSlope * (z + gCube * (z * z * z))))) = gelu z := by
  rw [gelu, ← mul_assoc, mul_comm z gHalf]

/-- One lane of a row's normed values: the layer norm of the gelu of the row's product with the value weights. -/
def valRow (x : Fin 1024 → EReal) (Wv : Fin 1024 → Fin 1024 → EReal) (ng nb : Fin 1024 → EReal) (j : Fin 1024) : EReal :=
  rowNorm (fun n => gelu (rowDot x fun k => Wv k n)) (ng j) (nb j) j

/-- The causal mix of a chunk's 128 values at row `t`: the weights of the rows up to `t`, zero after. -/
def causalMix (w v : Fin 128 → EReal) (t : Fin 128) : EReal := ∑ k : Fin 128, (if k ≤ t then w k else 0) * v k

/-- The group of 128 lanes a lane lies in. -/
def grp (j : Fin 1024) : Fin 8 := ⟨j / 128, by omega⟩

/-- One lane of a chunk's gated row `t`: the gate times the mixed values plus the bias. -/
def gatedRow (H : Fin 128 → Fin 1024 → EReal) (Wu Wv : Fin 1024 → Fin 1024 → EReal) (ng nb : Fin 1024 → EReal)
    (ws : Fin 8 → Fin 128 → Fin 128 → EReal) (bs : Fin 8 → Fin 128 → EReal) (t : Fin 128) (j : Fin 1024) : EReal :=
  gelu (rowDot (H t) fun k => Wu k j)
    * (causalMix (ws (grp j) t) (fun k => valRow (H k) Wv ng nb j) t + bs (grp j) t)

/-- One row of the spatial gating sublayer with its residual and layer norm, at one lane. -/
def sguRow (H : Fin 128 → Fin 1024 → EReal) (Wu Wv : Fin 1024 → Fin 1024 → EReal) (ng nb : Fin 1024 → EReal)
    (ws : Fin 8 → Fin 128 → Fin 128 → EReal) (bs : Fin 8 → Fin 128 → EReal) (Wo : Fin 1024 → Fin 1024 → EReal)
    (g b : Fin 1024 → EReal) (t : Fin 128) (n : Fin 1024) : EReal :=
  rowNorm (fun k => alpha * H t k + rowDot (gatedRow H Wu Wv ng nb ws bs t) (fun j => Wo j k)) (g n) (b n) n

/-- The chunk of 128 rows in which row `s` of batch `b` lies. -/
def chunk (X : Fin 8 → Fin 4096 → Fin 1024 → EReal) (b : Fin 8) (s : Fin 4096) (k : Fin 128) (j : Fin 1024) : EReal :=
  X b ⟨s / 128 * 128 + k, by omega⟩ j

/-- A row's place in its chunk. -/
def place (s : Fin 4096) : Fin 128 := ⟨s % 128, Nat.mod_lt _ (by decide)⟩

/-- The spatial gating sublayer at one row of the flattened array and one lane. -/
def sguOut (X : Fin 8 → Fin 4096 → Fin 1024 → EReal) (W : Fin 1024 → Fin 2048 → EReal) (ng nb : Fin 1024 → EReal)
    (ws : Fin 8 → Fin 128 → Fin 128 → EReal) (bs : Fin 8 → Fin 128 → EReal) (Wo : Fin 1024 → Fin 1024 → EReal)
    (g b : Fin 1024 → EReal) (R : Fin 32768) (n : Fin 1024) : EReal :=
  sguRow (chunk X (bat R) (pos R)) (fun k j => W k ⟨j, by omega⟩) (fun k j => W k ⟨1024 + j, by omega⟩) ng nb ws bs Wo g b
    (place (pos R)) n

end Trunk
-- ==== Proof.CmpRows.lean ====
module

public import proofs.«01_k».proof.Proof.SguRows

/-! The row functions of the compressed branch's keys and values: a block of thirty-two rows read as two chunks of sixteen, its
    hidden layer, and the sums that take a product over the block's 2048 lanes apart by row. -/

@[expose] public section

noncomputable section

namespace Trunk

open Idealize.ShloMosaic

/-- A row of a chunk of sixteen rows. -/
def crow (n : Fin 256) (l : Fin 16) : Fin 4096 := ⟨l + 16 * n, by omega⟩

/-- The chunk after a chunk, the first after the last. -/
def nextChunk (n : Fin 256) : Fin 256 := ⟨(n + 1) % 256, by omega⟩

/-- One lane of the hidden layer of a block: the gelu of the block's two chunks' rows, each with its position's row added, against
    their position's weights. -/
def cmpHid (X : Fin 4096 → Fin 128 → EReal) (P : Fin 2 → Fin 16 → Fin 128 → EReal) (W : Fin 2 → Fin 16 → Fin 128 → EReal) (n : Fin 256) : EReal :=
  gelu ((∑ l, rowDot (fun d => X (crow n l) d + P 0 l d) (W 0 l)) + ∑ l, rowDot (fun d => X (crow (nextChunk n) l) d + P 1 l d) (W 1 l))

/-- A sum of sixteen terms, added from the left. -/
theorem sum_sixteen (f : Fin 16 → EReal) :
    ∑ l, f l = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

/-- A sum over `a` blocks of `b` terms, block by block. -/
theorem sum_blocks (f : ℕ → EReal) (a b : ℕ) : ∑ k ∈ Finset.range (a * b), f k = ∑ l ∈ Finset.range a, ∑ e ∈ Finset.range b, f (l * b + e) := by
  induction a with
  | zero => simp
  | succ a ih => rw [Nat.succ_mul, Finset.sum_range_add, ih, Finset.sum_range_succ]

/-- A product over a block's 2048 lanes: the first sixteen rows of 64 lanes and the last sixteen. -/
theorem sum_lanes (f : ℕ → EReal) :
    ∑ k : Fin 2048, f k = (∑ l : Fin 16, ∑ e : Fin 64, f (l * 64 + e)) + ∑ l : Fin 16, ∑ e : Fin 64, f (1024 + l * 64 + e) := by
  have h := sum_blocks f 32 64
  rw [Finset.sum_range (n := 32 * 64)] at h
  refine h.trans ?_
  rw [show 32 = 16 + 16 from rfl, Finset.sum_range_add, Finset.sum_range, Finset.sum_range (n := 16)]
  refine congrArg₂ (· + ·) (Finset.sum_congr rfl fun l _ => ?_) (Finset.sum_congr rfl fun l _ => ?_)
  · rw [Finset.sum_range]
  · rw [Finset.sum_range]
    exact Finset.sum_congr rfl fun e _ => congrArg f (by omega)

/-- A row of a block of thirty-two rows that starts every sixteen, past the end from the start. -/
def brow (n : Fin 256) (l : ℕ) : Fin 4096 := ⟨(16 * n + l) % 4096, by omega⟩

/-- The product of a block's 2048 lanes, each with its position's row added, and a lane's weights. -/
def cmpZ (x : Fin 4096 → Fin 64 → EReal) (pe : Fin 32 → Fin 64 → EReal) (w : Fin 2048 → EReal) (n : Fin 256) : EReal :=
  ∑ k : Fin 2048, (x (brow n (k / 64)) ⟨k % 64, by omega⟩ + pe ⟨k / 64, by omega⟩ ⟨k % 64, by omega⟩) * w k

/-- A block's compressed key or value, and the lanes beside it: zeros beside a key, ones beside a value. -/
def cmpOut (x : Fin 4096 → Fin 64 → EReal) (pe : Fin 32 → Fin 64 → EReal) (w1 : Fin 2048 → Fin 128 → EReal) (w2 : Fin 128 → Fin 64 → EReal)
    (kv : Fin 2) (n : Fin 256) (j : Fin 128) : EReal :=
  if h : (j : ℕ) < 64 then rowDot (fun f => gelu (cmpZ x pe (fun k => w1 k f) n)) (fun f => w2 f ⟨j, h⟩) else if (kv : ℕ) = 1 then 1 else 0

/-- A sum over 128 lanes of which only one half counts. -/
theorem sum_half (kv : Fin 2) (f : Fin 128 → EReal) (hf : ∀ d : Fin 128, (d : ℕ) / 64 ≠ kv → f d = 0) :
    ∑ d, f d = ∑ e : Fin 64, f ⟨kv * 64 + e, by omega⟩ := by
  have h := Fin.sum_univ_add (a := 64) (b := 64) f
  refine h.trans ?_
  match kv, hf with
  | 0, hf =>
    rw [Finset.sum_eq_zero (s := Finset.univ) (f := fun i : Fin 64 => f (Fin.natAdd 64 i)), add_zero]
    · exact Finset.sum_congr rfl fun e _ => congrArg f (Fin.ext (by simp))
    · intro i _
      exact hf _ (by simp <;> omega)
  | 1, hf =>
    rw [Finset.sum_eq_zero (s := Finset.univ) (f := fun i : Fin 64 => f (Fin.castAdd 64 i)), zero_add]
    · exact Finset.sum_congr rfl fun e _ => congrArg f (Fin.ext (by simp; omega))
    · intro i _
      exact hf _ (by simp <;> omega)

/-- The hidden layer from the laid out weights, zero across the two halves, is the block's product. -/
theorem cmpHid_eq (kv : Fin 2) (X : Fin 4096 → Fin 128 → EReal) (P : Fin 2 → Fin 16 → Fin 128 → EReal) (W : Fin 2 → Fin 16 → Fin 128 → EReal)
    (x : Fin 4096 → Fin 64 → EReal) (pe : Fin 32 → Fin 64 → EReal) (w : Fin 2048 → EReal)
    (hX : ∀ s (e : Fin 64), X s ⟨kv * 64 + e, by omega⟩ = x s e)
    (hP : ∀ h l (e : Fin 64), P h l ⟨kv * 64 + e, by omega⟩ = pe ⟨h * 16 + l, by omega⟩ e)
    (hW : ∀ h l (e : Fin 64), W h l ⟨kv * 64 + e, by omega⟩ = w ⟨h * 1024 + l * 64 + e, by omega⟩)
    (hW0 : ∀ h l (d : Fin 128), (d : ℕ) / 64 ≠ kv → W h l d = 0) (n : Fin 256) : cmpHid X P W n = gelu (cmpZ x pe w n) := by
  unfold cmpHid
  refine congrArg gelu ?_
  let F : ℕ → EReal := fun k => if h : k < 2048 then (x (brow n (k / 64)) ⟨k % 64, by omega⟩ + pe ⟨k / 64, by omega⟩ ⟨k % 64, by omega⟩) * w ⟨k, h⟩ else 0
  have hF : cmpZ x pe w n = ∑ k : Fin 2048, F k := Finset.sum_congr rfl fun k _ => by
    show _ = dite _ _ _
    rw [dif_pos k.isLt]
  have part : ∀ (h : Fin 2) (l : Fin 16) (s : Fin 4096), s = brow n (h * 16 + l) →
      rowDot (fun d => X s d + P h l d) (W h l) = ∑ e : Fin 64, F (h * 1024 + l * 64 + e) := by
    intro h l s hs
    unfold rowDot
    rw [sum_half kv _ fun d hd => by rw [hW0 h l d hd, mul_zero]]
    refine Finset.sum_congr rfl fun e _ => ?_
    show (X s ⟨kv * 64 + e, by omega⟩ + P h l ⟨kv * 64 + e, by omega⟩) * W h l ⟨kv * 64 + e, by omega⟩ = _
    rw [hX, hP, hW, hs]
    have a1 : ((h : ℕ) * 1024 + l * 64 + e) / 64 = h * 16 + l := by omega
    have a2 : ((h : ℕ) * 1024 + l * 64 + e) % 64 = e := by omega
    refine Eq.trans ?_ (dif_pos (show (h : ℕ) * 1024 + l * 64 + e < 2048 by omega)).symm
    refine congrArg₂ (· * ·) (congrArg₂ (· + ·) (congrArg₂ x (congrArg (brow n) a1.symm) (Fin.ext a2.symm)) (congrArg₂ pe (Fin.ext a1.symm) (Fin.ext a2.symm))) rfl
  rw [hF, sum_lanes]
  refine congrArg₂ (· + ·) (Finset.sum_congr rfl fun l _ => ?_) (Finset.sum_congr rfl fun l _ => ?_)
  · refine (part 0 l _ (Fin.ext ?_)).trans (Finset.sum_congr rfl fun e _ => congrArg F ?_)
    · simp only [crow, brow, Fin.val_zero]
      omega
    · simp only [Fin.val_zero]
      omega
  · refine (part 1 l _ (Fin.ext ?_)).trans (Finset.sum_congr rfl fun e _ => congrArg F ?_)
    · simp only [crow, brow, nextChunk, Fin.val_one]
      omega
    · simp only [Fin.val_one, one_mul]

end Trunk
-- ==== Proof.CmpBody.lean ====
module

public import proofs.«01_k».proof.Proof.Gen.Kernel7Ideal.Value
public import proofs.«01_k».proof.Proof.CmpRows
public import Idealize.ShloMosaic.Lib.Pipeline.ValueKit
public import Idealize.ShloMosaic.Lib.Pipeline.ValueKit.Tiles

/-! The compressed branch's call: what its body leaves in the output block, at an index. -/

@[expose] public section

set_option maxRecDepth 16384

noncomputable section

namespace Cert.Kernel7Ideal.Cmp

open Idealize.ShloMosaic Idealize.ShloMosaic.TcCoe Idealize.SL.Sem
open Cert.Kernel7Ideal Cert.Kernel7Ideal.Gen Trunk

/-- The hidden layer's last step at one block and one lane. -/
theorem hid_at (a b : FVec Ideal S256x256 .f32) (r : FVec Ideal S256x128 .f32) (p : FVec Ideal S256x128 .bf16) (w w' : Vec Ideal S1x1x128x256 .bf16)
    (q : Vec Ideal S1x1x128 .f32) (n c : Fin 256) :
    k0_pay45 a b r p w q w' (ix2 n c) = gelu ((a (ix2 n c) + rowDot (fun d : Fin 128 => p (ix2 n d)) fun d => w (ix4 0 0 d c))
      + (b (ix2 (nextChunk n) c) + rowDot (fun d : Fin 128 => r (ix2 (nextChunk n) d) + q (ix3 0 0 d)) fun d => w' (ix4 0 0 d c))) := by
  have e : (⟨((n : ℕ) + 256 - 255) % 256, by omega⟩ : Fin 256) = nextChunk n := Fin.ext (congrArg (· % 256) (by omega))
  pointwise [k0_pay45, gelu, rowDot, gHalf, gOne, gSlope, gCube]
  simp only [e]

set_option maxHeartbeats 4000000 in
/-- What the body leaves in the output block, at an index: the hidden layer's half against the second weights, and beside the
    values one. -/
theorem out_at (c : Dev nD) (i : grid0.Coords) (arg2 : Memref sig .tc .vmem S1x4096x128 .f32) (harg2 : arg2.IsWhole) (arg3 : Memref sig .tc .vmem S2x16x128 .f32)
    (harg3 : arg3.IsWhole) (arg4 : Memref sig .tc .vmem S2x16x128x256 .bf16) (harg4 : arg4.IsWhole) (arg5 : Memref sig .tc .vmem S2x128x128 .bf16)
    (harg5 : arg5.IsWhole) (arg6 : Memref sig .tc .vmem S1x1x2x256x128 .bf16) (harg6 : arg6.IsWhole)
    (x0 : Vec Ideal S1x4096x128 .f32) (x1 : Vec Ideal S2x16x128 .f32) (x2 : Vec Ideal S2x16x128x256 .bf16) (x3 : Vec Ideal S2x128x128 .bf16)
    (kv : Fin 2) (n : Fin 256) (j : Fin 128) :
    out0_A_4 c i arg2 harg2 arg3 harg3 arg4 harg4 arg5 harg5 arg6 harg6 x0 x1 x2 x3 (ix5 0 0 kv n j)
      = if (kv : ℕ) = 1 ∧ 64 ≤ (j : ℕ) then 1 else
          rowDot (fun f : Fin 128 => cmpHid (fun s d => x0 (ix3 0 s d)) (fun h l d => x1 (ix3 h l d))
            (fun h l d => x2 (ix4 h l d ⟨kv * 128 + f, by omega⟩)) n) (fun f => x3 (ix3 kv f j)) := by
  unfold out0_A_4
  rw [View.read_writes_eq_canon _ _ _ (cover0_A_4 c i arg2 harg2 arg3 harg3 arg4 harg4 arg5 harg5 arg6 harg6 x0 x1 x2 x3)]
  unfold kernelRun0_A
  dsimp only
  sl_unfold_words
  simp only [View.readAt_eq_ld (v := arg3.view), View.readAt_eq_ld (v := arg4.view), View.readAt_eq_ld (v := arg5.view), harg3.read_unread, harg4.read_unread,
    harg5.read_unread]
  canon_tiles z h
  all_goals
    idx_vars z
  · obtain rfl : kv = 1 := Fin.ext (by omega)
    obtain rfl : n = z3 := Fin.ext h3
    obtain rfl : j = z4 := Fin.ext h4
    have hb : ∀ k : Fin 128, IntOp.cmpi .sge (BitVec.ofNat 32 (k : ℕ)) 64#32 = if 64 ≤ (k : ℕ) then 1#1 else 0#1 := by decide +kernel
    by_cases hj : 64 ≤ (j : ℕ)
    · rw [if_pos ⟨rfl, hj⟩]
      pointwise [k0_pay2, hb, hj]
    · rw [if_neg fun h => hj h.2]
      simp only [cmpHid, sum_sixteen]
      pointwise [k0_pay2, hb, hj, hid_at, rowDot, crow, View.readAt_apply, harg2.read_unread, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
  · obtain rfl : kv = 0 := Fin.ext (by omega)
    obtain rfl : n = z3 := Fin.ext h3
    obtain rfl : j = z4 := Fin.ext h4
    rw [if_neg fun h => absurd h.1 (by decide)]
    simp only [cmpHid, sum_sixteen]
    pointwise [k0_pay1, k0_pay46, hid_at, rowDot, crow, View.readAt_apply, harg2.read_unread, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]

end Cert.Kernel7Ideal.Cmp
-- ==== Proof.CmpValue.lean ====
module

public import proofs.«01_k».proof.Proof.CmpBody

/-! The compressed branch's call: the arrays it is given, read from the program's arguments, and the array it writes. -/

@[expose] public section

set_option maxRecDepth 16384

noncomputable section

namespace Cert.Kernel7Ideal.Cmp

open Idealize.ShloMosaic Idealize.ShloMosaic.TcCoe Idealize.SL.Sem
open Cert.Kernel7Ideal Cert.Kernel7Ideal.Gen Trunk

variable (m : (ℓ : Loc nD τ sig) → Buf (Elt Ideal) ℓ)

/-- Each window's block index at each grid point. -/
theorem idx : ∀ t : Fin cfg0.N, win0_0.index t = ![t.val / 2, 0, t.val % 2] ∧ win0_1.index t = ![0, 0, 0] ∧ win0_2.index t = ![0, 0, 0, 0]
    ∧ win0_3.index t = ![0, 0, 0] ∧ win0_4.index t = ![t.val / 2, t.val % 2, 0, 0, 0] :=
  (by decide +kernel : ∀ t : Fin grid0.N, _)

/-- Three equal coordinates are one index. -/
theorem congr3 {n₁ n₂ n₃ : ℕ} {i i' : Fin n₁} {j j' : Fin n₂} {k k' : Fin n₃} (hi : i = i') (hj : j = j') (hk : k = k') :
    (ix3 i j k : (⟨3, ![n₁, n₂, n₃]⟩ : Shape).Idx) = ix3 i' j' k' := by
  rw [hi, hj, hk]

/-- The argument's rows, batch by batch. -/
theorem rows_at (c : Dev nD) (b : Fin 8) (s : Fin 4096) (k : Fin 256) :
    V m c main_v0 (ix3 b s k) = m ((c : Thread nD τ).loc main_arg0) (ix2 ⟨b * 4096 + s, by omega⟩ k) := by
  simp only [V, hostOps0, hostOps0_1, hostOps0_2, List.flatten_cons, List.flatten_nil, List.append_nil, List.cons_append, List.nil_append]
  entry_read
  pointwise []

/-- The positions' rows laid out by half. -/
theorem pe_at (c : Dev nD) (h kv : Fin 2) (l : Fin 16) (e : Fin 64) :
    V m c main_v3 (ix3 h l ⟨kv * 64 + e, by omega⟩) = m ((c : Thread nD τ).loc main_arg1) (ix3 kv ⟨h * 16 + l, by omega⟩ e) := by
  simp only [V, hostOps0, hostOps0_1, hostOps0_2, List.flatten_cons, List.flatten_nil, List.append_nil, List.cons_append, List.nil_append]
  entry_read
  pointwise []

/-- The first weights laid out by half, zero across. -/
theorem w_at (c : Dev nD) (h : Fin 2) (l : Fin 16) (d : Fin 128) (k : Fin 256) :
    V m c main_v15 (ix4 h l d k) = if (d : ℕ) / 64 = k / 128 then
      m ((c : Thread nD τ).loc main_arg2) (ix3 ⟨k / 128, by omega⟩ ⟨h * 1024 + l * 64 + d % 64, by omega⟩ ⟨k % 128, by omega⟩) else (0 : EReal) := by
  simp only [V, hostOps0, hostOps0_1, hostOps0_2, List.flatten_cons, List.flatten_nil, List.append_nil, List.cons_append, List.nil_append]
  entry_read
  by_cases h1 : (d : ℕ) < 64 <;> by_cases h2 : (k : ℕ) < 128
  all_goals
    pointwise [h1, h2]
  · refine Eq.trans ?_ (if_pos (by omega)).symm
    refine congrArg (m (c, Proc.tc.devRef main_arg2)) (congr3 (Fin.ext ?_) (Fin.ext ?_) (Fin.ext ?_)) <;> simp only [Fin.val_zero] <;> omega
  · exact (if_neg (by omega)).symm
  · exact (if_neg (by omega)).symm
  · refine Eq.trans ?_ (if_pos (by omega)).symm
    refine congrArg (m (c, Proc.tc.devRef main_arg2)) (congr3 (Fin.ext ?_) (Fin.ext ?_) (Fin.ext ?_)) <;> simp only [Fin.val_one] <;> omega

/-- An array padded by zeros to 128 lanes. -/
theorem padded (x : FVec Ideal S2x128x64 .f32) (kv : Fin 2) (f j : Fin 128) :
    pad S2x128x128 ![0, 0, 0] ![0, 0, 64] ![0, 0, 0] x (sitofp (F := Ideal) FTy.f32 (constantI S_ 32 0#32)) pads_S2x128x64_S2x128x128_000_000_0640 h_S_ (ix3 kv f j)
      = if h : (j : ℕ) < 64 then x (ix3 kv f ⟨j, h⟩) else (0 : EReal) := by
  by_cases h1 : (j : ℕ) < 64
  all_goals pointwise [h1]
  simp [FloatOps.sitofp]

/-- The second weights, padded. -/
theorem w2_at (c : Dev nD) (kv : Fin 2) (f j : Fin 128) :
    V m c main_v17 (ix3 kv f j) = if h : (j : ℕ) < 64 then m ((c : Thread nD τ).loc main_arg3) (ix3 kv f ⟨j, h⟩) else (0 : EReal) := by
  simp only [V, hostOps0, hostOps0_1, hostOps0_2, List.flatten_cons, List.flatten_nil, List.append_nil, List.cons_append, List.nil_append]
  entry_read
  exact padded _ kv f j

/-- A block of the rows. -/
theorem blk0 (c : Dev nD) (t : Fin cfg0.N) (s : Fin 4096) (d : Fin 128) (b : Fin 8) (g : Fin 2) (hb : (b : ℕ) = t.val / 2) (hg : (g : ℕ) = t.val % 2) :
    iblk m c 0 t (ix3 0 s d) = m ((c : Thread nD τ).loc main_arg0) (ix2 ⟨b * 4096 + s, by omega⟩ ⟨g * 128 + d, by omega⟩) := by
  refine Eq.trans ?_ (rows_at m c b s ⟨g * 128 + d, by omega⟩)
  have ht : t.val < 16 := t.isLt
  blk_ext [iblk, idx t]
  all_goals omega

/-- The positions' block is the whole array. -/
theorem blk1 (c : Dev nD) (t : Fin cfg0.N) (h : Fin 2) (l : Fin 16) (d : Fin 128) : iblk m c 1 t (ix3 h l d) = V m c main_v3 (ix3 h l d) := by
  blk_ext [iblk, idx t]

/-- The first weights' block is the whole array. -/
theorem blk2 (c : Dev nD) (t : Fin cfg0.N) (h : Fin 2) (l : Fin 16) (d : Fin 128) (k : Fin 256) :
    iblk m c 2 t (ix4 h l d k) = V m c main_v15 (ix4 h l d k) := by
  blk_ext [iblk, idx t]

/-- The second weights' block is the whole array. -/
theorem blk3 (c : Dev nD) (t : Fin cfg0.N) (kv : Fin 2) (f j : Fin 128) : iblk m c 3 t (ix3 kv f j) = V m c main_v17 (ix3 kv f j) := by
  blk_ext [iblk, idx t]

/-- The array the call writes: each batch's and group's compressed keys and values. -/
def G (c : Dev nD) : S8x2x2x256x128.Idx → EReal := fun y =>
  cmpOut (fun s e => m ((c : Thread nD τ).loc main_arg0) (ix2 ⟨(y 0 : ℕ) * 4096 + s, by have h : (y 0 : ℕ) < 8 := (y 0).isLt; omega⟩
      ⟨(y 1 : ℕ) * 128 + ((y 2 : ℕ) * 64 + e), by have h : (y 1 : ℕ) < 2 := (y 1).isLt; have h' : (y 2 : ℕ) < 2 := (y 2).isLt; omega⟩))
    (fun p e => m ((c : Thread nD τ).loc main_arg1) (ix3 (y 2) p e)) (fun k f => m ((c : Thread nD τ).loc main_arg2) (ix3 (y 2) k f))
    (fun f e => m ((c : Thread nD τ).loc main_arg3) (ix3 (y 2) f e)) (y 2) (y 3) (y 4)

/-- The block a grid point writes. -/
theorem point (c : Dev nD) (t : Fin cfg0.N) (kv : Fin 2) (n : Fin 256) (j : Fin 128) (b : Fin 8) (g : Fin 2) (hb : (b : ℕ) = t.val / 2)
    (hg : (g : ℕ) = t.val % 2) : outsAt0 m c t (ix5 0 0 kv n j) = G m c (ix5 b g kv n j) := by
  unfold outsAt0
  refine (out_at c _ _ _ _ _ _ _ _ _ _ _ _ _ _ _ kv n j).trans ?_
  show _ = cmpOut (fun s e => m ((c : Thread nD τ).loc main_arg0) (ix2 ⟨(b : ℕ) * 4096 + s, by omega⟩ ⟨(g : ℕ) * 128 + ((kv : ℕ) * 64 + e), by omega⟩))
    (fun p e => m ((c : Thread nD τ).loc main_arg1) (ix3 kv p e)) (fun k f => m ((c : Thread nD τ).loc main_arg2) (ix3 kv k f))
    (fun f e => m ((c : Thread nD τ).loc main_arg3) (ix3 kv f e)) kv n j
  unfold cmpOut
  by_cases hj : (j : ℕ) < 64
  · refine (if_neg (by omega)).trans (Eq.trans ?_ (dif_pos hj).symm)
    refine congrArg₂ rowDot (funext fun f => ?_) (funext fun f => ?_)
    · refine cmpHid_eq kv _ _ _ _ _ _ (fun s e => ?_) (fun h l e => ?_) (fun h l e => ?_) (fun h l d hd => ?_) n
      · exact blk0 m c t s _ b g hb hg
      · exact (blk1 m c t h l _).trans (pe_at m c h kv l e)
      · refine (blk2 m c t h l _ _).trans ((w_at m c h l _ _).trans ((if_pos ?_).trans ?_))
        · show ((kv : ℕ) * 64 + e) / 64 = ((kv : ℕ) * 128 + f) / 128
          omega
        · refine congrArg (m ((c : Thread nD τ).loc main_arg2)) (congr3 (Fin.ext ?_) (Fin.ext ?_) (Fin.ext ?_))
          · show ((kv : ℕ) * 128 + f) / 128 = kv
            omega
          · show (h : ℕ) * 1024 + l * 64 + ((kv : ℕ) * 64 + e) % 64 = h * 1024 + l * 64 + e
            omega
          · show ((kv : ℕ) * 128 + f) % 128 = f
            omega
      · refine (blk2 m c t h l _ _).trans ((w_at m c h l _ _).trans (if_neg ?_))
        show ¬(d : ℕ) / 64 = ((kv : ℕ) * 128 + f) / 128
        omega
    · exact (blk3 m c t kv f j).trans ((w2_at m c kv f j).trans (dif_pos hj))
  · refine Eq.trans ?_ (dif_neg hj).symm
    by_cases hk : (kv : ℕ) = 1
    · exact (if_pos ⟨hk, by omega⟩).trans (if_pos hk).symm
    · refine (if_neg (by omega)).trans (Eq.trans ?_ (if_neg hk).symm)
      refine Finset.sum_eq_zero fun f _ => ?_
      have h0 : iblk m c 3 t (ix3 kv f j) = (0 : EReal) := (blk3 m c t kv f j).trans ((w2_at m c kv f j).trans (dif_neg hj))
      show _ * iblk m c 3 t (ix3 kv f j) = (0 : EReal)
      rw [h0, mul_zero]

/-- The array after the call. -/
theorem final (c : Dev nD) : (dats m 0 c).arrAt 4 cfg0.N = G m c := by
  refine (dats m 0 c).arrAt_eq_of_covers 4 _ (by decide +kernel) fun t _ y => ?_
  blk_simp
  rw [after0_4]
  idx_vars y
  have ht : t.val < 16 := t.isLt
  have e0 : y0 = 0 := Subsingleton.elim _ _
  have e1 : y1 = 0 := Subsingleton.elim _ _
  subst e0 e1
  refine (point m c t y2 y3 y4 ⟨t.val / 2, by omega⟩ ⟨t.val % 2, by omega⟩ rfl rfl).trans (congrArg (G m c) ?_)
  symm
  blk_ext [idx t]

end Cert.Kernel7Ideal.Cmp
-- ==== Proof.CmpRef.lean ====
module

public import proofs.«01_k».proof.Proof.CmpRows
public import proofs.«01_k».proof.Proof.Gen.Reference7Ideal.Read

/-! The compressed branch's reference read at one batch, group, half, block and lane. -/

@[expose] public section

set_option maxRecDepth 16384

noncomputable section

namespace Cert.Reference7Ideal.Cmp

open Idealize.ShloMosaic Idealize.ShloMosaic.TcCoe Idealize.SL.Sem
open Cert.Reference7Ideal Cert.Reference7Ideal.Read Trunk

variable (x0 : FVec Ideal S32768x256 .f32) (x1 : FVec Ideal S2x32x64 .f32) (x2 : FVec Ideal S2x2048x128 .f32) (x3 : FVec Ideal S2x128x64 .f32)

/-- Whole rows taken by a table of row numbers: the row is the table's word, kept within the array. -/
theorem gathered (x : S8x4096x2x2x64.Idx → EReal) (tbl : IVec S256x32x1 32) (b : Fin 8) (n : Fin 256) (l : Fin 32) (k g : Fin 2) (e : Fin 64) :
    Host.gather gather_S8x4096x2x2x64_S256x32x1_S8x256x32x2x2x64_0345_1_n_n_1_2_812264 x tbl (ix6 b n l k g e)
      = x (ix5 b ⟨min (tbl (ix3 n l 0)).toInt.toNat 4095, by omega⟩ k g e) := by
  unfold Host.gather
  refine congrArg x (funext fun a => Fin.ext ?_)
  show GatherDims.start _ _ tbl a + GatherDims.batchCoord _ _ a + GatherDims.offCoord _ _ a = _
  rw [GatherDims.batchCoord_eq_zero _ _ _ (List.not_mem_nil (a := a))]
  match a with
  | ⟨0, h⟩ =>
    unfold GatherDims.start GatherDims.offCoord
    rw [dif_neg (show (⟨0, h⟩ : Fin S8x4096x2x2x64.rank) ∉ GatherDims.startIndexMap gather_S8x4096x2x2x64_S256x32x1_S8x256x32x2x2x64_0345_1_n_n_1_2_812264 from (by decide : (0 : Fin S8x4096x2x2x64.rank) ∉ GatherDims.startIndexMap gather_S8x4096x2x2x64_S256x32x1_S8x256x32x2x2x64_0345_1_n_n_1_2_812264)), dif_pos (show (⟨0, h⟩ : Fin S8x4096x2x2x64.rank) ∈ GatherDims.sKept gather_S8x4096x2x2x64_S256x32x1_S8x256x32x2x2x64_0345_1_n_n_1_2_812264 from (by decide : (0 : Fin S8x4096x2x2x64.rank) ∈ GatherDims.sKept gather_S8x4096x2x2x64_S256x32x1_S8x256x32x2x2x64_0345_1_n_n_1_2_812264))]
    exact (Nat.zero_add _).trans rfl
  | ⟨1, h⟩ =>
    unfold GatherDims.start GatherDims.offCoord
    rw [dif_pos (show (⟨1, h⟩ : Fin S8x4096x2x2x64.rank) ∈ GatherDims.startIndexMap gather_S8x4096x2x2x64_S256x32x1_S8x256x32x2x2x64_0345_1_n_n_1_2_812264 from (by decide : (1 : Fin S8x4096x2x2x64.rank) ∈ GatherDims.startIndexMap gather_S8x4096x2x2x64_S256x32x1_S8x256x32x2x2x64_0345_1_n_n_1_2_812264)), dif_neg (show (⟨1, h⟩ : Fin S8x4096x2x2x64.rank) ∉ GatherDims.sKept gather_S8x4096x2x2x64_S256x32x1_S8x256x32x2x2x64_0345_1_n_n_1_2_812264 from (by decide : (1 : Fin S8x4096x2x2x64.rank) ∉ GatherDims.sKept gather_S8x4096x2x2x64_S256x32x1_S8x256x32x2x2x64_0345_1_n_n_1_2_812264))]
    refine congrArg (fun w : BitVec 32 => min w.toInt.toNat 4095) (congrArg tbl (funext fun q => Fin.ext ?_))
    match q with
    | ⟨0, _⟩ => rfl
    | ⟨1, _⟩ => rfl
    | ⟨2, _⟩ => rfl
  | ⟨2, h⟩ =>
    unfold GatherDims.start GatherDims.offCoord
    rw [dif_neg (show (⟨2, h⟩ : Fin S8x4096x2x2x64.rank) ∉ GatherDims.startIndexMap gather_S8x4096x2x2x64_S256x32x1_S8x256x32x2x2x64_0345_1_n_n_1_2_812264 from (by decide : (2 : Fin S8x4096x2x2x64.rank) ∉ GatherDims.startIndexMap gather_S8x4096x2x2x64_S256x32x1_S8x256x32x2x2x64_0345_1_n_n_1_2_812264)), dif_pos (show (⟨2, h⟩ : Fin S8x4096x2x2x64.rank) ∈ GatherDims.sKept gather_S8x4096x2x2x64_S256x32x1_S8x256x32x2x2x64_0345_1_n_n_1_2_812264 from (by decide : (2 : Fin S8x4096x2x2x64.rank) ∈ GatherDims.sKept gather_S8x4096x2x2x64_S256x32x1_S8x256x32x2x2x64_0345_1_n_n_1_2_812264))]
    exact (Nat.zero_add _).trans rfl
  | ⟨3, h⟩ =>
    unfold GatherDims.start GatherDims.offCoord
    rw [dif_neg (show (⟨3, h⟩ : Fin S8x4096x2x2x64.rank) ∉ GatherDims.startIndexMap gather_S8x4096x2x2x64_S256x32x1_S8x256x32x2x2x64_0345_1_n_n_1_2_812264 from (by decide : (3 : Fin S8x4096x2x2x64.rank) ∉ GatherDims.startIndexMap gather_S8x4096x2x2x64_S256x32x1_S8x256x32x2x2x64_0345_1_n_n_1_2_812264)), dif_pos (show (⟨3, h⟩ : Fin S8x4096x2x2x64.rank) ∈ GatherDims.sKept gather_S8x4096x2x2x64_S256x32x1_S8x256x32x2x2x64_0345_1_n_n_1_2_812264 from (by decide : (3 : Fin S8x4096x2x2x64.rank) ∈ GatherDims.sKept gather_S8x4096x2x2x64_S256x32x1_S8x256x32x2x2x64_0345_1_n_n_1_2_812264))]
    exact (Nat.zero_add _).trans rfl
  | ⟨4, h⟩ =>
    unfold GatherDims.start GatherDims.offCoord
    rw [dif_neg (show (⟨4, h⟩ : Fin S8x4096x2x2x64.rank) ∉ GatherDims.startIndexMap gather_S8x4096x2x2x64_S256x32x1_S8x256x32x2x2x64_0345_1_n_n_1_2_812264 from (by decide : (4 : Fin S8x4096x2x2x64.rank) ∉ GatherDims.startIndexMap gather_S8x4096x2x2x64_S256x32x1_S8x256x32x2x2x64_0345_1_n_n_1_2_812264)), dif_pos (show (⟨4, h⟩ : Fin S8x4096x2x2x64.rank) ∈ GatherDims.sKept gather_S8x4096x2x2x64_S256x32x1_S8x256x32x2x2x64_0345_1_n_n_1_2_812264 from (by decide : (4 : Fin S8x4096x2x2x64.rank) ∈ GatherDims.sKept gather_S8x4096x2x2x64_S256x32x1_S8x256x32x2x2x64_0345_1_n_n_1_2_812264))]
    exact (Nat.zero_add _).trans rfl

/-- The table's word: the block's row, past the end from the start. -/
theorem word_at (n : Fin 256) (l : Fin 32) : (val_main_v17 (F := Ideal) (ix3 n l 0)).toInt.toNat = (16 * (n : ℕ) + l) % 4096 := by
  pointwise [val_main_v17, val_main_v16, val_main_v15, val_main_v14, val_main_v13, val_main_v12, val_main_v11, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_call0_v12, val_main_call0_v13, val_main_call0_v14, val_main_call0_c, val_main_call0_c_0, val_main_call0_c_1, val_main_call0_c_2, val_main_call0_c_3, val_main_c, val_main_c_0, val_main_c_1, val_main_c_2, val_main_v10, val_main_v9, val_main_v8, val_main_v7, val_main_v6, val_main_v5, val_main_v4, val_main_v3, val_main_v2, id_eq]
  revert n l
  decide +kernel

/-- A block's row, its position's row added. -/
theorem block_at (b : Fin 8) (k g : Fin 2) (n : Fin 256) (l : Fin 32) (e : Fin 64) :
    val_main_v23 (F := Ideal) x0 x1 (ix6 b k g n l e) = x0 (ix2 ⟨b * 4096 + brow n l, by omega⟩ ⟨g * 128 + (k * 64 + e), by omega⟩) + x1 (ix3 k l e) := by
  pointwise [val_main_v23, val_main_v22, val_main_v21, val_main_v20, val_main_v19, val_main_v18]
  rw [gathered]
  pointwise [val_main_v1, val_main_v0]
  refine congrArg (fun y => y + x1 (ix3 k l e)) (congrArg x0 ?_)
  have hw := word_at n l
  refine congrArg₂ ix2 (Fin.ext ?_) (Fin.ext ?_)
  · show (b : ℕ) * 4096 + min (val_main_v17 (F := Ideal) (ix3 n l 0)).toInt.toNat 4095 = b * 4096 + (16 * (n : ℕ) + l) % 4096
    omega
  · show (g : ℕ) * 128 + k * 64 + e = g * 128 + (k * 64 + e)
    omega

/-- A block's lanes. -/
theorem lanes_at (b : Fin 8) (k g : Fin 2) (n : Fin 256) (p : Fin 2048) :
    val_main_v24 (F := Ideal) x0 x1 (ix5 b k g n p) = x0 (ix2 ⟨b * 4096 + brow n (p / 64), by omega⟩ ⟨g * 128 + (k * 64 + p % 64), by omega⟩)
      + x1 (ix3 k ⟨p / 64, by omega⟩ ⟨p % 64, by omega⟩) := by
  pointwise [val_main_v24]
  exact block_at x0 x1 b k g n ⟨p / 64, by omega⟩ ⟨p % 64, by omega⟩

/-- The hidden layer before its gelu. -/
theorem pre_at (b : Fin 8) (k g : Fin 2) (n : Fin 256) (f : Fin 128) :
    val_main_v26 (F := Ideal) x0 x1 x2 (ix5 b k g n f) = cmpZ (fun s e => x0 (ix2 ⟨b * 4096 + s, by omega⟩ ⟨g * 128 + (k * 64 + e), by omega⟩))
      (fun p e => x1 (ix3 k p e)) (fun p => x2 (ix3 k p f)) n := by
  rw [val_main_v26_apply, val_main_v25_apply]
  unfold cmpZ
  refine Finset.sum_congr rfl fun p _ => ?_
  refine (mul_comm _ _).trans (congrArg₂ (· * ·) ?_ ?_)
  · refine Eq.trans (congrArg (val_main_v24 (F := Ideal) x0 x1) ?_) (lanes_at x0 x1 b k g n p)
    funext a
    match a with
    | ⟨0, _⟩ => rfl
    | ⟨1, _⟩ => rfl
    | ⟨2, _⟩ => rfl
    | ⟨3, _⟩ => rfl
    | ⟨4, _⟩ => rfl
  · refine congrArg x2 (funext fun a => ?_)
    match a with
    | ⟨0, _⟩ => rfl
    | ⟨1, _⟩ => rfl
    | ⟨2, _⟩ => rfl

/-- The hidden layer. -/
theorem hid_at (b : Fin 8) (k g : Fin 2) (n : Fin 256) (f : Fin 128) :
    val_main_v39 (F := Ideal) x0 x1 x2 (ix5 b k g n f) = gelu (cmpZ (fun s e => x0 (ix2 ⟨b * 4096 + s, by omega⟩ ⟨g * 128 + (k * 64 + e), by omega⟩))
      (fun p e => x1 (ix3 k p e)) (fun p => x2 (ix3 k p f)) n) := by
  rw [← pre_at x0 x1 x2 b k g n f, ← gelu_right]
  rfl

/-- The compressed rows. -/
theorem out_at (b : Fin 8) (k g : Fin 2) (n : Fin 256) (j : Fin 64) :
    val_main_v41 (F := Ideal) x0 x1 x2 x3 (ix5 b k g n j) = rowDot (fun f => gelu (cmpZ (fun s e => x0 (ix2 ⟨b * 4096 + s, by omega⟩ ⟨g * 128 + (k * 64 + e), by omega⟩))
      (fun p e => x1 (ix3 k p e)) (fun p => x2 (ix3 k p f)) n)) (fun f => x3 (ix3 k f j)) := by
  rw [val_main_v41_apply, val_main_v40_apply]
  unfold rowDot
  refine Finset.sum_congr rfl fun f _ => ?_
  refine (mul_comm _ _).trans (congrArg₂ (· * ·) ?_ ?_)
  · refine Eq.trans (congrArg (val_main_v39 (F := Ideal) x0 x1 x2) ?_) (hid_at x0 x1 x2 b k g n f)
    funext a
    match a with
    | ⟨0, _⟩ => rfl
    | ⟨1, _⟩ => rfl
    | ⟨2, _⟩ => rfl
    | ⟨3, _⟩ => rfl
    | ⟨4, _⟩ => rfl
  · refine congrArg x3 (funext fun a => ?_)
    match a with
    | ⟨0, _⟩ => rfl
    | ⟨1, _⟩ => rfl
    | ⟨2, _⟩ => rfl

/-- The reference's result. -/
theorem ref_at (b : Fin 8) (g k : Fin 2) (n : Fin 256) (j : Fin 128) :
    val_main_v49 (F := Ideal) x0 x1 x2 x3 (ix5 b g k n j) = cmpOut (fun s e => x0 (ix2 ⟨b * 4096 + s, by omega⟩ ⟨g * 128 + (k * 64 + e), by omega⟩))
      (fun p e => x1 (ix3 k p e)) (fun p f => x2 (ix3 k p f)) (fun f e => x3 (ix3 k f e)) k n j := by
  unfold cmpOut
  by_cases hj : (j : ℕ) < 64
  · refine Eq.trans ?_ (dif_pos hj).symm
    pointwise [val_main_v49, val_main_v48, val_main_v47, hj]
    exact out_at x0 x1 x2 x3 b k g n ⟨j, hj⟩
  · refine Eq.trans ?_ (dif_neg hj).symm
    by_cases hk : (k : ℕ) < 1
    · refine Eq.trans ?_ (if_neg (by omega)).symm
      pointwise [val_main_v49, val_main_v48, val_main_v47, val_main_v46, val_main_v44, val_main_v42, val_main_cst_6, hj, hk]
    · refine Eq.trans ?_ (if_pos (by omega)).symm
      pointwise [val_main_v49, val_main_v48, val_main_v47, val_main_v46, val_main_v45, val_main_v43, val_main_cst_7, hj, hk]

end Cert.Reference7Ideal.Cmp
-- ==== Proof.CmpClaim.lean ====
module

public import proofs.«01_k».proof.Proof.CmpValue
public import proofs.«01_k».proof.Proof.CmpRef
public import proofs.«01_k».proof.Proof.Gen.Reference7Ideal.Run
public import proofs.«01_k».proof.Defs
public import Idealize.ShloMosaic.Lib.Quiescent

/-! The compressed branch's call and its reference end with equal results. -/

@[expose] public section

noncomputable section

namespace Trunk

open Idealize.ShloMosaic Idealize.ShloMosaic.TcCoe Idealize.SL.Sem

/-- The reference of the compressed branch runs, keeps its arguments and leaves every counter at zero. -/
theorem cmp_ref_frame [Cert.Reference7Ideal.Facts] : Cert.quiescent_Reference7Ideal := fun m ρ _ =>
  (θ_run _ _ _).mono (fun r h => ⟨fun c => (h c).2, sem_eq_zero_of_no_sems rfl r.2⟩) (Cert.Reference7Ideal.Value.run m ρ)

/-- From equal arguments, the compressed branch's call and its reference end with equal results. -/
theorem cmp_algebraic [Cert.Kernel7Ideal.Facts] [Cert.Reference7Ideal.Facts] : Cert.algebraic_Kernel7Ideal_Reference7Ideal :=
  fun m ρ m' ρ' _ hag => ⟨fun c => Cert.Kernel7Ideal.Cmp.G m c,
    (θ_run _ _ _).mono (fun _ h c => ⟨(h c).1.trans (Cert.Kernel7Ideal.Cmp.final m c), (h c).2⟩) (Cert.Kernel7Ideal.Value.run_blocks m ρ),
    (θ_run _ _ _).mono (fun _ h c => ⟨(h c).1.trans (by
      obtain ⟨e0, e1, e2, e3⟩ := hag c
      rw [Cert.Reference7Ideal.Read.val_main_v49_eq, e0, e1, e2, e3]
      funext y
      idx_vars y
      exact Cert.Reference7Ideal.Cmp.ref_at _ _ _ _ y0 y1 y2 y3 y4), (h c).2⟩) (Cert.Reference7Ideal.Value.run m' ρ')⟩

end Trunk
-- ==== Proof.SguBody.lean ====
module

public import proofs.«01_k».proof.Proof.Gen.KernelIdeal.Frame
public import proofs.«01_k».proof.Proof.SguRows
public import Idealize.ShloMosaic.Lib.Pipeline.ValueKit
public import Idealize.ShloMosaic.Lib.Pipeline.ReadBack

/-! The spatial gating's body, half by half: the gates, the normed values, the causal mix of the chunks group by group through the
    scratch, the gated rows and their projection, each read at one row and one lane. -/

@[expose] public section

set_option maxRecDepth 16384

noncomputable section

namespace Cert.KernelIdeal.Sgu

open Idealize.ShloMosaic Idealize.ShloMosaic.TcCoe Idealize.SL.Sem
open Cert.KernelIdeal Cert.KernelIdeal.Gen Trunk

/-- The normed values of a half block of 512 rows. -/
def vals (x : Vec Ideal S512x1024 .f32) (wv : Vec Ideal S1024x1024 .bf16) (ng nb : Vec Ideal S1x1024 .f32) :
    FVec Ideal S512x1024 .bf16 :=
  k0_pay8 (k0_pay5 x wv) (k0_pay6 ng) (k0_pay7 nb)

/-- The gated rows of a half block, from its four chunks' mixed values. -/
def gated (x : Vec Ideal S512x1024 .f32) (wu : Vec Ideal S1024x1024 .bf16) (bias T0 T1 T2 T3 : Vec Ideal S128x1024 .f32) :
    FVec Ideal S512x1024 .bf16 :=
  k0_pay63 (k0_pay4 x wu) (k0_pay59 bias) (k0_pay60 (k0_pay4 x wu) bias T0) (k0_pay61 (k0_pay4 x wu) bias T1)
    (k0_pay62 (k0_pay4 x wu) bias T2) T3

/-- The result rows of a half block, from its four chunks' mixed values. -/
def outHalf (x : Vec Ideal S512x1024 .f32) (wu : Vec Ideal S1024x1024 .bf16) (bias : Vec Ideal S128x1024 .f32)
    (wo : Vec Ideal S1024x1024 .bf16) (g b : Vec Ideal S1x1024 .f32) (T0 T1 T2 T3 : Vec Ideal S128x1024 .f32) :
    FVec Ideal S512x1024 .f32 :=
  k0_pay124 (k0_pay121 (k0_pay2 x) (k0_pay70 (gated x wu bias T0 T1 T2 T3) wo)) (k0_pay122 g) (k0_pay123 b)

/-- The causal mix of four chunks' 128 lanes side by side. -/
def mixMat (w : Vec Ideal S1x128x128 .f32) (a b c d : FVec Ideal S128x128 .bf16) : FVec Ideal S128x512 .f32 :=
  matmul dot_S128x128_S128x512_S128x512_1_0_0_1_n_n none (k0_pay14 w)
    (concatenate S128x512 1 [⟨S128x128, a⟩, ⟨S128x128, b⟩, ⟨S128x128, c⟩, ⟨S128x128, d⟩]
      concatenates_S128x128_S128x128_S128x128_S128x128_S128x512_d1)
    (constant S128x512 .f32 0x00000000#32)

/-- One chunk's mixed values of one group of lanes, as they are stored. -/
def tile (V : FVec Ideal S512x1024 .bf16) (w : Vec Ideal S1x128x128 .f32) (o p : ℕ)
    (h0 : S512x1024.Slices ![0, o] S128x128) (h1 : S512x1024.Slices ![128, o] S128x128)
    (h2 : S512x1024.Slices ![256, o] S128x128) (h3 : S512x1024.Slices ![384, o] S128x128)
    (hp : S128x512.Slices ![0, p] S128x128) : FVec Ideal S128x128 .f32 :=
  shapeCast S128x128
    (extractStridedSlice S128x128 ![0, p]
      (mixMat w (extractStridedSlice S128x128 ![0, o] V h0) (extractStridedSlice S128x128 ![128, o] V h1)
        (extractStridedSlice S128x128 ![256, o] V h2) (extractStridedSlice S128x128 ![384, o] V h3)) hp)
    shapeCasts_S128x128_S128x128

/-- The mask's test, as the row test. -/
theorem mask_at : ∀ k t : Fin 128, IntOp.cmpi .sle (BitVec.ofNat 32 k) (BitVec.ofNat 32 t) = if k ≤ t then 1#1 else 0#1 := by
  decide +kernel

/-- The masked weights at one row and one column. -/
theorem masked_at (w : Vec Ideal S1x128x128 .f32) (t k : Fin 128) :
    k0_pay14 (F := Ideal) w (ix2 t k) = if k ≤ t then w (ix3 0 t k) else 0 := by
  pointwise [k0_pay14, k0_pay13]
  rw [mask_at]
  split_ifs
  · rfl
  · rfl

/-- A half block's normed values at one row and one lane. -/
theorem vals_at (x : Vec Ideal S512x1024 .f32) (wv : Vec Ideal S1024x1024 .bf16) (ng nb : Vec Ideal S1x1024 .f32)
    (r : Fin 512) (j : Fin 1024) :
    vals x wv ng nb (ix2 r j)
      = valRow (fun k => x (ix2 r k)) (fun k n => wv (ix2 k n)) (fun n => ng (ix2 0 n)) (fun n => nb (ix2 0 n)) j := by
  have hz : ∀ n : Fin 1024, k0_pay5 (F := Ideal) x wv (ix2 r n) = gelu (rowDot (fun k => x (ix2 r k)) fun k => wv (ix2 k n)) := by
    intro n
    pointwise [k0_pay5, k0_pay3, k0_pay2, gelu, rowDot, gHalf, gOne, gSlope, gCube]
    all_goals rfl
  pointwise [vals, valRow, rowNorm, rowMean, k0_pay8, k0_pay7, k0_pay6, hz, lanes, eps]
  all_goals rfl

/-- One chunk's mixed values, the first chunk. -/
theorem tile0_at (V : FVec Ideal S512x1024 .bf16) (w : Vec Ideal S1x128x128 .f32) (o : ℕ) (ho : o + 128 ≤ 1024) (h0 h1 h2 h3 hp)
    (t c : Fin 128) :
    tile V w o 0 h0 h1 h2 h3 hp (ix2 t c)
      = causalMix (fun k => w (ix3 0 t k)) (fun k => V (ix2 ⟨k, by omega⟩ ⟨o + c, by omega⟩)) t := by
  pointwise [tile, mixMat, masked_at, causalMix]

/-- One chunk's mixed values, the second chunk. -/
theorem tile1_at (V : FVec Ideal S512x1024 .bf16) (w : Vec Ideal S1x128x128 .f32) (o : ℕ) (ho : o + 128 ≤ 1024) (h0 h1 h2 h3 hp)
    (t c : Fin 128) :
    tile V w o 128 h0 h1 h2 h3 hp (ix2 t c)
      = causalMix (fun k => w (ix3 0 t k)) (fun k => V (ix2 ⟨128 + k, by omega⟩ ⟨o + c, by omega⟩)) t := by
  pointwise [tile, mixMat, masked_at, causalMix]

/-- One chunk's mixed values, the third chunk. -/
theorem tile2_at (V : FVec Ideal S512x1024 .bf16) (w : Vec Ideal S1x128x128 .f32) (o : ℕ) (ho : o + 128 ≤ 1024) (h0 h1 h2 h3 hp)
    (t c : Fin 128) :
    tile V w o 256 h0 h1 h2 h3 hp (ix2 t c)
      = causalMix (fun k => w (ix3 0 t k)) (fun k => V (ix2 ⟨256 + k, by omega⟩ ⟨o + c, by omega⟩)) t := by
  pointwise [tile, mixMat, masked_at, causalMix]
  refine Finset.sum_congr rfl fun k _ => ?_
  rw [dif_neg (by omega), dif_neg (by omega), dif_pos (by omega)]
  refine congrArg (_ * V ·) (congrArg (ix2 _) (Fin.ext ?_))
  show o + (256 + (c : ℕ) - 128 - 128) = o + c
  omega

/-- One chunk's mixed values, the fourth chunk. -/
theorem tile3_at (V : FVec Ideal S512x1024 .bf16) (w : Vec Ideal S1x128x128 .f32) (o : ℕ) (ho : o + 128 ≤ 1024) (h0 h1 h2 h3 hp)
    (t c : Fin 128) :
    tile V w o 384 h0 h1 h2 h3 hp (ix2 t c)
      = causalMix (fun k => w (ix3 0 t k)) (fun k => V (ix2 ⟨384 + k, by omega⟩ ⟨o + c, by omega⟩)) t := by
  pointwise [tile, mixMat, masked_at, causalMix]
  refine Finset.sum_congr rfl fun k _ => ?_
  rw [dif_neg (by omega), dif_neg (by omega), dif_neg (by omega)]
  refine congrArg (_ * V ·) (congrArg (ix2 _) (Fin.ext ?_))
  show o + (384 + (c : ℕ) - 128 - 128 - 128) = o + c
  omega

/-- The gates of a half block at one row and one lane. -/
theorem gate_at (x : Vec Ideal S512x1024 .f32) (wu : Vec Ideal S1024x1024 .bf16) (r : Fin 512) (n : Fin 1024) :
    k0_pay4 (F := Ideal) x wu (ix2 r n) = gelu (rowDot (fun k => x (ix2 r k)) fun k => wu (ix2 k n)) := by
  pointwise [k0_pay4, k0_pay3, k0_pay2, gelu, rowDot, gHalf, gOne, gSlope, gCube]
  all_goals rfl

/-- A half block's gated rows at one row and one lane, the first chunk. -/
theorem gated0_at (x : Vec Ideal S512x1024 .f32) (wu : Vec Ideal S1024x1024 .bf16) (bias T0 T1 T2 T3 : Vec Ideal S128x1024 .f32)
    (t : Fin 128) (j : Fin 1024) :
    gated x wu bias T0 T1 T2 T3 (ix2 ⟨t, by omega⟩ j)
      = gelu (rowDot (fun k => x (ix2 ⟨t, by omega⟩ k)) fun k => wu (ix2 k j)) * (T0 (ix2 t j) + bias (ix2 t j)) := by
  pointwise [gated, k0_pay63, k0_pay62, k0_pay61, k0_pay60, k0_pay59, gate_at]

/-- A half block's gated rows at one row and one lane, the second chunk. -/
theorem gated1_at (x : Vec Ideal S512x1024 .f32) (wu : Vec Ideal S1024x1024 .bf16) (bias T0 T1 T2 T3 : Vec Ideal S128x1024 .f32)
    (t : Fin 128) (j : Fin 1024) :
    gated x wu bias T0 T1 T2 T3 (ix2 ⟨128 + t, by omega⟩ j)
      = gelu (rowDot (fun k => x (ix2 ⟨128 + t, by omega⟩ k)) fun k => wu (ix2 k j)) * (T1 (ix2 t j) + bias (ix2 t j)) := by
  pointwise [gated, k0_pay63, k0_pay62, k0_pay61, k0_pay60, k0_pay59, gate_at]

/-- A half block's gated rows at one row and one lane, the third chunk. -/
theorem gated2_at (x : Vec Ideal S512x1024 .f32) (wu : Vec Ideal S1024x1024 .bf16) (bias T0 T1 T2 T3 : Vec Ideal S128x1024 .f32)
    (t : Fin 128) (j : Fin 1024) :
    gated x wu bias T0 T1 T2 T3 (ix2 ⟨256 + t, by omega⟩ j)
      = gelu (rowDot (fun k => x (ix2 ⟨256 + t, by omega⟩ k)) fun k => wu (ix2 k j)) * (T2 (ix2 t j) + bias (ix2 t j)) := by
  pointwise [gated, k0_pay63, k0_pay62, k0_pay61, k0_pay60, k0_pay59, gate_at]
  rw [dif_neg (by omega), dif_neg (by omega), dif_pos (by omega)]
  have e : 256 + (t : ℕ) - 128 - 128 = t := by omega
  simp only [e]

/-- A half block's gated rows at one row and one lane, the fourth chunk. -/
theorem gated3_at (x : Vec Ideal S512x1024 .f32) (wu : Vec Ideal S1024x1024 .bf16) (bias T0 T1 T2 T3 : Vec Ideal S128x1024 .f32)
    (t : Fin 128) (j : Fin 1024) :
    gated x wu bias T0 T1 T2 T3 (ix2 ⟨384 + t, by omega⟩ j)
      = gelu (rowDot (fun k => x (ix2 ⟨384 + t, by omega⟩ k)) fun k => wu (ix2 k j)) * (T3 (ix2 t j) + bias (ix2 t j)) := by
  pointwise [gated, k0_pay63, k0_pay62, k0_pay61, k0_pay60, k0_pay59, gate_at]
  rw [dif_neg (by omega), dif_neg (by omega), dif_neg (by omega)]
  have e : 384 + (t : ℕ) - 128 - 128 - 128 = t := by omega
  simp only [e]

/-- A half block's result at one row and one lane, from its gated rows. -/
theorem outHalf_at (x : Vec Ideal S512x1024 .f32) (wu : Vec Ideal S1024x1024 .bf16) (bias : Vec Ideal S128x1024 .f32)
    (wo : Vec Ideal S1024x1024 .bf16) (g b : Vec Ideal S1x1024 .f32) (T0 T1 T2 T3 : Vec Ideal S128x1024 .f32)
    (r : Fin 512) (n : Fin 1024) :
    outHalf x wu bias wo g b T0 T1 T2 T3 (ix2 r n)
      = rowNorm (fun k => alpha * x (ix2 r k)
            + rowDot (fun j => gated x wu bias T0 T1 T2 T3 (ix2 r j)) (fun j => wo (ix2 j k))) (g (ix2 0 n)) (b (ix2 0 n)) n := by
  unfold outHalf
  generalize gated x wu bias T0 T1 T2 T3 = G
  pointwise [rowNorm, rowMean, rowDot, k0_pay124, k0_pay123, k0_pay122, k0_pay121, k0_pay70, k0_pay2, lanes, eps, alpha]
  all_goals rfl

/-- One chunk's mixed values, all its groups of lanes: what the scratch holds of the chunk. -/
def mixRow (V : FVec Ideal S512x1024 .bf16) (w : Vec Ideal S8x128x128 .f32) (q : Fin 4) : Vec Ideal S128x1024 .f32 :=
  fun y => causalMix (fun k => w (ix3 (grp (y 1)) (y 0) k)) (fun k => V (ix2 ⟨128 * q + k, by omega⟩ (y 1))) (y 0)

/-- One group's weights, loaded from the operand. -/
theorem group_ld (ws : Vec Ideal S8x128x128 .f32) (h : ℕ) (i) (a k : Fin 128) (j : Fin 1024) (hj : (j : ℕ) / 128 = h) :
    (View.ld ws (Rect.unit (s := S8x128x128) ![h, 0, 0] ![1, 128, 128] i) : Vec Ideal S1x128x128 .f32) (ix3 0 a k)
      = ws (ix3 (grp j) a k) := by
  refine congrArg ws ?_
  funext x
  match x with
  | ⟨0, _⟩ => exact Fin.ext (by show h + 1 * 0 = (j : ℕ) / 128; omega)
  | ⟨1, _⟩ => exact Fin.ext (by show 0 + 1 * (a : ℕ) = a; omega)
  | ⟨2, _⟩ => exact Fin.ext (by show 0 + 1 * (k : ℕ) = k; omega)

/-- A place inside the scratch. -/
theorem inside (o r k : ℕ) (h : o + r + 128 ≤ 1024) (hk : k + 128 ≤ 1024) :
    ∀ a, (![o + r, k] : Fin 2 → ℕ) a + (![128, 128] : Fin 2 → ℕ) a ≤ S1024x1024.size a
  | ⟨0, _⟩ => h
  | ⟨1, _⟩ => hk

/-- A group's weights lie inside the operand. -/
theorem inGroup (h : ℕ) (hh : h < 8) :
    ∀ a, (![h, 0, 0] : Fin 3 → ℕ) a + (![1, 128, 128] : Fin 3 → ℕ) a ≤ S8x128x128.size a
  | ⟨0, _⟩ => hh
  | ⟨1, _⟩ => le_refl 128
  | ⟨2, _⟩ => le_refl 128

/-- The 32 stores of a half block into the scratch, newest first: group by group of lanes, chunk by chunk of rows. -/
def pieces (o : ℕ) (ho : o ≤ 512) (V : FVec Ideal S512x1024 .bf16) (ws : Vec Ideal S8x128x128 .f32) :
    List (View.Piece (Elt Ideal) S1024x1024 .f32) :=
  [
   ⟨Rect.unit ![o + 384, 896] ![128, 128] (inside o 384 896 (by omega) (by omega)),
    tile V (View.ld ws (Rect.unit ![7, 0, 0] ![1, 128, 128] (inGroup 7 (by omega)))) 896 384 (by decide) (by decide) (by decide) (by decide) (by decide)⟩,
   ⟨Rect.unit ![o + 256, 896] ![128, 128] (inside o 256 896 (by omega) (by omega)),
    tile V (View.ld ws (Rect.unit ![7, 0, 0] ![1, 128, 128] (inGroup 7 (by omega)))) 896 256 (by decide) (by decide) (by decide) (by decide) (by decide)⟩,
   ⟨Rect.unit ![o + 128, 896] ![128, 128] (inside o 128 896 (by omega) (by omega)),
    tile V (View.ld ws (Rect.unit ![7, 0, 0] ![1, 128, 128] (inGroup 7 (by omega)))) 896 128 (by decide) (by decide) (by decide) (by decide) (by decide)⟩,
   ⟨Rect.unit ![o + 0, 896] ![128, 128] (inside o 0 896 (by omega) (by omega)),
    tile V (View.ld ws (Rect.unit ![7, 0, 0] ![1, 128, 128] (inGroup 7 (by omega)))) 896 0 (by decide) (by decide) (by decide) (by decide) (by decide)⟩,
   ⟨Rect.unit ![o + 384, 768] ![128, 128] (inside o 384 768 (by omega) (by omega)),
    tile V (View.ld ws (Rect.unit ![6, 0, 0] ![1, 128, 128] (inGroup 6 (by omega)))) 768 384 (by decide) (by decide) (by decide) (by decide) (by decide)⟩,
   ⟨Rect.unit ![o + 256, 768] ![128, 128] (inside o 256 768 (by omega) (by omega)),
    tile V (View.ld ws (Rect.unit ![6, 0, 0] ![1, 128, 128] (inGroup 6 (by omega)))) 768 256 (by decide) (by decide) (by decide) (by decide) (by decide)⟩,
   ⟨Rect.unit ![o + 128, 768] ![128, 128] (inside o 128 768 (by omega) (by omega)),
    tile V (View.ld ws (Rect.unit ![6, 0, 0] ![1, 128, 128] (inGroup 6 (by omega)))) 768 128 (by decide) (by decide) (by decide) (by decide) (by decide)⟩,
   ⟨Rect.unit ![o + 0, 768] ![128, 128] (inside o 0 768 (by omega) (by omega)),
    tile V (View.ld ws (Rect.unit ![6, 0, 0] ![1, 128, 128] (inGroup 6 (by omega)))) 768 0 (by decide) (by decide) (by decide) (by decide) (by decide)⟩,
   ⟨Rect.unit ![o + 384, 640] ![128, 128] (inside o 384 640 (by omega) (by omega)),
    tile V (View.ld ws (Rect.unit ![5, 0, 0] ![1, 128, 128] (inGroup 5 (by omega)))) 640 384 (by decide) (by decide) (by decide) (by decide) (by decide)⟩,
   ⟨Rect.unit ![o + 256, 640] ![128, 128] (inside o 256 640 (by omega) (by omega)),
    tile V (View.ld ws (Rect.unit ![5, 0, 0] ![1, 128, 128] (inGroup 5 (by omega)))) 640 256 (by decide) (by decide) (by decide) (by decide) (by decide)⟩,
   ⟨Rect.unit ![o + 128, 640] ![128, 128] (inside o 128 640 (by omega) (by omega)),
    tile V (View.ld ws (Rect.unit ![5, 0, 0] ![1, 128, 128] (inGroup 5 (by omega)))) 640 128 (by decide) (by decide) (by decide) (by decide) (by decide)⟩,
   ⟨Rect.unit ![o + 0, 640] ![128, 128] (inside o 0 640 (by omega) (by omega)),
    tile V (View.ld ws (Rect.unit ![5, 0, 0] ![1, 128, 128] (inGroup 5 (by omega)))) 640 0 (by decide) (by decide) (by decide) (by decide) (by decide)⟩,
   ⟨Rect.unit ![o + 384, 512] ![128, 128] (inside o 384 512 (by omega) (by omega)),
    tile V (View.ld ws (Rect.unit ![4, 0, 0] ![1, 128, 128] (inGroup 4 (by omega)))) 512 384 (by decide) (by decide) (by decide) (by decide) (by decide)⟩,
   ⟨Rect.unit ![o + 256, 512] ![128, 128] (inside o 256 512 (by omega) (by omega)),
    tile V (View.ld ws (Rect.unit ![4, 0, 0] ![1, 128, 128] (inGroup 4 (by omega)))) 512 256 (by decide) (by decide) (by decide) (by decide) (by decide)⟩,
   ⟨Rect.unit ![o + 128, 512] ![128, 128] (inside o 128 512 (by omega) (by omega)),
    tile V (View.ld ws (Rect.unit ![4, 0, 0] ![1, 128, 128] (inGroup 4 (by omega)))) 512 128 (by decide) (by decide) (by decide) (by decide) (by decide)⟩,
   ⟨Rect.unit ![o + 0, 512] ![128, 128] (inside o 0 512 (by omega) (by omega)),
    tile V (View.ld ws (Rect.unit ![4, 0, 0] ![1, 128, 128] (inGroup 4 (by omega)))) 512 0 (by decide) (by decide) (by decide) (by decide) (by decide)⟩,
   ⟨Rect.unit ![o + 384, 384] ![128, 128] (inside o 384 384 (by omega) (by omega)),
    tile V (View.ld ws (Rect.unit ![3, 0, 0] ![1, 128, 128] (inGroup 3 (by omega)))) 384 384 (by decide) (by decide) (by decide) (by decide) (by decide)⟩,
   ⟨Rect.unit ![o + 256, 384] ![128, 128] (inside o 256 384 (by omega) (by omega)),
    tile V (View.ld ws (Rect.unit ![3, 0, 0] ![1, 128, 128] (inGroup 3 (by omega)))) 384 256 (by decide) (by decide) (by decide) (by decide) (by decide)⟩,
   ⟨Rect.unit ![o + 128, 384] ![128, 128] (inside o 128 384 (by omega) (by omega)),
    tile V (View.ld ws (Rect.unit ![3, 0, 0] ![1, 128, 128] (inGroup 3 (by omega)))) 384 128 (by decide) (by decide) (by decide) (by decide) (by decide)⟩,
   ⟨Rect.unit ![o + 0, 384] ![128, 128] (inside o 0 384 (by omega) (by omega)),
    tile V (View.ld ws (Rect.unit ![3, 0, 0] ![1, 128, 128] (inGroup 3 (by omega)))) 384 0 (by decide) (by decide) (by decide) (by decide) (by decide)⟩,
   ⟨Rect.unit ![o + 384, 256] ![128, 128] (inside o 384 256 (by omega) (by omega)),
    tile V (View.ld ws (Rect.unit ![2, 0, 0] ![1, 128, 128] (inGroup 2 (by omega)))) 256 384 (by decide) (by decide) (by decide) (by decide) (by decide)⟩,
   ⟨Rect.unit ![o + 256, 256] ![128, 128] (inside o 256 256 (by omega) (by omega)),
    tile V (View.ld ws (Rect.unit ![2, 0, 0] ![1, 128, 128] (inGroup 2 (by omega)))) 256 256 (by decide) (by decide) (by decide) (by decide) (by decide)⟩,
   ⟨Rect.unit ![o + 128, 256] ![128, 128] (inside o 128 256 (by omega) (by omega)),
    tile V (View.ld ws (Rect.unit ![2, 0, 0] ![1, 128, 128] (inGroup 2 (by omega)))) 256 128 (by decide) (by decide) (by decide) (by decide) (by decide)⟩,
   ⟨Rect.unit ![o + 0, 256] ![128, 128] (inside o 0 256 (by omega) (by omega)),
    tile V (View.ld ws (Rect.unit ![2, 0, 0] ![1, 128, 128] (inGroup 2 (by omega)))) 256 0 (by decide) (by decide) (by decide) (by decide) (by decide)⟩,
   ⟨Rect.unit ![o + 384, 128] ![128, 128] (inside o 384 128 (by omega) (by omega)),
    tile V (View.ld ws (Rect.unit ![1, 0, 0] ![1, 128, 128] (inGroup 1 (by omega)))) 128 384 (by decide) (by decide) (by decide) (by decide) (by decide)⟩,
   ⟨Rect.unit ![o + 256, 128] ![128, 128] (inside o 256 128 (by omega) (by omega)),
    tile V (View.ld ws (Rect.unit ![1, 0, 0] ![1, 128, 128] (inGroup 1 (by omega)))) 128 256 (by decide) (by decide) (by decide) (by decide) (by decide)⟩,
   ⟨Rect.unit ![o + 128, 128] ![128, 128] (inside o 128 128 (by omega) (by omega)),
    tile V (View.ld ws (Rect.unit ![1, 0, 0] ![1, 128, 128] (inGroup 1 (by omega)))) 128 128 (by decide) (by decide) (by decide) (by decide) (by decide)⟩,
   ⟨Rect.unit ![o + 0, 128] ![128, 128] (inside o 0 128 (by omega) (by omega)),
    tile V (View.ld ws (Rect.unit ![1, 0, 0] ![1, 128, 128] (inGroup 1 (by omega)))) 128 0 (by decide) (by decide) (by decide) (by decide) (by decide)⟩,
   ⟨Rect.unit ![o + 384, 0] ![128, 128] (inside o 384 0 (by omega) (by omega)),
    tile V (View.ld ws (Rect.unit ![0, 0, 0] ![1, 128, 128] (inGroup 0 (by omega)))) 0 384 (by decide) (by decide) (by decide) (by decide) (by decide)⟩,
   ⟨Rect.unit ![o + 256, 0] ![128, 128] (inside o 256 0 (by omega) (by omega)),
    tile V (View.ld ws (Rect.unit ![0, 0, 0] ![1, 128, 128] (inGroup 0 (by omega)))) 0 256 (by decide) (by decide) (by decide) (by decide) (by decide)⟩,
   ⟨Rect.unit ![o + 128, 0] ![128, 128] (inside o 128 0 (by omega) (by omega)),
    tile V (View.ld ws (Rect.unit ![0, 0, 0] ![1, 128, 128] (inGroup 0 (by omega)))) 0 128 (by decide) (by decide) (by decide) (by decide) (by decide)⟩,
   ⟨Rect.unit ![o + 0, 0] ![128, 128] (inside o 0 0 (by omega) (by omega)),
    tile V (View.ld ws (Rect.unit ![0, 0, 0] ![1, 128, 128] (inGroup 0 (by omega)))) 0 0 (by decide) (by decide) (by decide) (by decide) (by decide)⟩]

/-- The scratch as one array of rows, chunk by chunk. -/
def whole (F : ℕ → Vec Ideal S128x1024 .f32) : S1024x1024.Idx → EReal :=
  fun y => F ((y 0 : ℕ) / 128) (ix2 ⟨(y 0 : ℕ) % 128, Nat.mod_lt _ (by decide)⟩ (y 1))

/-- One store is a block of the scratch. -/
theorem piece_at (F : ℕ → Vec Ideal S128x1024 .f32) (o r k c : ℕ) (hc : o + r = 128 * c) (hk : k + 128 ≤ 1024) (i)
    (t : Vec Ideal S128x128 .f32) (e : ∀ a b : Fin 128, t (ix2 a b) = F c (ix2 a ⟨k + b, by omega⟩)) :
    ∀ x : (Rect.unit (s := S1024x1024) ![o + r, k] ![128, 128] i).shape.Idx,
      t x = whole F ((Rect.unit (s := S1024x1024) ![o + r, k] ![128, 128] i).emb x) := by
  intro x
  have h0 : (x 0 : ℕ) < 128 := (x 0).isLt
  have hxe : x = ix2 (x 0) (x 1) := by
    funext a
    match a with
    | ⟨0, _⟩ => rfl
    | ⟨1, _⟩ => rfl
  have e1 : ((Rect.unit (s := S1024x1024) ![o + r, k] ![128, 128] i).emb x 0 : ℕ) = o + r + x 0 := by
    show o + r + 1 * (x 0 : ℕ) = _
    omega
  have e2 : ((Rect.unit (s := S1024x1024) ![o + r, k] ![128, 128] i).emb x 1 : ℕ) = k + x 1 := by
    show k + 1 * (x 1 : ℕ) = _
    omega
  have ec : ((Rect.unit (s := S1024x1024) ![o + r, k] ![128, 128] i).emb x 0 : ℕ) / 128 = c := by rw [e1]; omega
  have em : ((Rect.unit (s := S1024x1024) ![o + r, k] ![128, 128] i).emb x 0 : ℕ) % 128 = x 0 := by rw [e1]; omega
  unfold whole
  rw [ec]
  refine (congrArg t hxe).trans ((e (x 0) (x 1)).trans (congrArg (F c) ?_))
  funext a
  match a with
  | ⟨0, _⟩ => exact Fin.ext em.symm
  | ⟨1, _⟩ => exact Fin.ext e2.symm

/-- A stored tile of chunk 0 is a block of the chunk's mixed values. -/
theorem mix0 (V : FVec Ideal S512x1024 .bf16) (ws : Vec Ideal S8x128x128 .f32) (h o : ℕ) (hh : h < 8) (hb : o = 128 * h) (i) (h0 h1 h2 h3 hp)
    (a c : Fin 128) :
    tile V (View.ld ws (Rect.unit (s := S8x128x128) ![h, 0, 0] ![1, 128, 128] i)) o 0 h0 h1 h2 h3 hp (ix2 a c)
      = mixRow V ws 0 (ix2 a ⟨o + c, by omega⟩) := by
  rw [tile0_at V _ o (by omega)]
  refine congrArg₂ (fun w v => causalMix w v a) (funext fun k => group_ld ws h i a k _ (by show (o + (c : ℕ)) / 128 = h; omega))
    (funext fun k => congrArg (fun r => V (ix2 r ⟨o + c, by omega⟩)) (Fin.ext ?_))
  show (k : ℕ) = 128 * 0 + (k : ℕ)
  omega

/-- A stored tile of chunk 1 is a block of the chunk's mixed values. -/
theorem mix1 (V : FVec Ideal S512x1024 .bf16) (ws : Vec Ideal S8x128x128 .f32) (h o : ℕ) (hh : h < 8) (hb : o = 128 * h) (i) (h0 h1 h2 h3 hp)
    (a c : Fin 128) :
    tile V (View.ld ws (Rect.unit (s := S8x128x128) ![h, 0, 0] ![1, 128, 128] i)) o 128 h0 h1 h2 h3 hp (ix2 a c)
      = mixRow V ws 1 (ix2 a ⟨o + c, by omega⟩) := by
  rw [tile1_at V _ o (by omega)]
  refine congrArg₂ (fun w v => causalMix w v a) (funext fun k => group_ld ws h i a k _ (by show (o + (c : ℕ)) / 128 = h; omega))
    (funext fun k => congrArg (fun r => V (ix2 r ⟨o + c, by omega⟩)) (Fin.ext ?_))
  show 128 + (k : ℕ) = 128 * 1 + (k : ℕ)
  omega

/-- A stored tile of chunk 2 is a block of the chunk's mixed values. -/
theorem mix2 (V : FVec Ideal S512x1024 .bf16) (ws : Vec Ideal S8x128x128 .f32) (h o : ℕ) (hh : h < 8) (hb : o = 128 * h) (i) (h0 h1 h2 h3 hp)
    (a c : Fin 128) :
    tile V (View.ld ws (Rect.unit (s := S8x128x128) ![h, 0, 0] ![1, 128, 128] i)) o 256 h0 h1 h2 h3 hp (ix2 a c)
      = mixRow V ws 2 (ix2 a ⟨o + c, by omega⟩) := by
  rw [tile2_at V _ o (by omega)]
  refine congrArg₂ (fun w v => causalMix w v a) (funext fun k => group_ld ws h i a k _ (by show (o + (c : ℕ)) / 128 = h; omega))
    (funext fun k => congrArg (fun r => V (ix2 r ⟨o + c, by omega⟩)) (Fin.ext ?_))
  show 256 + (k : ℕ) = 128 * 2 + (k : ℕ)
  omega

/-- A stored tile of chunk 3 is a block of the chunk's mixed values. -/
theorem mix3 (V : FVec Ideal S512x1024 .bf16) (ws : Vec Ideal S8x128x128 .f32) (h o : ℕ) (hh : h < 8) (hb : o = 128 * h) (i) (h0 h1 h2 h3 hp)
    (a c : Fin 128) :
    tile V (View.ld ws (Rect.unit (s := S8x128x128) ![h, 0, 0] ![1, 128, 128] i)) o 384 h0 h1 h2 h3 hp (ix2 a c)
      = mixRow V ws 3 (ix2 a ⟨o + c, by omega⟩) := by
  rw [tile3_at V _ o (by omega)]
  refine congrArg₂ (fun w v => causalMix w v a) (funext fun k => group_ld ws h i a k _ (by show (o + (c : ℕ)) / 128 = h; omega))
    (funext fun k => congrArg (fun r => V (ix2 r ⟨o + c, by omega⟩)) (Fin.ext ?_))
  show 384 + (k : ℕ) = 128 * 3 + (k : ℕ)
  omega

/-- The stores of a half block are blocks of the scratch. -/
theorem pieces_ok (b : ℕ) (ho : 128 * b ≤ 512) (V : FVec Ideal S512x1024 .bf16) (ws : Vec Ideal S8x128x128 .f32)
    (F : ℕ → Vec Ideal S128x1024 .f32) (hF : ∀ q : Fin 4, F (b + q) = mixRow V ws q) :
    View.PiecesOf (whole F) (pieces (128 * b) ho V ws) :=
  ⟨
   piece_at F (128 * b) 384 896 (b + 3) (by omega) (by omega) (inside (128 * b) 384 896 (by omega) (by omega)) _ fun a c => (mix3 V ws 7 896 (by omega) rfl _ _ _ _ _ (by decide) a c).trans (congrFun (hF 3).symm _),
   piece_at F (128 * b) 256 896 (b + 2) (by omega) (by omega) (inside (128 * b) 256 896 (by omega) (by omega)) _ fun a c => (mix2 V ws 7 896 (by omega) rfl _ _ _ _ _ (by decide) a c).trans (congrFun (hF 2).symm _),
   piece_at F (128 * b) 128 896 (b + 1) (by omega) (by omega) (inside (128 * b) 128 896 (by omega) (by omega)) _ fun a c => (mix1 V ws 7 896 (by omega) rfl _ _ _ _ _ (by decide) a c).trans (congrFun (hF 1).symm _),
   piece_at F (128 * b) 0 896 (b + 0) (by omega) (by omega) (inside (128 * b) 0 896 (by omega) (by omega)) _ fun a c => (mix0 V ws 7 896 (by omega) rfl _ _ _ _ _ (by decide) a c).trans (congrFun (hF 0).symm _),
   piece_at F (128 * b) 384 768 (b + 3) (by omega) (by omega) (inside (128 * b) 384 768 (by omega) (by omega)) _ fun a c => (mix3 V ws 6 768 (by omega) rfl _ _ _ _ _ (by decide) a c).trans (congrFun (hF 3).symm _),
   piece_at F (128 * b) 256 768 (b + 2) (by omega) (by omega) (inside (128 * b) 256 768 (by omega) (by omega)) _ fun a c => (mix2 V ws 6 768 (by omega) rfl _ _ _ _ _ (by decide) a c).trans (congrFun (hF 2).symm _),
   piece_at F (128 * b) 128 768 (b + 1) (by omega) (by omega) (inside (128 * b) 128 768 (by omega) (by omega)) _ fun a c => (mix1 V ws 6 768 (by omega) rfl _ _ _ _ _ (by decide) a c).trans (congrFun (hF 1).symm _),
   piece_at F (128 * b) 0 768 (b + 0) (by omega) (by omega) (inside (128 * b) 0 768 (by omega) (by omega)) _ fun a c => (mix0 V ws 6 768 (by omega) rfl _ _ _ _ _ (by decide) a c).trans (congrFun (hF 0).symm _),
   piece_at F (128 * b) 384 640 (b + 3) (by omega) (by omega) (inside (128 * b) 384 640 (by omega) (by omega)) _ fun a c => (mix3 V ws 5 640 (by omega) rfl _ _ _ _ _ (by decide) a c).trans (congrFun (hF 3).symm _),
   piece_at F (128 * b) 256 640 (b + 2) (by omega) (by omega) (inside (128 * b) 256 640 (by omega) (by omega)) _ fun a c => (mix2 V ws 5 640 (by omega) rfl _ _ _ _ _ (by decide) a c).trans (congrFun (hF 2).symm _),
   piece_at F (128 * b) 128 640 (b + 1) (by omega) (by omega) (inside (128 * b) 128 640 (by omega) (by omega)) _ fun a c => (mix1 V ws 5 640 (by omega) rfl _ _ _ _ _ (by decide) a c).trans (congrFun (hF 1).symm _),
   piece_at F (128 * b) 0 640 (b + 0) (by omega) (by omega) (inside (128 * b) 0 640 (by omega) (by omega)) _ fun a c => (mix0 V ws 5 640 (by omega) rfl _ _ _ _ _ (by decide) a c).trans (congrFun (hF 0).symm _),
   piece_at F (128 * b) 384 512 (b + 3) (by omega) (by omega) (inside (128 * b) 384 512 (by omega) (by omega)) _ fun a c => (mix3 V ws 4 512 (by omega) rfl _ _ _ _ _ (by decide) a c).trans (congrFun (hF 3).symm _),
   piece_at F (128 * b) 256 512 (b + 2) (by omega) (by omega) (inside (128 * b) 256 512 (by omega) (by omega)) _ fun a c => (mix2 V ws 4 512 (by omega) rfl _ _ _ _ _ (by decide) a c).trans (congrFun (hF 2).symm _),
   piece_at F (128 * b) 128 512 (b + 1) (by omega) (by omega) (inside (128 * b) 128 512 (by omega) (by omega)) _ fun a c => (mix1 V ws 4 512 (by omega) rfl _ _ _ _ _ (by decide) a c).trans (congrFun (hF 1).symm _),
   piece_at F (128 * b) 0 512 (b + 0) (by omega) (by omega) (inside (128 * b) 0 512 (by omega) (by omega)) _ fun a c => (mix0 V ws 4 512 (by omega) rfl _ _ _ _ _ (by decide) a c).trans (congrFun (hF 0).symm _),
   piece_at F (128 * b) 384 384 (b + 3) (by omega) (by omega) (inside (128 * b) 384 384 (by omega) (by omega)) _ fun a c => (mix3 V ws 3 384 (by omega) rfl _ _ _ _ _ (by decide) a c).trans (congrFun (hF 3).symm _),
   piece_at F (128 * b) 256 384 (b + 2) (by omega) (by omega) (inside (128 * b) 256 384 (by omega) (by omega)) _ fun a c => (mix2 V ws 3 384 (by omega) rfl _ _ _ _ _ (by decide) a c).trans (congrFun (hF 2).symm _),
   piece_at F (128 * b) 128 384 (b + 1) (by omega) (by omega) (inside (128 * b) 128 384 (by omega) (by omega)) _ fun a c => (mix1 V ws 3 384 (by omega) rfl _ _ _ _ _ (by decide) a c).trans (congrFun (hF 1).symm _),
   piece_at F (128 * b) 0 384 (b + 0) (by omega) (by omega) (inside (128 * b) 0 384 (by omega) (by omega)) _ fun a c => (mix0 V ws 3 384 (by omega) rfl _ _ _ _ _ (by decide) a c).trans (congrFun (hF 0).symm _),
   piece_at F (128 * b) 384 256 (b + 3) (by omega) (by omega) (inside (128 * b) 384 256 (by omega) (by omega)) _ fun a c => (mix3 V ws 2 256 (by omega) rfl _ _ _ _ _ (by decide) a c).trans (congrFun (hF 3).symm _),
   piece_at F (128 * b) 256 256 (b + 2) (by omega) (by omega) (inside (128 * b) 256 256 (by omega) (by omega)) _ fun a c => (mix2 V ws 2 256 (by omega) rfl _ _ _ _ _ (by decide) a c).trans (congrFun (hF 2).symm _),
   piece_at F (128 * b) 128 256 (b + 1) (by omega) (by omega) (inside (128 * b) 128 256 (by omega) (by omega)) _ fun a c => (mix1 V ws 2 256 (by omega) rfl _ _ _ _ _ (by decide) a c).trans (congrFun (hF 1).symm _),
   piece_at F (128 * b) 0 256 (b + 0) (by omega) (by omega) (inside (128 * b) 0 256 (by omega) (by omega)) _ fun a c => (mix0 V ws 2 256 (by omega) rfl _ _ _ _ _ (by decide) a c).trans (congrFun (hF 0).symm _),
   piece_at F (128 * b) 384 128 (b + 3) (by omega) (by omega) (inside (128 * b) 384 128 (by omega) (by omega)) _ fun a c => (mix3 V ws 1 128 (by omega) rfl _ _ _ _ _ (by decide) a c).trans (congrFun (hF 3).symm _),
   piece_at F (128 * b) 256 128 (b + 2) (by omega) (by omega) (inside (128 * b) 256 128 (by omega) (by omega)) _ fun a c => (mix2 V ws 1 128 (by omega) rfl _ _ _ _ _ (by decide) a c).trans (congrFun (hF 2).symm _),
   piece_at F (128 * b) 128 128 (b + 1) (by omega) (by omega) (inside (128 * b) 128 128 (by omega) (by omega)) _ fun a c => (mix1 V ws 1 128 (by omega) rfl _ _ _ _ _ (by decide) a c).trans (congrFun (hF 1).symm _),
   piece_at F (128 * b) 0 128 (b + 0) (by omega) (by omega) (inside (128 * b) 0 128 (by omega) (by omega)) _ fun a c => (mix0 V ws 1 128 (by omega) rfl _ _ _ _ _ (by decide) a c).trans (congrFun (hF 0).symm _),
   piece_at F (128 * b) 384 0 (b + 3) (by omega) (by omega) (inside (128 * b) 384 0 (by omega) (by omega)) _ fun a c => (mix3 V ws 0 0 (by omega) rfl _ _ _ _ _ (by decide) a c).trans (congrFun (hF 3).symm _),
   piece_at F (128 * b) 256 0 (b + 2) (by omega) (by omega) (inside (128 * b) 256 0 (by omega) (by omega)) _ fun a c => (mix2 V ws 0 0 (by omega) rfl _ _ _ _ _ (by decide) a c).trans (congrFun (hF 2).symm _),
   piece_at F (128 * b) 128 0 (b + 1) (by omega) (by omega) (inside (128 * b) 128 0 (by omega) (by omega)) _ fun a c => (mix1 V ws 0 0 (by omega) rfl _ _ _ _ _ (by decide) a c).trans (congrFun (hF 1).symm _),
   piece_at F (128 * b) 0 0 (b + 0) (by omega) (by omega) (inside (128 * b) 0 0 (by omega) (by omega)) _ fun a c => (mix0 V ws 0 0 (by omega) rfl _ _ _ _ _ (by decide) a c).trans (congrFun (hF 0).symm _),
   trivial⟩

/-- A chunk read back from the scratch: stores that are blocks of the scratch, eight of them the chunk's. -/
theorem chunk_read {κ : Kind} {sp : Space} {sig : RefSig} (v : View sig κ sp S1024x1024 .f32) (F : ℕ → Vec Ideal S128x1024 .f32)
    (L : List (View.Piece (Elt Ideal) S1024x1024 .f32)) (hL : View.PiecesOf (whole F) L) (c o : ℕ) (ho : o = 128 * c) (i)
    (hc : ∀ h : Fin 8, ∃ (n : ℕ) (ik : _) (t : Vec Ideal S128x128 .f32),
      L[n]? = some (⟨Rect.unit (s := S1024x1024) ![o, 128 * h] ![128, 128] ik, t⟩ : View.Piece (Elt Ideal) S1024x1024 .f32)) :
    v.readCov (Val := Elt Ideal) L (Rect.unit (s := S1024x1024) ![o, 0] ![128, 1024] i).toLoadRect = F c := by
  rw [View.readCov_eq_canon']
  funext y
  have h0 : (y 0 : ℕ) < 128 := (y 0).isLt
  have h1 : (y 1 : ℕ) < 1024 := (y 1).isLt
  have ha : (((Rect.unit (s := S1024x1024) ![o, 0] ![128, 1024] i).toLoadRect.idx y 0 : Fin _) : ℕ) = o + y 0 := by
    show o + 1 * (y 0 : ℕ) = o + y 0
    omega
  have hb : (((Rect.unit (s := S1024x1024) ![o, 0] ![128, 1024] i).toLoadRect.idx y 1 : Fin _) : ℕ) = y 1 := by
    show 0 + 1 * (y 1 : ℕ) = y 1
    omega
  refine (View.canon_apply_of_pieces (whole F) L hL.mem _ ?_).trans ?_
  · obtain ⟨n, ik, t, e⟩ := hc ⟨(y 1 : ℕ) / 128, by omega⟩
    refine ⟨_, List.mem_of_getElem? e, ?_⟩
    show _ ∈ (Rect.unit (s := S1024x1024) ![o, 128 * ((y 1 : ℕ) / 128)] ![128, 128] ik).set
    rw [Rect.mem_set_unit]
    intro a
    match a with
    | ⟨0, _⟩ => exact ⟨(show o ≤ o + (y 0 : ℕ) by omega).trans ha.ge, ha.trans_lt (show o + (y 0 : ℕ) < o + 128 by omega)⟩
    | ⟨1, _⟩ => exact ⟨(show 128 * ((y 1 : ℕ) / 128) ≤ (y 1 : ℕ) by omega).trans hb.ge,
        hb.trans_lt (show (y 1 : ℕ) < 128 * ((y 1 : ℕ) / 128) + 128 by omega)⟩
  · have ec : (((Rect.unit (s := S1024x1024) ![o, 0] ![128, 1024] i).toLoadRect.idx y 0 : Fin _) : ℕ) / 128 = c := by rw [ha]; omega
    have em : (((Rect.unit (s := S1024x1024) ![o, 0] ![128, 1024] i).toLoadRect.idx y 0 : Fin _) : ℕ) % 128 = y 0 := by rw [ha]; omega
    unfold whole
    rw [ec]
    refine congrArg (F c) ?_
    funext a
    match a with
    | ⟨0, _⟩ => exact Fin.ext em
    | ⟨1, _⟩ => exact Fin.ext hb

/-- A half block's result with the chunks' mixed values in place: the sublayer's row, the first chunk. -/
theorem half_at (x : Vec Ideal S512x1024 .f32) (wu wv : Vec Ideal S1024x1024 .bf16) (ng nb : Vec Ideal S1x1024 .f32)
    (ws : Vec Ideal S8x128x128 .f32) (bias : Vec Ideal S128x1024 .f32) (bs : Fin 8 → Fin 128 → EReal)
    (hbs : ∀ t j, bias (ix2 t j) = bs (grp j) t)
    (wo : Vec Ideal S1024x1024 .bf16) (g b : Vec Ideal S1x1024 .f32) (q : Fin 4) (t : Fin 128) (n : Fin 1024) :
    outHalf x wu bias wo g b (mixRow (vals x wv ng nb) ws 0) (mixRow (vals x wv ng nb) ws 1) (mixRow (vals x wv ng nb) ws 2)
        (mixRow (vals x wv ng nb) ws 3) (ix2 ⟨128 * q + t, by omega⟩ n)
      = sguRow (fun k j => x (ix2 ⟨128 * q + k, by omega⟩ j)) (fun k j => wu (ix2 k j)) (fun k j => wv (ix2 k j))
          (fun n => ng (ix2 0 n)) (fun n => nb (ix2 0 n)) (fun h t k => ws (ix3 h t k)) bs (fun j k => wo (ix2 j k))
          (fun n => g (ix2 0 n)) (fun n => b (ix2 0 n)) t n := by
  have hg : ∀ j : Fin 1024, gated x wu bias (mixRow (vals x wv ng nb) ws 0) (mixRow (vals x wv ng nb) ws 1)
      (mixRow (vals x wv ng nb) ws 2) (mixRow (vals x wv ng nb) ws 3) (ix2 ⟨128 * q + t, by omega⟩ j)
      = gatedRow (fun k j => x (ix2 ⟨128 * q + k, by omega⟩ j)) (fun k j => wu (ix2 k j)) (fun k j => wv (ix2 k j))
          (fun n => ng (ix2 0 n)) (fun n => nb (ix2 0 n)) (fun h t k => ws (ix3 h t k)) bs t j := by
    intro j
    have hm : ∀ q : Fin 4, mixRow (vals x wv ng nb) ws q (ix2 t j)
        = causalMix (fun k => ws (ix3 (grp j) t k)) (fun k => valRow (fun i => x (ix2 ⟨128 * q + k, by omega⟩ i))
            (fun k n => wv (ix2 k n)) (fun n => ng (ix2 0 n)) (fun n => nb (ix2 0 n)) j) t := by
      intro q
      show causalMix (fun k => ws (ix3 (grp j) t k)) (fun k => vals x wv ng nb (ix2 ⟨128 * q + k, by omega⟩ j)) t = _
      simp only [vals_at]
    unfold gatedRow
    rw [← hbs, ← hm]
    match q with
    | ⟨0, _⟩ =>
      have z : ∀ k : Fin 128, (⟨128 * ((0 : Fin 4) : ℕ) + k, by show 128 * 0 + (k : ℕ) < 512; omega⟩ : Fin 512) = ⟨k, by omega⟩ :=
        fun k => Fin.ext (by show 128 * 0 + (k : ℕ) = k; omega)
      have h := gated0_at x wu bias (mixRow (vals x wv ng nb) ws 0) (mixRow (vals x wv ng nb) ws 1)
        (mixRow (vals x wv ng nb) ws 2) (mixRow (vals x wv ng nb) ws 3) t j
      rw [← z t] at h
      exact h
    | ⟨1, _⟩ => exact gated1_at ..
    | ⟨2, _⟩ => exact gated2_at ..
    | ⟨3, _⟩ => exact gated3_at ..
  rw [outHalf_at]
  simp only [hg]
  rfl

end Cert.KernelIdeal.Sgu
-- ==== Proof.SguReads.lean ====
module

public import proofs.«01_k».proof.Proof.Gen.KernelIdeal.Frame
public import proofs.«01_k».proof.Proof.SguBody
public import Idealize.ShloMosaic.Lib.Pipeline.ValueKit
public import Idealize.ShloMosaic.Lib.Pipeline.ReadBack

/-! The spatial gating's scratch: the stores of the two half blocks are blocks of one array, and each chunk reads back as its mixed
    values. -/

@[expose] public section

set_option maxRecDepth 16384

noncomputable section

namespace Cert.KernelIdeal.Sgu

open Idealize.ShloMosaic Idealize.ShloMosaic.TcCoe Idealize.SL.Sem
open Cert.KernelIdeal Cert.KernelIdeal.Gen Trunk

/-- The mixed values of the whole scratch: chunks 0 to 3 of the top half, 4 to 7 of the bottom half. -/
def mixAll (V V' : FVec Ideal S512x1024 .bf16) (ws : Vec Ideal S8x128x128 .f32) : ℕ → Vec Ideal S128x1024 .f32
  | 0 => mixRow V ws 0
  | 1 => mixRow V ws 1
  | 2 => mixRow V ws 2
  | 3 => mixRow V ws 3
  | 4 => mixRow V' ws 0
  | 5 => mixRow V' ws 1
  | 6 => mixRow V' ws 2
  | _ => mixRow V' ws 3

/-- Pieces of one function over pieces of it. -/
theorem piecesOf_append {Val : EltTy → Type} {s : Shape} {e : EltTy} (G : s.Idx → Val e) :
    ∀ L L' : List (View.Piece Val s e), View.PiecesOf G L → View.PiecesOf G L' → View.PiecesOf G (L ++ L')
  | [], _, _, h' => h'
  | _ :: L, L', h, h' => ⟨h.1, piecesOf_append G L L' h.2 h'⟩

/-- The stores of the top half. -/
def topPieces (V : FVec Ideal S512x1024 .bf16) (ws : Vec Ideal S8x128x128 .f32) : List (View.Piece (Elt Ideal) S1024x1024 .f32) :=
  pieces (128 * 0) (by decide) V ws

/-- The stores of both halves, those of the bottom half newer. -/
def allPieces (V V' : FVec Ideal S512x1024 .bf16) (ws : Vec Ideal S8x128x128 .f32) : List (View.Piece (Elt Ideal) S1024x1024 .f32) :=
  pieces (128 * 4) (by decide) V' ws ++ pieces (128 * 0) (by decide) V ws

/-- The stores of the top half are blocks of the scratch. -/
theorem top_ok (V V' : FVec Ideal S512x1024 .bf16) (ws : Vec Ideal S8x128x128 .f32) :
    View.PiecesOf (whole (mixAll V V' ws)) (topPieces V ws) :=
  pieces_ok 0 _ V ws _ fun | 0 => rfl | 1 => rfl | 2 => rfl | 3 => rfl

/-- The stores of both halves are blocks of the scratch. -/
theorem all_ok (V V' : FVec Ideal S512x1024 .bf16) (ws : Vec Ideal S8x128x128 .f32) :
    View.PiecesOf (whole (mixAll V V' ws)) (allPieces V V' ws) :=
  piecesOf_append _ _ _ (pieces_ok 4 _ V' ws _ fun | 0 => rfl | 1 => rfl | 2 => rfl | 3 => rfl) (top_ok V V' ws)

/-- Chunk 0 read back from the scratch. -/
theorem read0 {κ : Kind} {sp : Space} {sig : RefSig} (v : View sig κ sp S1024x1024 .f32) (V V' : FVec Ideal S512x1024 .bf16)
    (ws : Vec Ideal S8x128x128 .f32) (i) :
    v.readCov (Val := Elt Ideal) (topPieces V ws) (Rect.unit (s := S1024x1024) ![0, 0] ![128, 1024] i).toLoadRect = mixAll V V' ws 0 :=
  chunk_read v _ _ (top_ok V V' ws) 0 0 rfl i fun
    | 0 => ⟨31, _, _, rfl⟩ | 1 => ⟨27, _, _, rfl⟩ | 2 => ⟨23, _, _, rfl⟩ | 3 => ⟨19, _, _, rfl⟩ | 4 => ⟨15, _, _, rfl⟩ | 5 => ⟨11, _, _, rfl⟩ | 6 => ⟨7, _, _, rfl⟩ | 7 => ⟨3, _, _, rfl⟩

/-- Chunk 1 read back from the scratch. -/
theorem read1 {κ : Kind} {sp : Space} {sig : RefSig} (v : View sig κ sp S1024x1024 .f32) (V V' : FVec Ideal S512x1024 .bf16)
    (ws : Vec Ideal S8x128x128 .f32) (i) :
    v.readCov (Val := Elt Ideal) (topPieces V ws) (Rect.unit (s := S1024x1024) ![128, 0] ![128, 1024] i).toLoadRect = mixAll V V' ws 1 :=
  chunk_read v _ _ (top_ok V V' ws) 1 128 rfl i fun
    | 0 => ⟨30, _, _, rfl⟩ | 1 => ⟨26, _, _, rfl⟩ | 2 => ⟨22, _, _, rfl⟩ | 3 => ⟨18, _, _, rfl⟩ | 4 => ⟨14, _, _, rfl⟩ | 5 => ⟨10, _, _, rfl⟩ | 6 => ⟨6, _, _, rfl⟩ | 7 => ⟨2, _, _, rfl⟩

/-- Chunk 2 read back from the scratch. -/
theorem read2 {κ : Kind} {sp : Space} {sig : RefSig} (v : View sig κ sp S1024x1024 .f32) (V V' : FVec Ideal S512x1024 .bf16)
    (ws : Vec Ideal S8x128x128 .f32) (i) :
    v.readCov (Val := Elt Ideal) (topPieces V ws) (Rect.unit (s := S1024x1024) ![256, 0] ![128, 1024] i).toLoadRect = mixAll V V' ws 2 :=
  chunk_read v _ _ (top_ok V V' ws) 2 256 rfl i fun
    | 0 => ⟨29, _, _, rfl⟩ | 1 => ⟨25, _, _, rfl⟩ | 2 => ⟨21, _, _, rfl⟩ | 3 => ⟨17, _, _, rfl⟩ | 4 => ⟨13, _, _, rfl⟩ | 5 => ⟨9, _, _, rfl⟩ | 6 => ⟨5, _, _, rfl⟩ | 7 => ⟨1, _, _, rfl⟩

/-- Chunk 3 read back from the scratch. -/
theorem read3 {κ : Kind} {sp : Space} {sig : RefSig} (v : View sig κ sp S1024x1024 .f32) (V V' : FVec Ideal S512x1024 .bf16)
    (ws : Vec Ideal S8x128x128 .f32) (i) :
    v.readCov (Val := Elt Ideal) (topPieces V ws) (Rect.unit (s := S1024x1024) ![384, 0] ![128, 1024] i).toLoadRect = mixAll V V' ws 3 :=
  chunk_read v _ _ (top_ok V V' ws) 3 384 rfl i fun
    | 0 => ⟨28, _, _, rfl⟩ | 1 => ⟨24, _, _, rfl⟩ | 2 => ⟨20, _, _, rfl⟩ | 3 => ⟨16, _, _, rfl⟩ | 4 => ⟨12, _, _, rfl⟩ | 5 => ⟨8, _, _, rfl⟩ | 6 => ⟨4, _, _, rfl⟩ | 7 => ⟨0, _, _, rfl⟩

/-- Chunk 4 read back from the scratch. -/
theorem read4 {κ : Kind} {sp : Space} {sig : RefSig} (v : View sig κ sp S1024x1024 .f32) (V V' : FVec Ideal S512x1024 .bf16)
    (ws : Vec Ideal S8x128x128 .f32) (i) :
    v.readCov (Val := Elt Ideal) (allPieces V V' ws) (Rect.unit (s := S1024x1024) ![512, 0] ![128, 1024] i).toLoadRect = mixAll V V' ws 4 :=
  chunk_read v _ _ (all_ok V V' ws) 4 512 rfl i fun
    | 0 => ⟨31, _, _, rfl⟩ | 1 => ⟨27, _, _, rfl⟩ | 2 => ⟨23, _, _, rfl⟩ | 3 => ⟨19, _, _, rfl⟩ | 4 => ⟨15, _, _, rfl⟩ | 5 => ⟨11, _, _, rfl⟩ | 6 => ⟨7, _, _, rfl⟩ | 7 => ⟨3, _, _, rfl⟩

/-- Chunk 5 read back from the scratch. -/
theorem read5 {κ : Kind} {sp : Space} {sig : RefSig} (v : View sig κ sp S1024x1024 .f32) (V V' : FVec Ideal S512x1024 .bf16)
    (ws : Vec Ideal S8x128x128 .f32) (i) :
    v.readCov (Val := Elt Ideal) (allPieces V V' ws) (Rect.unit (s := S1024x1024) ![640, 0] ![128, 1024] i).toLoadRect = mixAll V V' ws 5 :=
  chunk_read v _ _ (all_ok V V' ws) 5 640 rfl i fun
    | 0 => ⟨30, _, _, rfl⟩ | 1 => ⟨26, _, _, rfl⟩ | 2 => ⟨22, _, _, rfl⟩ | 3 => ⟨18, _, _, rfl⟩ | 4 => ⟨14, _, _, rfl⟩ | 5 => ⟨10, _, _, rfl⟩ | 6 => ⟨6, _, _, rfl⟩ | 7 => ⟨2, _, _, rfl⟩

/-- Chunk 6 read back from the scratch. -/
theorem read6 {κ : Kind} {sp : Space} {sig : RefSig} (v : View sig κ sp S1024x1024 .f32) (V V' : FVec Ideal S512x1024 .bf16)
    (ws : Vec Ideal S8x128x128 .f32) (i) :
    v.readCov (Val := Elt Ideal) (allPieces V V' ws) (Rect.unit (s := S1024x1024) ![768, 0] ![128, 1024] i).toLoadRect = mixAll V V' ws 6 :=
  chunk_read v _ _ (all_ok V V' ws) 6 768 rfl i fun
    | 0 => ⟨29, _, _, rfl⟩ | 1 => ⟨25, _, _, rfl⟩ | 2 => ⟨21, _, _, rfl⟩ | 3 => ⟨17, _, _, rfl⟩ | 4 => ⟨13, _, _, rfl⟩ | 5 => ⟨9, _, _, rfl⟩ | 6 => ⟨5, _, _, rfl⟩ | 7 => ⟨1, _, _, rfl⟩

/-- Chunk 7 read back from the scratch. -/
theorem read7 {κ : Kind} {sp : Space} {sig : RefSig} (v : View sig κ sp S1024x1024 .f32) (V V' : FVec Ideal S512x1024 .bf16)
    (ws : Vec Ideal S8x128x128 .f32) (i) :
    v.readCov (Val := Elt Ideal) (allPieces V V' ws) (Rect.unit (s := S1024x1024) ![896, 0] ![128, 1024] i).toLoadRect = mixAll V V' ws 7 :=
  chunk_read v _ _ (all_ok V V' ws) 7 896 rfl i fun
    | 0 => ⟨28, _, _, rfl⟩ | 1 => ⟨24, _, _, rfl⟩ | 2 => ⟨20, _, _, rfl⟩ | 3 => ⟨16, _, _, rfl⟩ | 4 => ⟨12, _, _, rfl⟩ | 5 => ⟨8, _, _, rfl⟩ | 6 => ⟨4, _, _, rfl⟩ | 7 => ⟨0, _, _, rfl⟩

end Cert.KernelIdeal.Sgu
-- ==== Proof.SguOut.lean ====
module

public import proofs.«01_k».proof.Proof.Gen.KernelIdeal.Frame
public import proofs.«01_k».proof.Proof.SguReads
public import Idealize.ShloMosaic.Lib.Pipeline.ValueKit
public import Idealize.ShloMosaic.Lib.Pipeline.ReadBack

/-! The spatial gating's output window at a grid point: two half blocks, each read back from the scratch chunk by chunk. -/

@[expose] public section

set_option maxRecDepth 16384

noncomputable section

namespace Cert.KernelIdeal.Sgu

open Idealize.ShloMosaic Idealize.ShloMosaic.TcCoe Idealize.SL.Sem
open Cert.KernelIdeal Cert.KernelIdeal.Gen Trunk

variable (m : (ℓ : Loc nD τ sig) → Buf (Elt Ideal) ℓ)

section Out

variable (c : Dev nD) (t : Fin cfg0.N)

/-- The top half block of rows. -/
def topX (x0 : Vec Ideal S1024x1024 .f32) : Vec Ideal S512x1024 .f32 :=
  View.ld x0 (Rect.unit (s := S1024x1024) ![0, 0] ![512, 1024] inb_S1024x1024_S512x1024_0_0)

/-- The bottom half block of rows. -/
def botX (x0 : Vec Ideal S1024x1024 .f32) : Vec Ideal S512x1024 .f32 :=
  View.ld x0 (Rect.unit (s := S1024x1024) ![512, 0] ![512, 1024] inb_S1024x1024_S512x1024_512_0)

/-- The gates' columns of the weights. -/
def colU (x1 : Vec Ideal S1024x2048 .bf16) : Vec Ideal S1024x1024 .bf16 :=
  View.ld x1 (Rect.unit (s := S1024x2048) ![0, 0] ![1024, 1024] inb_S1024x2048_S1024x1024_0_0)

/-- The values' columns of the weights. -/
def colV (x1 : Vec Ideal S1024x2048 .bf16) : Vec Ideal S1024x1024 .bf16 :=
  View.ld x1 (Rect.unit (s := S1024x2048) ![0, 1024] ![1024, 1024] inb_S1024x2048_S1024x1024_0_1024)

/-- THE OUTPUT WINDOW: the two half blocks' results. -/
theorem out_canon (y : S1024x1024.Idx) (x0 : Vec Ideal S1024x1024 .f32) (x1 : Vec Ideal S1024x2048 .bf16) (x2 x3 : Vec Ideal S1x1024 .f32)
    (x4 : Vec Ideal S8x128x128 .f32) (x5 : Vec Ideal S128x1024 .f32) (x6 : Vec Ideal S1024x1024 .bf16) (x7 x8 : Vec Ideal S1x1024 .f32)
    (h0 : iblk m c 0 t = x0) (h1 : iblk m c 1 t = x1) (h2 : iblk m c 2 t = x2) (h3 : iblk m c 3 t = x3) (h4 : iblk m c 4 t = x4)
    (h5 : iblk m c 5 t = x5) (h6 : iblk m c 6 t = x6) (h7 : iblk m c 7 t = x7) (h8 : iblk m c 8 t = x8) :
    outsAt0 m c t y = View.canon (Val := Elt Ideal) (s := S1024x1024) (e := .f32)
      [⟨Rect.unit ![512, 0] ![512, 1024] inb_S1024x1024_S512x1024_512_0,
          let V := vals (topX x0) (colV x1) x2 x3
          let V' := vals (botX x0) (colV x1) x2 x3
          outHalf (botX x0) (colU x1) x5 x6 x7 x8
            (mixAll V V' x4 4) (mixAll V V' x4 5) (mixAll V V' x4 6) (mixAll V V' x4 7)⟩,
       ⟨Rect.unit ![0, 0] ![512, 1024] inb_S1024x1024_S512x1024_0_0,
          let V := vals (topX x0) (colV x1) x2 x3
          let V' := vals (botX x0) (colV x1) x2 x3
          outHalf (topX x0) (colU x1) x5 x6 x7 x8
            (mixAll V V' x4 0) (mixAll V V' x4 1) (mixAll V V' x4 2) (mixAll V V' x4 3)⟩] y := by
  unfold outsAt0
  rw [h0, h1, h2, h3, h4, h5, h6, h7, h8]
  frame_open
  frame_out
  refine Eq.trans (show _ = View.canon (Val := Elt Ideal) (s := S1024x1024) (e := .f32)
      [⟨Rect.unit ![512, 0] ![512, 1024] inb_S1024x1024_S512x1024_512_0,
          outHalf (botX x0) (colU x1) x5 x6 x7 x8
            ((View.whole cc0_scratch0).readCov (Val := Elt Ideal) (allPieces (vals (topX x0) (colV x1) x2 x3) (vals (botX x0) (colV x1) x2 x3) x4) (Rect.unit (s := S1024x1024) ![512, 0] ![128, 1024] inb_S1024x1024_S128x1024_512_0).toLoadRect)
            ((View.whole cc0_scratch0).readCov (Val := Elt Ideal) (allPieces (vals (topX x0) (colV x1) x2 x3) (vals (botX x0) (colV x1) x2 x3) x4) (Rect.unit (s := S1024x1024) ![640, 0] ![128, 1024] inb_S1024x1024_S128x1024_640_0).toLoadRect)
            ((View.whole cc0_scratch0).readCov (Val := Elt Ideal) (allPieces (vals (topX x0) (colV x1) x2 x3) (vals (botX x0) (colV x1) x2 x3) x4) (Rect.unit (s := S1024x1024) ![768, 0] ![128, 1024] inb_S1024x1024_S128x1024_768_0).toLoadRect)
            ((View.whole cc0_scratch0).readCov (Val := Elt Ideal) (allPieces (vals (topX x0) (colV x1) x2 x3) (vals (botX x0) (colV x1) x2 x3) x4) (Rect.unit (s := S1024x1024) ![896, 0] ![128, 1024] inb_S1024x1024_S128x1024_896_0).toLoadRect)⟩,
       ⟨Rect.unit ![0, 0] ![512, 1024] inb_S1024x1024_S512x1024_0_0,
          outHalf (topX x0) (colU x1) x5 x6 x7 x8
            ((View.whole cc0_scratch0).readCov (Val := Elt Ideal) (topPieces (vals (topX x0) (colV x1) x2 x3) x4) (Rect.unit (s := S1024x1024) ![0, 0] ![128, 1024] inb_S1024x1024_S128x1024_0_0).toLoadRect)
            ((View.whole cc0_scratch0).readCov (Val := Elt Ideal) (topPieces (vals (topX x0) (colV x1) x2 x3) x4) (Rect.unit (s := S1024x1024) ![128, 0] ![128, 1024] inb_S1024x1024_S128x1024_128_0).toLoadRect)
            ((View.whole cc0_scratch0).readCov (Val := Elt Ideal) (topPieces (vals (topX x0) (colV x1) x2 x3) x4) (Rect.unit (s := S1024x1024) ![256, 0] ![128, 1024] inb_S1024x1024_S128x1024_256_0).toLoadRect)
            ((View.whole cc0_scratch0).readCov (Val := Elt Ideal) (topPieces (vals (topX x0) (colV x1) x2 x3) x4) (Rect.unit (s := S1024x1024) ![384, 0] ![128, 1024] inb_S1024x1024_S128x1024_384_0).toLoadRect)⟩] y from rfl) ?_
  rw [read0, read1, read2, read3, read4, read5, read6, read7]

end Out

/-- A half block's result at one row and one lane, the row's chunk named by its place. -/
theorem half_row (x : Vec Ideal S512x1024 .f32) (wu wv : Vec Ideal S1024x1024 .bf16) (ng nb : Vec Ideal S1x1024 .f32)
    (ws : Vec Ideal S8x128x128 .f32) (bias : Vec Ideal S128x1024 .f32) (bs : Fin 8 → Fin 128 → EReal)
    (hbs : ∀ t j, bias (ix2 t j) = bs (grp j) t)
    (wo : Vec Ideal S1024x1024 .bf16) (g b : Vec Ideal S1x1024 .f32) (p : Fin 512) (n : Fin 1024) :
    outHalf x wu bias wo g b (mixRow (vals x wv ng nb) ws 0) (mixRow (vals x wv ng nb) ws 1) (mixRow (vals x wv ng nb) ws 2)
        (mixRow (vals x wv ng nb) ws 3) (ix2 p n)
      = sguRow (fun k j => x (ix2 ⟨128 * (p / 128) + k, by omega⟩ j)) (fun k j => wu (ix2 k j)) (fun k j => wv (ix2 k j))
          (fun n => ng (ix2 0 n)) (fun n => nb (ix2 0 n)) (fun h t k => ws (ix3 h t k)) bs (fun j k => wo (ix2 j k))
          (fun n => g (ix2 0 n)) (fun n => b (ix2 0 n)) ⟨p % 128, Nat.mod_lt _ (by decide)⟩ n := by
  refine Eq.trans ?_ (half_at x wu wv ng nb ws bias bs hbs wo g b ⟨p / 128, by omega⟩ ⟨p % 128, Nat.mod_lt _ (by decide)⟩ n)
  congr 2
  exact Fin.ext (by show (p : ℕ) = 128 * ((p : ℕ) / 128) + (p : ℕ) % 128; omega)

/-- The sublayer's row over the rows of its chunk. -/
theorem sgu_chunk {H H' : Fin 128 → Fin 1024 → EReal} (Wu Wv : Fin 1024 → Fin 1024 → EReal) (ng nb : Fin 1024 → EReal)
    (ws : Fin 8 → Fin 128 → Fin 128 → EReal) (bs : Fin 8 → Fin 128 → EReal) (Wo : Fin 1024 → Fin 1024 → EReal)
    (g b : Fin 1024 → EReal) {t t' : Fin 128} (n : Fin 1024) (hH : ∀ k j, H k j = H' k j) (ht : t = t') :
    sguRow H Wu Wv ng nb ws bs Wo g b t n = sguRow H' Wu Wv ng nb ws bs Wo g b t' n := by
  obtain rfl : H = H' := funext fun k => funext fun j => hH k j
  rw [ht]

/-- THE OUTPUT WINDOW AT ONE ROW AND ONE LANE: the sublayer's row over the row's chunk of the block. -/
theorem out_at (c : Dev nD) (t : Fin cfg0.N) (r n : Fin 1024) (x0 : Vec Ideal S1024x1024 .f32) (x1 : Vec Ideal S1024x2048 .bf16)
    (x2 x3 : Vec Ideal S1x1024 .f32)
    (x4 : Vec Ideal S8x128x128 .f32) (x5 : Vec Ideal S128x1024 .f32) (x6 : Vec Ideal S1024x1024 .bf16) (x7 x8 : Vec Ideal S1x1024 .f32)
    (h0 : iblk m c 0 t = x0) (h1 : iblk m c 1 t = x1) (h2 : iblk m c 2 t = x2) (h3 : iblk m c 3 t = x3) (h4 : iblk m c 4 t = x4)
    (h5 : iblk m c 5 t = x5) (h6 : iblk m c 6 t = x6) (h7 : iblk m c 7 t = x7) (h8 : iblk m c 8 t = x8)
    (bs : Fin 8 → Fin 128 → EReal) (hbs : ∀ t j, x5 (ix2 t j) = bs (grp j) t) :
    outsAt0 m c t (ix2 r n)
      = sguRow (fun k j => x0 (ix2 ⟨128 * (r / 128) + k, by omega⟩ j)) (fun k j => x1 (ix2 k ⟨j, by omega⟩))
          (fun k j => x1 (ix2 k ⟨1024 + j, by omega⟩))
          (fun n => x2 (ix2 0 n)) (fun n => x3 (ix2 0 n)) (fun h t k => x4 (ix3 h t k)) bs (fun j k => x6 (ix2 j k))
          (fun n => x7 (ix2 0 n)) (fun n => x8 (ix2 0 n)) ⟨r % 128, Nat.mod_lt _ (by decide)⟩ n := by
  rw [out_canon m c t _ x0 x1 x2 x3 x4 x5 x6 x7 x8 h0 h1 h2 h3 h4 h5 h6 h7 h8]
  have hU : ∀ k j : Fin 1024, colU x1 (ix2 k j) = x1 (ix2 k ⟨j, by omega⟩) := fun k j => by
    refine congrArg x1 (funext fun a => ?_)
    match a with
    | ⟨0, _⟩ => exact Fin.ext (by show 0 + 1 * (k : ℕ) = k; omega)
    | ⟨1, _⟩ => exact Fin.ext (by show 0 + 1 * (j : ℕ) = j; omega)
  have hV : ∀ k j : Fin 1024, colV x1 (ix2 k j) = x1 (ix2 k ⟨1024 + j, by omega⟩) := fun k j => by
    refine congrArg x1 (funext fun a => ?_)
    match a with
    | ⟨0, _⟩ => exact Fin.ext (by show 0 + 1 * (k : ℕ) = k; omega)
    | ⟨1, _⟩ => exact Fin.ext (by show 1024 + 1 * (j : ℕ) = 1024 + j; omega)
  simp only [← hU, ← hV]
  clear h0 h1 h2 h3 h4 h5 h6 h7 h8
  canon_tiles z h
  · idx_vars z
    have hr : (r : ℕ) = 512 + (z0 : ℕ) := h0
    obtain rfl : n = z1 := Fin.ext h1
    refine (half_row (botX x0) (colU x1) (colV x1) x2 x3 x4 x5 bs hbs x6 x7 x8 z0 n).trans ?_
    refine sgu_chunk _ _ _ _ _ _ _ _ _ n (fun k j => congrArg x0 (funext fun a => ?_)) (Fin.ext (by show (z0 : ℕ) % 128 = (r : ℕ) % 128; omega))
    match a with
    | ⟨0, _⟩ => exact Fin.ext (by show 512 + 1 * (128 * ((z0 : ℕ) / 128) + (k : ℕ)) = 128 * ((r : ℕ) / 128) + (k : ℕ); omega)
    | ⟨1, _⟩ => exact Fin.ext (by show 0 + 1 * (j : ℕ) = j; omega)
  · idx_vars z
    have hr : (r : ℕ) = (z0 : ℕ) := h0
    obtain rfl : n = z1 := Fin.ext h1
    refine (half_row (topX x0) (colU x1) (colV x1) x2 x3 x4 x5 bs hbs x6 x7 x8 z0 n).trans ?_
    refine sgu_chunk _ _ _ _ _ _ _ _ _ n (fun k j => congrArg x0 (funext fun a => ?_)) (Fin.ext (by show (z0 : ℕ) % 128 = (r : ℕ) % 128; omega))
    match a with
    | ⟨0, _⟩ => exact Fin.ext (by show 0 + 1 * (128 * ((z0 : ℕ) / 128) + (k : ℕ)) = 128 * ((r : ℕ) / 128) + (k : ℕ); omega)
    | ⟨1, _⟩ => exact Fin.ext (by show 0 + 1 * (j : ℕ) = j; omega)

end Cert.KernelIdeal.Sgu
-- ==== Proof.SguValue.lean ====
module

public import proofs.«01_k».proof.Proof.SguOut
public import proofs.«01_k».proof.Proof.Gen.KernelIdeal.Value
public import Idealize.ShloMosaic.Lib.Pipeline.ValueKit

/-! The array the spatial gating's call writes, as the row function at every row and lane. -/

@[expose] public section

set_option maxRecDepth 16384

noncomputable section

namespace Cert.KernelIdeal.Sgu

open Idealize.ShloMosaic Idealize.ShloMosaic.TcCoe Idealize.SL.Sem
open Cert.KernelIdeal Cert.KernelIdeal.Gen Trunk

variable (m : (ℓ : Loc nD τ sig) → Buf (Elt Ideal) ℓ)

/-- Each window's block index at each grid point. -/
theorem idx : ∀ t : Fin cfg0.N, win0_0.index t = ![t.val, 0] ∧ win0_1.index t = ![0, 0] ∧ win0_2.index t = ![0, 0]
    ∧ win0_3.index t = ![0, 0] ∧ win0_4.index t = ![0, 0, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, _)

/-- The sublayer's argument by batch, row and lane. -/
abbrev X3 (c : Dev nD) (b : Fin 8) (s : Fin 4096) (k : Fin 1024) : EReal := m ((c : Thread nD τ).loc main_arg0) (ix3 b s k)

/-- The flattened argument the call is given. -/
theorem flat_at (c : Dev nD) (R : Fin 32768) (k : Fin 1024) : V m c main_v0 (ix2 R k) = X3 m c (bat R) (pos R) k := by
  entry_read
  pointwise [bat, pos]

/-- A block of the flattened argument holds the argument's rows. -/
theorem blk0 (c : Dev nD) (t : Fin cfg0.N) (r k : Fin 1024) (R : Fin 32768) (hR : (R : ℕ) = 1024 * t + r) :
    iblk m c 0 t (ix2 r k) = X3 m c (bat R) (pos R) k := by
  refine Eq.trans ?_ (flat_at m c R k)
  blk_ext [iblk, idx t]

theorem blk1 (c : Dev nD) (t : Fin cfg0.N) (k : Fin 1024) (o : Fin 2048) :
    iblk m c 1 t (ix2 k o) = m ((c : Thread nD τ).loc main_arg1) (ix2 k o) := by
  blk_point [iblk, V, idx t]

theorem blk2 (c : Dev nD) (t : Fin cfg0.N) (k : Fin 1024) :
    iblk m c 2 t (ix2 0 k) = m ((c : Thread nD τ).loc main_arg2) (ix1 k) := by
  blk_point [iblk, V, idx t]

theorem blk3 (c : Dev nD) (t : Fin cfg0.N) (k : Fin 1024) :
    iblk m c 3 t (ix2 0 k) = m ((c : Thread nD τ).loc main_arg3) (ix1 k) := by
  blk_point [iblk, V, idx t]

theorem blk4 (c : Dev nD) (t : Fin cfg0.N) (h : Fin 8) (a k : Fin 128) :
    iblk m c 4 t (ix3 h a k) = m ((c : Thread nD τ).loc main_arg4) (ix3 h a k) := by
  blk_point [iblk, V, idx t]

/-- The bias the call is given: each group's column repeated over the group's lanes. -/
theorem bias_at (c : Dev nD) (a : Fin 128) (j : Fin 1024) :
    V m c main_v3 (ix2 a j) = m ((c : Thread nD τ).loc main_arg5) (ix2 (grp j) a) := by
  entry_read
  pointwise [grp]

theorem blk5 (c : Dev nD) (t : Fin cfg0.N) (a : Fin 128) (j : Fin 1024) :
    iblk m c 5 t (ix2 a j) = m ((c : Thread nD τ).loc main_arg5) (ix2 (grp j) a) := by
  refine Eq.trans ?_ (bias_at m c a j)
  blk_ext [iblk, idx t]

theorem blk6 (c : Dev nD) (t : Fin cfg0.N) (q : Fin 1024) (k : Fin 1024) :
    iblk m c 6 t (ix2 q k) = m ((c : Thread nD τ).loc main_arg6) (ix2 q k) := by
  blk_point [iblk, V, idx t]

theorem blk7 (c : Dev nD) (t : Fin cfg0.N) (k : Fin 1024) :
    iblk m c 7 t (ix2 0 k) = m ((c : Thread nD τ).loc main_arg7) (ix1 k) := by
  blk_point [iblk, V, idx t]

theorem blk8 (c : Dev nD) (t : Fin cfg0.N) (k : Fin 1024) :
    iblk m c 8 t (ix2 0 k) = m ((c : Thread nD τ).loc main_arg8) (ix1 k) := by
  blk_point [iblk, V, idx t]

/-- The array the call writes. -/
def G (c : Dev nD) : FVec Ideal S32768x1024 .f32 := fun y =>
  sguOut (X3 m c) (fun k o => m ((c : Thread nD τ).loc main_arg1) (ix2 k o)) (fun o => m ((c : Thread nD τ).loc main_arg2) (ix1 o))
    (fun o => m ((c : Thread nD τ).loc main_arg3) (ix1 o)) (fun h a k => m ((c : Thread nD τ).loc main_arg4) (ix3 h a k))
    (fun h a => m ((c : Thread nD τ).loc main_arg5) (ix2 h a)) (fun q k => m ((c : Thread nD τ).loc main_arg6) (ix2 q k))
    (fun k => m ((c : Thread nD τ).loc main_arg7) (ix1 k)) (fun k => m ((c : Thread nD τ).loc main_arg8) (ix1 k)) (y 0) (y 1)

/-- The sublayer's row is a function of its rows and weights. -/
theorem sguRow_congr {H H' : Fin 128 → Fin 1024 → EReal} {Wu Wu' Wv Wv' : Fin 1024 → Fin 1024 → EReal} {ng ng' nb nb' : Fin 1024 → EReal}
    {ws ws' : Fin 8 → Fin 128 → Fin 128 → EReal} (bs : Fin 8 → Fin 128 → EReal) {Wo Wo' : Fin 1024 → Fin 1024 → EReal}
    {g g' b b' : Fin 1024 → EReal} {t t' : Fin 128} (n : Fin 1024) (hH : H = H') (hu : Wu = Wu') (hv : Wv = Wv') (hng : ng = ng')
    (hnb : nb = nb') (hws : ws = ws') (hWo : Wo = Wo') (hg : g = g') (hb : b = b') (ht : t = t') :
    sguRow H Wu Wv ng nb ws bs Wo g b t n = sguRow H' Wu' Wv' ng' nb' ws' bs Wo' g' b' t' n := by
  subst hH hu hv hng hnb hws hWo hg hb ht
  rfl

/-- What one grid point writes, at one row and one lane of its block. -/
theorem point (c : Dev nD) (t : Fin cfg0.N) (r n : Fin 1024) (R : Fin 32768) (hR : (R : ℕ) = 1024 * t + r) :
    outsAt0 m c t (ix2 r n) = G m c (ix2 R n) := by
  refine (out_at m c t r n _ _ _ _ _ _ _ _ _ rfl rfl rfl rfl rfl rfl rfl rfl rfl
    (fun h a => m ((c : Thread nD τ).loc main_arg5) (ix2 h a)) (fun a j => blk5 m c t a j)).trans ?_
  have hr := r.isLt
  have ht : t.val < 32 := t.isLt
  unfold G sguOut
  refine sguRow_congr _ n (funext fun k => funext fun j => ?_) (funext fun k => funext fun j => blk1 m c t _ _)
    (funext fun k => funext fun j => blk1 m c t _ _) (funext fun k => blk2 m c t k) (funext fun k => blk3 m c t k)
    (funext fun h => funext fun a => funext fun k => blk4 m c t h a k) (funext fun q => funext fun k => blk6 m c t q k)
    (funext fun k => blk7 m c t k) (funext fun k => blk8 m c t k) (Fin.ext ?_)
  · refine (blk0 m c t _ j ⟨1024 * t.val + (128 * (r / 128) + k), by omega⟩ rfl).trans ?_
    refine congrArg₂ (fun b s => X3 m c b s j) (Fin.ext ?_) (Fin.ext ?_)
    · show (1024 * t.val + (128 * ((r : ℕ) / 128) + (k : ℕ))) / 4096 = (R : ℕ) / 4096
      omega
    · show (1024 * t.val + (128 * ((r : ℕ) / 128) + (k : ℕ))) % 4096 = (R : ℕ) % 4096 / 128 * 128 + (k : ℕ)
      omega
  · show (r : ℕ) % 128 = (R : ℕ) % 4096 % 128
    omega

/-- The array after the call. -/
theorem final (c : Dev nD) : (dats m 0 c).arrAt 9 cfg0.N = G m c := by
  refine (dats m 0 c).arrAt_eq_of_covers 9 _ (by decide +kernel) fun t _ y => ?_
  blk_simp
  rw [after0_9]
  idx_vars y
  have ht : t.val < 32 := t.isLt
  refine (point m c t y0 y1 ⟨1024 * t.val + y0, by omega⟩ rfl).trans (congrArg (G m c) ?_)
  symm
  blk_ext [idx t]

end Cert.KernelIdeal.Sgu
-- ==== Proof.SguRef.lean ====
module

public import proofs.«01_k».proof.Proof.Gen.ReferenceIdeal.Read
public import proofs.«01_k».proof.Proof.SguRows

/-! The spatial gating's reference, read at one row and one lane as the row function `sguRow`. -/

@[expose] public section

set_option maxRecDepth 16384

noncomputable section

namespace Cert.ReferenceIdeal.Sgu

open Idealize.ShloMosaic Idealize.ShloMosaic.TcCoe Idealize.SL.Sem
open Cert.ReferenceIdeal Cert.ReferenceIdeal.Gen Cert.ReferenceIdeal.Read Trunk

variable (x0 : FVec Ideal S8x4096x1024 .f32) (x1 : FVec Ideal S1024x2048 .f32) (x2 x3 : FVec Ideal S1024 .f32)
  (x4 : FVec Ideal S8x128x128 .f32) (x5 : FVec Ideal S8x128 .f32) (x6 : FVec Ideal S1024x1024 .f32) (x7 x8 : FVec Ideal S1024 .f32)

/-- The sublayer's argument by batch, row and lane. -/
abbrev X3 (X : FVec Ideal S8x4096x1024 .f32) (b : Fin 8) (s : Fin 4096) (k : Fin 1024) : EReal := X (ix3 b s k)

/-- The gelu of the projection of one row onto one channel. -/
theorem gelu_at (b : Fin 8) (s : Fin 4096) (o : Fin 2048) :
    val_main_v13 (F := Ideal) x0 x1 (ix3 b s o) = gelu (rowDot (fun k => x0 (ix3 b s k)) (fun k => x1 (ix2 k o))) := by
  rw [← gelu_right]
  have h : val_main_v0 (F := Ideal) x0 x1 (ix3 b s o) = rowDot (fun k => x0 (ix3 b s k)) (fun k => x1 (ix2 k o)) := by
    pointwise [val_main_v0, rowDot]
  pointwise [val_main_v13, val_main_v12, val_main_v11, val_main_v10, val_main_v9, val_main_v8, val_main_v7, val_main_v6, val_main_v5, val_main_v4, val_main_v3, val_main_v2, val_main_v1, val_main_cst, val_main_cst_0, val_main_cst_1, val_main_cst_2, h, gHalf, gCube, gSlope, gOne]
  all_goals rfl

/-- The normed values at one row and one lane. -/
theorem val_at (b : Fin 8) (s : Fin 4096) (j : Fin 1024) :
    val_main_v39 (F := Ideal) x0 x1 x2 x3 (ix3 b s j)
      = valRow (fun k => x0 (ix3 b s k)) (fun k j => x1 (ix2 k ⟨1024 + j, by omega⟩)) (fun n => x2 (ix1 n)) (fun n => x3 (ix1 n)) j := by
  unfold valRow rowNorm rowMean
  pointwise [val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_cst_3, val_main_cst_4, val_main_cst_5, val_main_cst_6, val_main_cst_7, gelu_at, lanes, eps]
  all_goals rfl

/-- The mask's test, as the row test. -/
theorem mask_at (t k : Fin 128) : val_main_v42 (F := Ideal) (ix2 t k) = if k ≤ t then gOne else 0 := by
  pointwise [val_main_v42, val_main_v41, val_main_call0_v0, val_main_call0_c, val_main_call0_v1, val_main_call0_v2, val_main_call0_v3,
    val_main_call0_v4, val_main_call0_cst, val_main_call0_v5, val_main_cst_8]
  have h := (by decide +kernel : ∀ t k : Fin 128,
    IntOp.cmpi CmpIPredicate.sge (IntOp.addi (BitVec.ofNat 32 (t : ℕ)) 0#32) (BitVec.ofNat 32 (k : ℕ)) = if k ≤ t then 1#1 else 0#1) t k
  rw [h]
  split_ifs
  · rfl
  · rfl

/-- The causal mix at one row and one lane. -/
theorem mix_at (b : Fin 8) (s : Fin 4096) (j : Fin 1024) :
    val_main_v52 (F := Ideal) x0 x1 x2 x3 x4 x5 (ix3 b s j)
      = causalMix (fun k => x4 (ix3 (grp j) (place s) k))
          (fun k => valRow (chunk (X3 x0) b s k) (fun k j => x1 (ix2 k ⟨1024 + j, by omega⟩)) (fun n => x2 (ix1 n)) (fun n => x3 (ix1 n)) j) (place s)
        + x5 (ix2 (grp j) (place s)) := by
  pointwise [val_main_v52, val_main_v51, val_main_v50, val_main_v49, val_main_v48, val_main_v47, val_main_v46, val_main_v45, val_main_v44, val_main_v43, val_main_v40, mask_at, val_at]
  refine congrArg (· + x5 (ix2 (grp j) (place s))) (Finset.sum_congr rfl fun k _ => ?_)
  rw [mul_comm]
  refine congrArg₂ (· * ·) ?_ rfl
  show _ * (if k ≤ place s then (1 : EReal) else 0) = if k ≤ place s then _ else 0
  by_cases h : k ≤ place s
  · rw [if_pos h, if_pos h, mul_one]
    rfl
  · rw [if_neg h, if_neg h, mul_zero]

/-- The reference at one row and one lane. -/
theorem ref_at (R : Fin 32768) (n : Fin 1024) :
    val_main_v82 (F := Ideal) x0 x1 x2 x3 x4 x5 x6 x7 x8 (ix2 R n)
      = sguOut (X3 x0) (fun k o => x1 (ix2 k o)) (fun n => x2 (ix1 n)) (fun n => x3 (ix1 n)) (fun h t k => x4 (ix3 h t k))
          (fun h t => x5 (ix2 h t)) (fun j k => x6 (ix2 j k)) (fun n => x7 (ix1 n)) (fun n => x8 (ix1 n)) R n := by
  have hy : ∀ (b : Fin 8) (s : Fin 4096) (k : Fin 1024), val_main_v57 (F := Ideal) x0 x1 x2 x3 x4 x5 x6 (ix3 b s k)
      = alpha * chunk (X3 x0) b s (place s) k + rowDot (gatedRow (chunk (X3 x0) b s) (fun k j => x1 (ix2 k ⟨j, by omega⟩))
          (fun k j => x1 (ix2 k ⟨1024 + j, by omega⟩)) (fun n => x2 (ix1 n)) (fun n => x3 (ix1 n)) (fun h t k => x4 (ix3 h t k))
          (fun h t => x5 (ix2 h t)) (place s)) (fun j => x6 (ix2 j k)) := by
    intro b s k
    have hs : ∀ k, chunk (X3 x0) b s (place s) k = x0 (ix3 b s k) := fun k =>
      congrArg (fun s => x0 (ix3 b s k)) (Fin.ext (by show (s : ℕ) / 128 * 128 + (s : ℕ) % 128 = s; omega))
    have hg : ∀ j : Fin 1024, gatedRow (chunk (X3 x0) b s) (fun k j => x1 (ix2 k ⟨j, by omega⟩))
          (fun k j => x1 (ix2 k ⟨1024 + j, by omega⟩)) (fun n => x2 (ix1 n)) (fun n => x3 (ix1 n)) (fun h t k => x4 (ix3 h t k))
          (fun h t => x5 (ix2 h t)) (place s) j = val_main_v53 (F := Ideal) x0 x1 x2 x3 x4 x5 (ix3 b s j) := by
      intro j
      unfold gatedRow
      rw [funext hs]
      pointwise [val_main_v53, mix_at, val_main_v14, gelu_at]
    rw [funext hg, hs]
    pointwise [val_main_v57, val_main_v56, val_main_v55, val_main_cst_9, val_main_v54, rowDot]
  unfold sguOut sguRow rowNorm rowMean bat pos
  pointwise [val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58,
    val_main_cst_10, val_main_cst_11, val_main_cst_12, val_main_cst_13, val_main_cst_14, hy, lanes, eps]
  all_goals rfl

end Cert.ReferenceIdeal.Sgu
-- ==== Proof.SguClaim.lean ====
module

public import proofs.«01_k».proof.Proof.SguValue
public import proofs.«01_k».proof.Proof.SguRef
public import proofs.«01_k».proof.Defs
public import Idealize.ShloMosaic.Lib.Quiescent

/-! The spatial gating's call and its reference end with equal results. -/

@[expose] public section

noncomputable section

namespace Trunk

open Idealize.ShloMosaic Idealize.ShloMosaic.TcCoe Idealize.SL.Sem

/-- The reference of the spatial gating runs, keeps its arguments and leaves every counter at zero. -/
theorem sgu_ref_frame [Cert.ReferenceIdeal.Facts] : Cert.quiescent_ReferenceIdeal := fun m ρ _ =>
  (θ_run _ _ _).mono (fun r h => ⟨fun c => (h c).2, sem_eq_zero_of_no_sems rfl r.2⟩) (Cert.ReferenceIdeal.Value.run m ρ)

/-- From equal arguments the spatial gating's call and its reference end with equal results. -/
theorem sgu_algebraic [Cert.KernelIdeal.Facts] [Cert.ReferenceIdeal.Facts] : Cert.algebraic_KernelIdeal_ReferenceIdeal :=
  fun m ρ m' ρ' _ hag => ⟨fun c => Cert.KernelIdeal.Sgu.G m c,
    (θ_run _ _ _).mono (fun _ h c => ⟨(h c).1.trans (Cert.KernelIdeal.Sgu.final m c), (h c).2⟩) (Cert.KernelIdeal.Value.run_blocks m ρ),
    (θ_run _ _ _).mono (fun _ h c => ⟨(h c).1.trans (by
      obtain ⟨e0, e1, e2, e3, e4, e5, e6, e7, e8⟩ := hag c
      rw [Cert.ReferenceIdeal.Read.val_main_v82_eq, e0, e1, e2, e3, e4, e5, e6, e7, e8]
      funext y
      idx_vars y
      exact Cert.ReferenceIdeal.Sgu.ref_at _ _ _ _ _ _ _ _ _ y0 y1), (h c).2⟩) (Cert.ReferenceIdeal.Value.run m' ρ')⟩

end Trunk
-- ==== Proof.FfnTile.lean ====
module

public import proofs.«01_k».proof.Proof.Gen.Kernel2Ideal.Frame
public import proofs.«01_k».proof.Proof.Rows
public import Idealize.ShloMosaic.Lib.Pipeline.ValueKit

/-! The conv FFN's body, column tile by column tile: the up projection of the halo rows and the block's rows, the
    causal convolution by rolling rows, the gate, each read at one row and one channel. -/

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen Trunk

/-- The rows of a tile moved down by one: row `r` of the result is row `r - 1`, the rows being held eight to a group. -/
def roll (v : FVec Ideal S1032x512 .f32) : FVec Ideal S1032x512 .f32 :=
  let g := dynamicRotate 1 1#32 none (shapeCast S129x8x512 v shapeCasts_S1032x512_S129x8x512) rotates_S129x8x512_d1
  shapeCast S1032x512
    (select
      (broadcastTo S129x8x512 (shapeCast S1x8x1 (cmpi .eq (iota .tc S1x8x1 32 [1] iota_S1x8x1_d1_w32) (broadcast S1x8x1 0#32))
        shapeCasts_S1x8x1_S1x8x1) broadcasts_S1x8x1_S129x8x512)
      (concatenate S129x8x512 0
        [⟨S1x8x512, extractStridedSlice S1x8x512 ![128, 0, 0] g slices_S129x8x512_o128_0_0_S1x8x512⟩,
         ⟨S128x8x512, extractStridedSlice S128x8x512 ![0, 0, 0] g slices_S129x8x512_o0_0_0_S128x8x512⟩]
        concatenates_S1x8x512_S128x8x512_S129x8x512_d0)
      g) shapeCasts_S129x8x512_S1032x512

/-- The up projection of 1032 rows onto a value tile and a gate tile of 256 channels each, side by side. -/
def upTile (h : FVec Ideal S1032x1024 .bf16) (wa wg : FVec Ideal S1024x256 .bf16) : FVec Ideal S1032x512 .f32 :=
  concatenate S1032x512 1
    [⟨S1032x256, matmul dot_S1032x1024_S1024x256_S1032x256_1_0_0_1_n_n none h
        (shapeCast S1024x256 wa shapeCasts_S1024x256_S1024x256) (constant S1032x256 .f32 0x00000000#32)⟩,
     ⟨S1032x256, matmul dot_S1032x1024_S1024x256_S1032x256_1_0_0_1_n_n none h
        (shapeCast S1024x256 wg shapeCasts_S1024x256_S1024x256) (constant S1032x256 .f32 0x00000000#32)⟩]
    concatenates_S1032x256_S1032x256_S1032x512_d1

/-- The convolution's weights of a value tile and a gate tile, side by side. -/
def coefTile (ca cg : FVec Ideal S3x256 .f32) : FVec Ideal S3x512 .f32 :=
  concatenate S3x512 1 [⟨S3x256, ca⟩, ⟨S3x256, cg⟩] concatenates_S3x256_S3x256_S3x512_d1

/-- The causal convolution of a tile over its rows, with the bias, the eight halo rows dropped. -/
def convTile (u : FVec Ideal S1032x512 .f32) (ca cg : FVec Ideal S3x256 .f32) (ba bg : FVec Ideal S1x256 .f32) :
    FVec Ideal S1024x512 .f32 :=
  addf
    (extractStridedSlice S1024x512 ![8, 0]
      (addf (mulf (broadcastTo S1032x512 (extractStridedSlice S1x512 ![2, 0] (coefTile ca cg) slices_S3x512_o2_0_S1x512) broadcasts_S1x512_S1032x512) u)
        (roll (addf (mulf (broadcastTo S1032x512 (extractStridedSlice S1x512 ![1, 0] (coefTile ca cg) slices_S3x512_o1_0_S1x512) broadcasts_S1x512_S1032x512) u)
          (roll (mulf (broadcastTo S1032x512 (extractStridedSlice S1x512 ![0, 0] (coefTile ca cg) slices_S3x512_o0_0_S1x512) broadcasts_S1x512_S1032x512) u)))))
      slices_S1032x512_o8_0_S1024x512)
    (broadcastTo S1024x512
      (concatenate S1x512 1 [⟨S1x256, shapeCast S1x256 ba shapeCasts_S1x256_S1x256⟩, ⟨S1x256, shapeCast S1x256 bg shapeCasts_S1x256_S1x256⟩]
        concatenates_S1x256_S1x256_S1x512_d1) broadcasts_S1x512_S1024x512)

/-- The gated activation of a tile: its value half times the gate half's `g · logistic g`. -/
def gateTile (t : FVec Ideal S1024x512 .f32) : FVec Ideal S1024x256 .bf16 :=
  truncf .bf16
    (mulf (extractStridedSlice S1024x256 ![0, 0] t slices_S1024x512_o0_0_S1024x256)
      (mulf (extractStridedSlice S1024x256 ![0, 256] t slices_S1024x512_o0_256_S1024x256)
        (logistic (extractStridedSlice S1024x256 ![0, 256] t slices_S1024x512_o0_256_S1024x256)))) bitsLt_bf16_f32

/-- Row `r` of a rolled tile is row `r - 1` of the tile. -/
theorem roll_at (v : FVec Ideal S1032x512 .f32) (r : Fin 1032) (c : Fin 512) (h : 1 ≤ (r : ℕ)) :
    roll v (ix2 r c) = v (ix2 ⟨(r : ℕ) - 1, by omega⟩ c) := by
  pointwise [roll]
  have hr := r.isLt
  by_cases h8 : (r : ℕ) % 8 = 0
  · have e : IntOp.cmpi CmpIPredicate.eq (BitVec.ofNat 32 ((r : ℕ) % 8)) 0#32 = 1#1 := by rw [h8]; decide
    rw [e, dif_neg (by omega)]
    show v _ = v _
    congr 2
    exact Fin.ext (by show (_ : ℕ) = _; simp only []; omega)
  · have e : IntOp.cmpi CmpIPredicate.eq (BitVec.ofNat 32 ((r : ℕ) % 8)) 0#32 = 0#1 := by
      have h7 : (r : ℕ) % 8 < 8 := Nat.mod_lt _ (by decide)
      generalize (r : ℕ) % 8 = q at h8 h7
      interval_cases q <;> first | exact absurd rfl h8 | decide
    rw [e]
    show v _ = v _
    congr 2
    exact Fin.ext (by show (_ : ℕ) = _; simp only []; omega)

/-- The up projection of a tile at one row, in the value half. -/
theorem upTile_left (h : FVec Ideal S1032x1024 .bf16) (wa wg : FVec Ideal S1024x256 .bf16) (r : Fin 1032) (c : Fin 256) :
    upTile h wa wg (ix2 r ⟨c, by omega⟩) = rowDot (fun k => h (ix2 r k)) (fun k => wa (ix2 k c)) := by
  pointwise [upTile, rowDot]

/-- The up projection of a tile at one row, in the gate half. -/
theorem upTile_right (h : FVec Ideal S1032x1024 .bf16) (wa wg : FVec Ideal S1024x256 .bf16) (r : Fin 1032) (c : Fin 256) :
    upTile h wa wg (ix2 r ⟨256 + c, by omega⟩) = rowDot (fun k => h (ix2 r k)) (fun k => wg (ix2 k c)) := by
  pointwise [upTile, rowDot]

/-- The convolved tile at one row and one channel. -/
theorem convTile_at (u : FVec Ideal S1032x512 .f32) (ca cg : FVec Ideal S3x256 .f32) (ba bg : FVec Ideal S1x256 .f32)
    (r : Fin 1024) (c : Fin 512) :
    convTile u ca cg ba bg (ix2 r c)
      = conv3 (coefTile ca cg (ix2 0 c)) (coefTile ca cg (ix2 1 c)) (coefTile ca cg (ix2 2 c))
          (if h : (c : ℕ) < 256 then ba (ix2 0 ⟨c, h⟩) else bg (ix2 0 ⟨(c : ℕ) - 256, by omega⟩))
          (u (ix2 ⟨(r : ℕ) + 6, by omega⟩ c)) (u (ix2 ⟨(r : ℕ) + 7, by omega⟩ c)) (u (ix2 ⟨(r : ℕ) + 8, by omega⟩ c)) := by
  have a8 : ∀ h, (⟨8 + (r : ℕ), h⟩ : Fin 1032) = ⟨(r : ℕ) + 8, by omega⟩ := fun _ => Fin.ext (Nat.add_comm _ _)
  pointwise [convTile, conv3]
  rw [a8, roll_at _ _ _ (by show 1 ≤ (r : ℕ) + 8; omega)]
  pointwise
  rw [roll_at _ _ _ (by show 1 ≤ (r : ℕ) + 8 - 1; omega)]
  pointwise
  rfl

/-- The gated activation of a tile at one row and one channel. -/
theorem gateTile_at (t : FVec Ideal S1024x512 .f32) (r : Fin 1024) (c : Fin 256) :
    gateTile t (ix2 r c)
      = t (ix2 r ⟨c, by omega⟩) * (t (ix2 r ⟨256 + c, by omega⟩) * Ideal.logistic (t (ix2 r ⟨256 + c, by omega⟩))) := by
  pointwise [gateTile]

/-- The convolution's weights, side by side, in the value half. -/
theorem coefTile_left (ca cg : FVec Ideal S3x256 .f32) (a : Fin 3) (c : Fin 256) :
    coefTile ca cg (ix2 a ⟨c, by omega⟩) = ca (ix2 a c) := by
  pointwise [coefTile]

/-- The convolution's weights, side by side, in the gate half. -/
theorem coefTile_right (ca cg : FVec Ideal S3x256 .f32) (a : Fin 3) (c : Fin 256) :
    coefTile ca cg (ix2 a ⟨256 + c, by omega⟩) = cg (ix2 a c) := by
  pointwise [coefTile]

/-- A tile of gated activations from 1032 rows and the tile's six parameter blocks. -/
def tileOut (h : FVec Ideal S1032x1024 .bf16) (wa wg : Vec Ideal S1024x256 .bf16) (ca cg : Vec Ideal S3x256 .f32)
    (ba bg : Vec Ideal S1x256 .f32) : FVec Ideal S1024x256 .bf16 :=
  gateTile (convTile (upTile h wa wg) ca cg ba bg)

/-- A TILE of gated activations, whose parameters are the channels from `o` on of the whole parameters, holds at row `r`
    the activations of channel `o + c`, computed from the rows `r + 6`, `r + 7`, `r + 8` of the halo and the block. -/
theorem tileOut_at (h : FVec Ideal S1032x1024 .bf16) (wa wg : Vec Ideal S1024x256 .bf16) (ca cg : Vec Ideal S3x256 .f32)
    (ba bg : Vec Ideal S1x256 .f32) (W : Fin 1024 → Fin 5632 → EReal) (C : Fin 3 → Fin 5632 → EReal) (B : Fin 5632 → EReal)
    (o : ℕ) (ho : o + 256 ≤ 2816)
    (hwa : ∀ (k : Fin 1024) (c : Fin 256), wa (ix2 k c) = W k ⟨o + c, by omega⟩)
    (hwg : ∀ (k : Fin 1024) (c : Fin 256), wg (ix2 k c) = W k ⟨2816 + (o + c), by omega⟩)
    (hca : ∀ (k : Fin 3) (c : Fin 256), ca (ix2 k c) = C k ⟨o + c, by omega⟩)
    (hcg : ∀ (k : Fin 3) (c : Fin 256), cg (ix2 k c) = C k ⟨2816 + (o + c), by omega⟩)
    (hba : ∀ (c : Fin 256), ba (ix2 0 c) = B ⟨o + c, by omega⟩)
    (hbg : ∀ (c : Fin 256), bg (ix2 0 c) = B ⟨2816 + (o + c), by omega⟩)
    (r : Fin 1024) (c : Fin 256) :
    tileOut h wa wg ca cg ba bg (ix2 r c)
      = actCol (fun k => h (ix2 ⟨(r : ℕ) + 6, by omega⟩ k)) (fun k => h (ix2 ⟨(r : ℕ) + 7, by omega⟩ k))
          (fun k => h (ix2 ⟨(r : ℕ) + 8, by omega⟩ k)) W C B ⟨o + c, by omega⟩ := by
  have hl : (c : ℕ) < 256 := c.isLt
  have hn : ¬ (256 + (c : ℕ)) < 256 := by omega
  have e6 : ∀ p, (⟨256 + (c : ℕ) - 256, p⟩ : Fin 256) = c := fun _ => Fin.ext (Nat.add_sub_cancel_left _ _)
  rw [tileOut, gateTile_at, convTile_at, convTile_at, dif_pos hl, dif_neg hn]
  simp only [upTile_left, upTile_right, coefTile_left, coefTile_right, hwa, hwg, hca, hcg, hba, e6, hbg, actCol, chanConv]

end Cert.Kernel2Ideal.Ffn
-- ==== Proof.FfnBody.lean ====
module

public import proofs.«01_k».proof.Proof.FfnTile

/-! The conv FFN's whole body: its eleven tiles, their concatenation, the down projection, the residual and the norm,
    read at one row and one lane as the row function `ffnRow` of the halo rows and the block's rows. -/

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen Trunk

variable (i : grid0.Coords) (x0 : Vec Ideal S1024x1024 .f32) (x1 : Vec Ideal S8x1024 .f32) (x2 : Vec Ideal S1024x5632 .bf16)
  (x3 : Vec Ideal S3x5632 .f32) (x4 : Vec Ideal S1x5632 .f32) (x5 : Vec Ideal S2816x1024 .bf16) (x6 x7 : Vec Ideal S1x1024 .f32)

/-- The activations of row `r` of a block, from the rows its convolution reads. -/
abbrev blockAct (r : Fin 1024) : Fin 2816 → EReal :=
  actCol (fun k => k0_pay62 (F := Ideal) i x0 x1 x2 x3 x4 x5 x6 x7 (ix2 ⟨(r : ℕ) + 6, by omega⟩ k))
    (fun k => k0_pay62 (F := Ideal) i x0 x1 x2 x3 x4 x5 x6 x7 (ix2 ⟨(r : ℕ) + 7, by omega⟩ k))
    (fun k => k0_pay62 (F := Ideal) i x0 x1 x2 x3 x4 x5 x6 x7 (ix2 ⟨(r : ℕ) + 8, by omega⟩ k))
    (fun k o => x2 (ix2 k o)) (fun a o => x3 (ix2 a o)) (fun o => x4 (ix2 0 o))

/-- Tile 0 of the body holds the activations of channels 0 to 255. -/
theorem tile0_at (r : Fin 1024) (c : Fin 256) :
    tileOut (k0_pay62 (F := Ideal) i x0 x1 x2 x3 x4 x5 x6 x7) (View.ld x2 r0_2) (View.ld x2 r0_3) (View.ld x3 r0_6) (View.ld x3 r0_7) (View.ld x4 r0_8) (View.ld x4 r0_9) (ix2 r c)
      = blockAct i x0 x1 x2 x3 x4 x5 x6 x7 r ⟨0 + c, by omega⟩ :=
  tileOut_at _ _ _ _ _ _ _ (fun k o => x2 (ix2 k o)) (fun a o => x3 (ix2 a o)) (fun o => x4 (ix2 0 o)) 0 (by decide)
    (fun k c => by pointwise) (fun k c => by pointwise) (fun k c => by pointwise) (fun k c => by pointwise)
    (fun c => by pointwise) (fun c => by pointwise) r c

/-- Tile 1 of the body holds the activations of channels 256 to 511. -/
theorem tile1_at (r : Fin 1024) (c : Fin 256) :
    tileOut (k0_pay62 (F := Ideal) i x0 x1 x2 x3 x4 x5 x6 x7) (View.ld x2 r0_4) (View.ld x2 r0_5) (View.ld x3 r0_12) (View.ld x3 r0_13) (View.ld x4 r0_14) (View.ld x4 r0_15) (ix2 r c)
      = blockAct i x0 x1 x2 x3 x4 x5 x6 x7 r ⟨256 + c, by omega⟩ :=
  tileOut_at _ _ _ _ _ _ _ (fun k o => x2 (ix2 k o)) (fun a o => x3 (ix2 a o)) (fun o => x4 (ix2 0 o)) 256 (by decide)
    (fun k c => by pointwise) (fun k c => by
      pointwise
      exact congrArg (fun o => x2 (ix2 k o)) (Fin.ext (show 3072 + (c : ℕ) = 2816 + (256 + (c : ℕ)) by omega))) (fun k c => by pointwise) (fun k c => by
      pointwise
      exact congrArg (fun o => x3 (ix2 k o)) (Fin.ext (show 3072 + (c : ℕ) = 2816 + (256 + (c : ℕ)) by omega)))
    (fun c => by pointwise) (fun c => by
      pointwise
      exact congrArg (fun o => x4 (ix2 0 o)) (Fin.ext (show 3072 + (c : ℕ) = 2816 + (256 + (c : ℕ)) by omega))) r c

/-- Tile 2 of the body holds the activations of channels 512 to 767. -/
theorem tile2_at (r : Fin 1024) (c : Fin 256) :
    tileOut (k0_pay62 (F := Ideal) i x0 x1 x2 x3 x4 x5 x6 x7) (View.ld x2 r0_10) (View.ld x2 r0_11) (View.ld x3 r0_18) (View.ld x3 r0_19) (View.ld x4 r0_20) (View.ld x4 r0_21) (ix2 r c)
      = blockAct i x0 x1 x2 x3 x4 x5 x6 x7 r ⟨512 + c, by omega⟩ :=
  tileOut_at _ _ _ _ _ _ _ (fun k o => x2 (ix2 k o)) (fun a o => x3 (ix2 a o)) (fun o => x4 (ix2 0 o)) 512 (by decide)
    (fun k c => by pointwise) (fun k c => by
      pointwise
      exact congrArg (fun o => x2 (ix2 k o)) (Fin.ext (show 3328 + (c : ℕ) = 2816 + (512 + (c : ℕ)) by omega))) (fun k c => by pointwise) (fun k c => by
      pointwise
      exact congrArg (fun o => x3 (ix2 k o)) (Fin.ext (show 3328 + (c : ℕ) = 2816 + (512 + (c : ℕ)) by omega)))
    (fun c => by pointwise) (fun c => by
      pointwise
      exact congrArg (fun o => x4 (ix2 0 o)) (Fin.ext (show 3328 + (c : ℕ) = 2816 + (512 + (c : ℕ)) by omega))) r c

/-- Tile 3 of the body holds the activations of channels 768 to 1023. -/
theorem tile3_at (r : Fin 1024) (c : Fin 256) :
    tileOut (k0_pay62 (F := Ideal) i x0 x1 x2 x3 x4 x5 x6 x7) (View.ld x2 r0_16) (View.ld x2 r0_17) (View.ld x3 r0_24) (View.ld x3 r0_25) (View.ld x4 r0_26) (View.ld x4 r0_27) (ix2 r c)
      = blockAct i x0 x1 x2 x3 x4 x5 x6 x7 r ⟨768 + c, by omega⟩ :=
  tileOut_at _ _ _ _ _ _ _ (fun k o => x2 (ix2 k o)) (fun a o => x3 (ix2 a o)) (fun o => x4 (ix2 0 o)) 768 (by decide)
    (fun k c => by pointwise) (fun k c => by
      pointwise
      exact congrArg (fun o => x2 (ix2 k o)) (Fin.ext (show 3584 + (c : ℕ) = 2816 + (768 + (c : ℕ)) by omega))) (fun k c => by pointwise) (fun k c => by
      pointwise
      exact congrArg (fun o => x3 (ix2 k o)) (Fin.ext (show 3584 + (c : ℕ) = 2816 + (768 + (c : ℕ)) by omega)))
    (fun c => by pointwise) (fun c => by
      pointwise
      exact congrArg (fun o => x4 (ix2 0 o)) (Fin.ext (show 3584 + (c : ℕ) = 2816 + (768 + (c : ℕ)) by omega))) r c

/-- Tile 4 of the body holds the activations of channels 1024 to 1279. -/
theorem tile4_at (r : Fin 1024) (c : Fin 256) :
    tileOut (k0_pay62 (F := Ideal) i x0 x1 x2 x3 x4 x5 x6 x7) (View.ld x2 r0_22) (View.ld x2 r0_23) (View.ld x3 r0_30) (View.ld x3 r0_31) (View.ld x4 r0_32) (View.ld x4 r0_33) (ix2 r c)
      = blockAct i x0 x1 x2 x3 x4 x5 x6 x7 r ⟨1024 + c, by omega⟩ :=
  tileOut_at _ _ _ _ _ _ _ (fun k o => x2 (ix2 k o)) (fun a o => x3 (ix2 a o)) (fun o => x4 (ix2 0 o)) 1024 (by decide)
    (fun k c => by pointwise) (fun k c => by
      pointwise
      exact congrArg (fun o => x2 (ix2 k o)) (Fin.ext (show 3840 + (c : ℕ) = 2816 + (1024 + (c : ℕ)) by omega))) (fun k c => by pointwise) (fun k c => by
      pointwise
      exact congrArg (fun o => x3 (ix2 k o)) (Fin.ext (show 3840 + (c : ℕ) = 2816 + (1024 + (c : ℕ)) by omega)))
    (fun c => by pointwise) (fun c => by
      pointwise
      exact congrArg (fun o => x4 (ix2 0 o)) (Fin.ext (show 3840 + (c : ℕ) = 2816 + (1024 + (c : ℕ)) by omega))) r c

/-- Tile 5 of the body holds the activations of channels 1280 to 1535. -/
theorem tile5_at (r : Fin 1024) (c : Fin 256) :
    tileOut (k0_pay62 (F := Ideal) i x0 x1 x2 x3 x4 x5 x6 x7) (View.ld x2 r0_28) (View.ld x2 r0_29) (View.ld x3 r0_36) (View.ld x3 r0_37) (View.ld x4 r0_38) (View.ld x4 r0_39) (ix2 r c)
      = blockAct i x0 x1 x2 x3 x4 x5 x6 x7 r ⟨1280 + c, by omega⟩ :=
  tileOut_at _ _ _ _ _ _ _ (fun k o => x2 (ix2 k o)) (fun a o => x3 (ix2 a o)) (fun o => x4 (ix2 0 o)) 1280 (by decide)
    (fun k c => by pointwise) (fun k c => by
      pointwise
      exact congrArg (fun o => x2 (ix2 k o)) (Fin.ext (show 4096 + (c : ℕ) = 2816 + (1280 + (c : ℕ)) by omega))) (fun k c => by pointwise) (fun k c => by
      pointwise
      exact congrArg (fun o => x3 (ix2 k o)) (Fin.ext (show 4096 + (c : ℕ) = 2816 + (1280 + (c : ℕ)) by omega)))
    (fun c => by pointwise) (fun c => by
      pointwise
      exact congrArg (fun o => x4 (ix2 0 o)) (Fin.ext (show 4096 + (c : ℕ) = 2816 + (1280 + (c : ℕ)) by omega))) r c

/-- Tile 6 of the body holds the activations of channels 1536 to 1791. -/
theorem tile6_at (r : Fin 1024) (c : Fin 256) :
    tileOut (k0_pay62 (F := Ideal) i x0 x1 x2 x3 x4 x5 x6 x7) (View.ld x2 r0_34) (View.ld x2 r0_35) (View.ld x3 r0_42) (View.ld x3 r0_43) (View.ld x4 r0_44) (View.ld x4 r0_45) (ix2 r c)
      = blockAct i x0 x1 x2 x3 x4 x5 x6 x7 r ⟨1536 + c, by omega⟩ :=
  tileOut_at _ _ _ _ _ _ _ (fun k o => x2 (ix2 k o)) (fun a o => x3 (ix2 a o)) (fun o => x4 (ix2 0 o)) 1536 (by decide)
    (fun k c => by pointwise) (fun k c => by
      pointwise
      exact congrArg (fun o => x2 (ix2 k o)) (Fin.ext (show 4352 + (c : ℕ) = 2816 + (1536 + (c : ℕ)) by omega))) (fun k c => by pointwise) (fun k c => by
      pointwise
      exact congrArg (fun o => x3 (ix2 k o)) (Fin.ext (show 4352 + (c : ℕ) = 2816 + (1536 + (c : ℕ)) by omega)))
    (fun c => by pointwise) (fun c => by
      pointwise
      exact congrArg (fun o => x4 (ix2 0 o)) (Fin.ext (show 4352 + (c : ℕ) = 2816 + (1536 + (c : ℕ)) by omega))) r c

/-- Tile 7 of the body holds the activations of channels 1792 to 2047. -/
theorem tile7_at (r : Fin 1024) (c : Fin 256) :
    tileOut (k0_pay62 (F := Ideal) i x0 x1 x2 x3 x4 x5 x6 x7) (View.ld x2 r0_40) (View.ld x2 r0_41) (View.ld x3 r0_48) (View.ld x3 r0_49) (View.ld x4 r0_50) (View.ld x4 r0_51) (ix2 r c)
      = blockAct i x0 x1 x2 x3 x4 x5 x6 x7 r ⟨1792 + c, by omega⟩ :=
  tileOut_at _ _ _ _ _ _ _ (fun k o => x2 (ix2 k o)) (fun a o => x3 (ix2 a o)) (fun o => x4 (ix2 0 o)) 1792 (by decide)
    (fun k c => by pointwise) (fun k c => by
      pointwise
      exact congrArg (fun o => x2 (ix2 k o)) (Fin.ext (show 4608 + (c : ℕ) = 2816 + (1792 + (c : ℕ)) by omega))) (fun k c => by pointwise) (fun k c => by
      pointwise
      exact congrArg (fun o => x3 (ix2 k o)) (Fin.ext (show 4608 + (c : ℕ) = 2816 + (1792 + (c : ℕ)) by omega)))
    (fun c => by pointwise) (fun c => by
      pointwise
      exact congrArg (fun o => x4 (ix2 0 o)) (Fin.ext (show 4608 + (c : ℕ) = 2816 + (1792 + (c : ℕ)) by omega))) r c

/-- Tile 8 of the body holds the activations of channels 2048 to 2303. -/
theorem tile8_at (r : Fin 1024) (c : Fin 256) :
    tileOut (k0_pay62 (F := Ideal) i x0 x1 x2 x3 x4 x5 x6 x7) (View.ld x2 r0_46) (View.ld x2 r0_47) (View.ld x3 r0_54) (View.ld x3 r0_55) (View.ld x4 r0_56) (View.ld x4 r0_57) (ix2 r c)
      = blockAct i x0 x1 x2 x3 x4 x5 x6 x7 r ⟨2048 + c, by omega⟩ :=
  tileOut_at _ _ _ _ _ _ _ (fun k o => x2 (ix2 k o)) (fun a o => x3 (ix2 a o)) (fun o => x4 (ix2 0 o)) 2048 (by decide)
    (fun k c => by pointwise) (fun k c => by
      pointwise
      exact congrArg (fun o => x2 (ix2 k o)) (Fin.ext (show 4864 + (c : ℕ) = 2816 + (2048 + (c : ℕ)) by omega))) (fun k c => by pointwise) (fun k c => by
      pointwise
      exact congrArg (fun o => x3 (ix2 k o)) (Fin.ext (show 4864 + (c : ℕ) = 2816 + (2048 + (c : ℕ)) by omega)))
    (fun c => by pointwise) (fun c => by
      pointwise
      exact congrArg (fun o => x4 (ix2 0 o)) (Fin.ext (show 4864 + (c : ℕ) = 2816 + (2048 + (c : ℕ)) by omega))) r c

/-- Tile 9 of the body holds the activations of channels 2304 to 2559. -/
theorem tile9_at (r : Fin 1024) (c : Fin 256) :
    tileOut (k0_pay62 (F := Ideal) i x0 x1 x2 x3 x4 x5 x6 x7) (View.ld x2 r0_52) (View.ld x2 r0_53) (View.ld x3 r0_60) (View.ld x3 r0_61) (View.ld x4 r0_62) (View.ld x4 r0_63) (ix2 r c)
      = blockAct i x0 x1 x2 x3 x4 x5 x6 x7 r ⟨2304 + c, by omega⟩ :=
  tileOut_at _ _ _ _ _ _ _ (fun k o => x2 (ix2 k o)) (fun a o => x3 (ix2 a o)) (fun o => x4 (ix2 0 o)) 2304 (by decide)
    (fun k c => by pointwise) (fun k c => by
      pointwise
      exact congrArg (fun o => x2 (ix2 k o)) (Fin.ext (show 5120 + (c : ℕ) = 2816 + (2304 + (c : ℕ)) by omega))) (fun k c => by pointwise) (fun k c => by
      pointwise
      exact congrArg (fun o => x3 (ix2 k o)) (Fin.ext (show 5120 + (c : ℕ) = 2816 + (2304 + (c : ℕ)) by omega)))
    (fun c => by pointwise) (fun c => by
      pointwise
      exact congrArg (fun o => x4 (ix2 0 o)) (Fin.ext (show 5120 + (c : ℕ) = 2816 + (2304 + (c : ℕ)) by omega))) r c

/-- Tile 10 of the body holds the activations of channels 2560 to 2815. -/
theorem tile10_at (r : Fin 1024) (c : Fin 256) :
    tileOut (k0_pay62 (F := Ideal) i x0 x1 x2 x3 x4 x5 x6 x7) (View.ld x2 r0_58) (View.ld x2 r0_59) (View.ld x3 r0_64) (View.ld x3 r0_65) (View.ld x4 r0_66) (View.ld x4 r0_67) (ix2 r c)
      = blockAct i x0 x1 x2 x3 x4 x5 x6 x7 r ⟨2560 + c, by omega⟩ :=
  tileOut_at _ _ _ _ _ _ _ (fun k o => x2 (ix2 k o)) (fun a o => x3 (ix2 a o)) (fun o => x4 (ix2 0 o)) 2560 (by decide)
    (fun k c => by pointwise) (fun k c => by
      pointwise
      exact congrArg (fun o => x2 (ix2 k o)) (Fin.ext (show 5376 + (c : ℕ) = 2816 + (2560 + (c : ℕ)) by omega))) (fun k c => by pointwise) (fun k c => by
      pointwise
      exact congrArg (fun o => x3 (ix2 k o)) (Fin.ext (show 5376 + (c : ℕ) = 2816 + (2560 + (c : ℕ)) by omega)))
    (fun c => by pointwise) (fun c => by
      pointwise
      exact congrArg (fun o => x4 (ix2 0 o)) (Fin.ext (show 5376 + (c : ℕ) = 2816 + (2560 + (c : ℕ)) by omega))) r c

/-- Eleven tiles side by side. -/
def wide (T0 T1 T2 T3 T4 T5 T6 T7 T8 T9 T10 : FVec Ideal S1024x256 .bf16) : FVec Ideal S1024x2816 .bf16 :=
  concatenate S1024x2816 1 [⟨S1024x256, T0⟩, ⟨S1024x256, T1⟩, ⟨S1024x256, T2⟩, ⟨S1024x256, T3⟩, ⟨S1024x256, T4⟩, ⟨S1024x256, T5⟩, ⟨S1024x256, T6⟩, ⟨S1024x256, T7⟩, ⟨S1024x256, T8⟩, ⟨S1024x256, T9⟩, ⟨S1024x256, T10⟩] concatenates_S1024x256_S1024x256_S1024x256_S1024x256_S1024x256_S1024x256_S1024x256_S1024x256_S1024x256_S1024x256_S1024x256_S1024x2816_d1

/-- Eleven tiles that hold the values of `f` on their channels hold, side by side, the values of `f`. -/
theorem wide_at (T0 T1 T2 T3 T4 T5 T6 T7 T8 T9 T10 : FVec Ideal S1024x256 .bf16) (f : Fin 2816 → EReal) (r : Fin 1024)
    (h0 : ∀ c : Fin 256, T0 (ix2 r c) = f ⟨0 + c, by omega⟩)
    (h1 : ∀ c : Fin 256, T1 (ix2 r c) = f ⟨256 + c, by omega⟩)
    (h2 : ∀ c : Fin 256, T2 (ix2 r c) = f ⟨512 + c, by omega⟩)
    (h3 : ∀ c : Fin 256, T3 (ix2 r c) = f ⟨768 + c, by omega⟩)
    (h4 : ∀ c : Fin 256, T4 (ix2 r c) = f ⟨1024 + c, by omega⟩)
    (h5 : ∀ c : Fin 256, T5 (ix2 r c) = f ⟨1280 + c, by omega⟩)
    (h6 : ∀ c : Fin 256, T6 (ix2 r c) = f ⟨1536 + c, by omega⟩)
    (h7 : ∀ c : Fin 256, T7 (ix2 r c) = f ⟨1792 + c, by omega⟩)
    (h8 : ∀ c : Fin 256, T8 (ix2 r c) = f ⟨2048 + c, by omega⟩)
    (h9 : ∀ c : Fin 256, T9 (ix2 r c) = f ⟨2304 + c, by omega⟩)
    (h10 : ∀ c : Fin 256, T10 (ix2 r c) = f ⟨2560 + c, by omega⟩)
    (c : Fin 2816) : wide T0 T1 T2 T3 T4 T5 T6 T7 T8 T9 T10 (ix2 r c) = f c := by
  have hc := c.isLt
  pointwise [wide, h0, h1, h2, h3, h4, h5, h6, h7, h8, h9, h10]
  iterate 10
    refine dite_same _ _ _ (fun h => congrArg f (Fin.ext ?_)) (fun h => ?_)
    · first | rfl | omega | (dsimp only; omega)
  refine congrArg f (Fin.ext ?_)
  first | rfl | omega | (dsimp only; omega)

/-- The residual and the down projection of the gated activations. -/
def sumOut (x : FVec Ideal S1024x1024 .f32) (a : FVec Ideal S1024x2816 .bf16) (w : Vec Ideal S2816x1024 .bf16) :
    FVec Ideal S1024x1024 .f32 :=
  addf (mulf (broadcast S1024x1024 (Scalar.ofBits .f32 0x3FB504F3#32)) x)
    (matmul dot_S1024x2816_S2816x1024_S1024x1024_1_0_0_1_n_n none a (shapeCast S2816x1024 w shapeCasts_S2816x1024_S2816x1024 : FVec Ideal S2816x1024 .bf16)
      (constant S1024x1024 .f32 0x00000000#32))

/-- The residual and the down projection at one row and one lane. -/
theorem sumOut_at (x : FVec Ideal S1024x1024 .f32) (a : FVec Ideal S1024x2816 .bf16) (w : Vec Ideal S2816x1024 .bf16)
    (r n : Fin 1024) :
    sumOut x a w (ix2 r n) = alpha * x (ix2 r n) + rowDot (fun c => a (ix2 r c)) (fun c => w (ix2 c n)) := by
  pointwise [sumOut, rowDot]

/-- The layer norm the body ends in, at one row and one lane. -/
theorem norm_at (y : FVec Ideal S1024x1024 .f32) (g b : FVec Ideal S1x1024 .f32) (r n : Fin 1024) :
    k0_pay1 y g b (multiReduction .add [1] S1024 y 0x00000000#32 reduces_S1024x1024_S1024 (.inl rfl) rfl) (ix2 r n)
      = rowNorm (fun k => y (ix2 r k)) (g (ix2 0 n)) (b (ix2 0 n)) n := by
  pointwise [k0_pay1, rowNorm, rowMean]

/-- The body's payload of tile 0 is the tile's vector expression. -/
theorem tile0_eq : k0_pay65 (F := Ideal) i x0 x1 x2 x3 x4 x5 x6 x7 = tileOut (k0_pay62 (F := Ideal) i x0 x1 x2 x3 x4 x5 x6 x7) (View.ld x2 r0_2) (View.ld x2 r0_3) (View.ld x3 r0_6) (View.ld x3 r0_7) (View.ld x4 r0_8) (View.ld x4 r0_9) := rfl

/-- The body's payload of tile 1 is the tile's vector expression. -/
theorem tile1_eq : k0_pay67 (F := Ideal) i x0 x1 x2 x3 x4 x5 x6 x7 = tileOut (k0_pay62 (F := Ideal) i x0 x1 x2 x3 x4 x5 x6 x7) (View.ld x2 r0_4) (View.ld x2 r0_5) (View.ld x3 r0_12) (View.ld x3 r0_13) (View.ld x4 r0_14) (View.ld x4 r0_15) := rfl

/-- The body's payload of tile 2 is the tile's vector expression. -/
theorem tile2_eq : k0_pay69 (F := Ideal) i x0 x1 x2 x3 x4 x5 x6 x7 = tileOut (k0_pay62 (F := Ideal) i x0 x1 x2 x3 x4 x5 x6 x7) (View.ld x2 r0_10) (View.ld x2 r0_11) (View.ld x3 r0_18) (View.ld x3 r0_19) (View.ld x4 r0_20) (View.ld x4 r0_21) := rfl

/-- The body's payload of tile 3 is the tile's vector expression. -/
theorem tile3_eq : k0_pay70 (F := Ideal) i x0 x1 x2 x3 x4 x5 x6 x7 = tileOut (k0_pay62 (F := Ideal) i x0 x1 x2 x3 x4 x5 x6 x7) (View.ld x2 r0_16) (View.ld x2 r0_17) (View.ld x3 r0_24) (View.ld x3 r0_25) (View.ld x4 r0_26) (View.ld x4 r0_27) := rfl

/-- The body's payload of tile 4 is the tile's vector expression. -/
theorem tile4_eq : k0_pay72 (F := Ideal) i x0 x1 x2 x3 x4 x5 x6 x7 = tileOut (k0_pay62 (F := Ideal) i x0 x1 x2 x3 x4 x5 x6 x7) (View.ld x2 r0_22) (View.ld x2 r0_23) (View.ld x3 r0_30) (View.ld x3 r0_31) (View.ld x4 r0_32) (View.ld x4 r0_33) := rfl

/-- The body's payload of tile 5 is the tile's vector expression. -/
theorem tile5_eq : k0_pay74 (F := Ideal) i x0 x1 x2 x3 x4 x5 x6 x7 = tileOut (k0_pay62 (F := Ideal) i x0 x1 x2 x3 x4 x5 x6 x7) (View.ld x2 r0_28) (View.ld x2 r0_29) (View.ld x3 r0_36) (View.ld x3 r0_37) (View.ld x4 r0_38) (View.ld x4 r0_39) := rfl

/-- The body's payload of tile 6 is the tile's vector expression. -/
theorem tile6_eq : k0_pay75 (F := Ideal) i x0 x1 x2 x3 x4 x5 x6 x7 = tileOut (k0_pay62 (F := Ideal) i x0 x1 x2 x3 x4 x5 x6 x7) (View.ld x2 r0_34) (View.ld x2 r0_35) (View.ld x3 r0_42) (View.ld x3 r0_43) (View.ld x4 r0_44) (View.ld x4 r0_45) := rfl

/-- The body's payload of tile 7 is the tile's vector expression. -/
theorem tile7_eq : k0_pay76 (F := Ideal) i x0 x1 x2 x3 x4 x5 x6 x7 = tileOut (k0_pay62 (F := Ideal) i x0 x1 x2 x3 x4 x5 x6 x7) (View.ld x2 r0_40) (View.ld x2 r0_41) (View.ld x3 r0_48) (View.ld x3 r0_49) (View.ld x4 r0_50) (View.ld x4 r0_51) := rfl

/-- The body's payload of tile 8 is the tile's vector expression. -/
theorem tile8_eq : k0_pay78 (F := Ideal) i x0 x1 x2 x3 x4 x5 x6 x7 = tileOut (k0_pay62 (F := Ideal) i x0 x1 x2 x3 x4 x5 x6 x7) (View.ld x2 r0_46) (View.ld x2 r0_47) (View.ld x3 r0_54) (View.ld x3 r0_55) (View.ld x4 r0_56) (View.ld x4 r0_57) := rfl

/-- The body's payload of tile 9 is the tile's vector expression. -/
theorem tile9_eq : k0_pay80 (F := Ideal) i x0 x1 x2 x3 x4 x5 x6 x7 = tileOut (k0_pay62 (F := Ideal) i x0 x1 x2 x3 x4 x5 x6 x7) (View.ld x2 r0_52) (View.ld x2 r0_53) (View.ld x3 r0_60) (View.ld x3 r0_61) (View.ld x4 r0_62) (View.ld x4 r0_63) := rfl

/-- The body's payload of the last tile, the concatenation and the down projection, over the values it reads. -/
theorem sum_eq (x : FVec Ideal S1024x1024 .f32) (T0 T1 T2 T3 T4 T5 T6 T7 T8 T9 : FVec Ideal S1024x256 .bf16) (h : FVec Ideal S1032x1024 .bf16)
    (wa wg : Vec Ideal S1024x256 .bf16) (ca cg : Vec Ideal S3x256 .f32) (ba bg : Vec Ideal S1x256 .f32) (w : Vec Ideal S2816x1024 .bf16) :
    k0_pay57 x T0 T1 T2 T3 T4 T5 T6 T7 T8 (k0_pay47 h wa wg) T9 (k0_pay52 ca cg) (k0_pay53 (k0_pay47 h wa wg) ca cg) (k0_pay54 (k0_pay47 h wa wg) ca cg)
        (k0_pay55 (k0_pay47 h wa wg) ca cg) k0_pay56 ba bg w
      = sumOut x (wide T0 T1 T2 T3 T4 T5 T6 T7 T8 T9 (tileOut h wa wg ca cg ba bg)) w := rfl

/-- The body's payload of the residual and the down projection, over the eleven tiles. -/
theorem sum57_eq : k0_pay57 (F := Ideal) (k0_pay61 i x0 x1 x2 x3 x4 x5 x6 x7) (k0_pay65 i x0 x1 x2 x3 x4 x5 x6 x7) (k0_pay67 i x0 x1 x2 x3 x4 x5 x6 x7) (k0_pay69 i x0 x1 x2 x3 x4 x5 x6 x7) (k0_pay70 i x0 x1 x2 x3 x4 x5 x6 x7) (k0_pay72 i x0 x1 x2 x3 x4 x5 x6 x7) (k0_pay74 i x0 x1 x2 x3 x4 x5 x6 x7) (k0_pay75 i x0 x1 x2 x3 x4 x5 x6 x7) (k0_pay76 i x0 x1 x2 x3 x4 x5 x6 x7) (k0_pay78 i x0 x1 x2 x3 x4 x5 x6 x7) (k0_pay79 i x0 x1 x2 x3 x4 x5 x6 x7) (k0_pay80 i x0 x1 x2 x3 x4 x5 x6 x7) (k0_pay81 i x0 x1 x2 x3 x4 x5 x6 x7)
      (k0_pay82 i x0 x1 x2 x3 x4 x5 x6 x7) (k0_pay83 i x0 x1 x2 x3 x4 x5 x6 x7) (k0_pay84 i x0 x1 x2 x3 x4 x5 x6 x7) (k0_pay85 i x0 x1 x2 x3 x4 x5 x6 x7) (View.ld x4 r0_66) (View.ld x4 r0_67) (View.ld x5 r0_68)
    = sumOut (k0_pay61 (F := Ideal) i x0 x1 x2 x3 x4 x5 x6 x7) (wide
        (tileOut (k0_pay62 (F := Ideal) i x0 x1 x2 x3 x4 x5 x6 x7) (View.ld x2 r0_2) (View.ld x2 r0_3) (View.ld x3 r0_6) (View.ld x3 r0_7) (View.ld x4 r0_8) (View.ld x4 r0_9)) (tileOut (k0_pay62 (F := Ideal) i x0 x1 x2 x3 x4 x5 x6 x7) (View.ld x2 r0_4) (View.ld x2 r0_5) (View.ld x3 r0_12) (View.ld x3 r0_13) (View.ld x4 r0_14) (View.ld x4 r0_15)) (tileOut (k0_pay62 (F := Ideal) i x0 x1 x2 x3 x4 x5 x6 x7) (View.ld x2 r0_10) (View.ld x2 r0_11) (View.ld x3 r0_18) (View.ld x3 r0_19) (View.ld x4 r0_20) (View.ld x4 r0_21)) (tileOut (k0_pay62 (F := Ideal) i x0 x1 x2 x3 x4 x5 x6 x7) (View.ld x2 r0_16) (View.ld x2 r0_17) (View.ld x3 r0_24) (View.ld x3 r0_25) (View.ld x4 r0_26) (View.ld x4 r0_27)) (tileOut (k0_pay62 (F := Ideal) i x0 x1 x2 x3 x4 x5 x6 x7) (View.ld x2 r0_22) (View.ld x2 r0_23) (View.ld x3 r0_30) (View.ld x3 r0_31) (View.ld x4 r0_32) (View.ld x4 r0_33)) (tileOut (k0_pay62 (F := Ideal) i x0 x1 x2 x3 x4 x5 x6 x7) (View.ld x2 r0_28) (View.ld x2 r0_29) (View.ld x3 r0_36) (View.ld x3 r0_37) (View.ld x4 r0_38) (View.ld x4 r0_39)) (tileOut (k0_pay62 (F := Ideal) i x0 x1 x2 x3 x4 x5 x6 x7) (View.ld x2 r0_34) (View.ld x2 r0_35) (View.ld x3 r0_42) (View.ld x3 r0_43) (View.ld x4 r0_44) (View.ld x4 r0_45)) (tileOut (k0_pay62 (F := Ideal) i x0 x1 x2 x3 x4 x5 x6 x7) (View.ld x2 r0_40) (View.ld x2 r0_41) (View.ld x3 r0_48) (View.ld x3 r0_49) (View.ld x4 r0_50) (View.ld x4 r0_51)) (tileOut (k0_pay62 (F := Ideal) i x0 x1 x2 x3 x4 x5 x6 x7) (View.ld x2 r0_46) (View.ld x2 r0_47) (View.ld x3 r0_54) (View.ld x3 r0_55) (View.ld x4 r0_56) (View.ld x4 r0_57)) (tileOut (k0_pay62 (F := Ideal) i x0 x1 x2 x3 x4 x5 x6 x7) (View.ld x2 r0_52) (View.ld x2 r0_53) (View.ld x3 r0_60) (View.ld x3 r0_61) (View.ld x4 r0_62) (View.ld x4 r0_63)) (tileOut (k0_pay62 (F := Ideal) i x0 x1 x2 x3 x4 x5 x6 x7) (View.ld x2 r0_58) (View.ld x2 r0_59) (View.ld x3 r0_64) (View.ld x3 r0_65) (View.ld x4 r0_66) (View.ld x4 r0_67))) (View.ld x5 r0_68) := by
  rw [tile0_eq, tile1_eq, tile2_eq, tile3_eq, tile4_eq, tile5_eq, tile6_eq, tile7_eq, tile8_eq, tile9_eq]
  exact sum_eq _ _ _ _ _ _ _ _ _ _ _ (k0_pay62 (F := Ideal) i x0 x1 x2 x3 x4 x5 x6 x7) _ _ _ _ _ _ _

end Cert.Kernel2Ideal.Ffn
-- ==== Proof.FfnValue.lean ====
module

public import proofs.«01_k».proof.Proof.FfnBody
public import proofs.«01_k».proof.Proof.Gen.Kernel2Ideal.Value
public import Idealize.ShloMosaic.Lib.Pipeline.ValueKit

/-! The array the conv FFN's call writes, as the row function at every row and lane. -/

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen Trunk

/-- The test of the body, that a block begins a batch: the block number is a multiple of four. -/
theorem first_block (a : ℕ) (ha : a < 32) :
    Scalar.cmpi CmpIPredicate.eq
        (Scalar.select
          (Scalar.andi
            (Scalar.xori
              (Scalar.cmpi CmpIPredicate.slt
                (Scalar.remsi (BitVec.ofNat 32 a) (Scalar.select (Scalar.cmpi CmpIPredicate.eq 4#32 0#32) 1#32 4#32)) 0#32)
              (Scalar.cmpi CmpIPredicate.slt (Scalar.select (Scalar.cmpi CmpIPredicate.eq 4#32 0#32) 1#32 4#32) 0#32))
            (Scalar.cmpi CmpIPredicate.ne
              (Scalar.remsi (BitVec.ofNat 32 a) (Scalar.select (Scalar.cmpi CmpIPredicate.eq 4#32 0#32) 1#32 4#32)) 0#32))
          (Scalar.addi
            (Scalar.remsi (BitVec.ofNat 32 a) (Scalar.select (Scalar.cmpi CmpIPredicate.eq 4#32 0#32) 1#32 4#32))
            (Scalar.select (Scalar.cmpi CmpIPredicate.eq 4#32 0#32) 1#32 4#32))
          (Scalar.remsi (BitVec.ofNat 32 a) (Scalar.select (Scalar.cmpi CmpIPredicate.eq 4#32 0#32) 1#32 4#32))) 0#32
      = if a % 4 = 0 then 1#1 else 0#1 :=
  (by decide +kernel : ∀ a : Fin 32, Scalar.cmpi CmpIPredicate.eq
        (Scalar.select
          (Scalar.andi
            (Scalar.xori
              (Scalar.cmpi CmpIPredicate.slt
                (Scalar.remsi (BitVec.ofNat 32 a) (Scalar.select (Scalar.cmpi CmpIPredicate.eq 4#32 0#32) 1#32 4#32)) 0#32)
              (Scalar.cmpi CmpIPredicate.slt (Scalar.select (Scalar.cmpi CmpIPredicate.eq 4#32 0#32) 1#32 4#32) 0#32))
            (Scalar.cmpi CmpIPredicate.ne
              (Scalar.remsi (BitVec.ofNat 32 a) (Scalar.select (Scalar.cmpi CmpIPredicate.eq 4#32 0#32) 1#32 4#32)) 0#32))
          (Scalar.addi
            (Scalar.remsi (BitVec.ofNat 32 a) (Scalar.select (Scalar.cmpi CmpIPredicate.eq 4#32 0#32) 1#32 4#32))
            (Scalar.select (Scalar.cmpi CmpIPredicate.eq 4#32 0#32) 1#32 4#32))
          (Scalar.remsi (BitVec.ofNat 32 a) (Scalar.select (Scalar.cmpi CmpIPredicate.eq 4#32 0#32) 1#32 4#32))) 0#32
      = if (a : ℕ) % 4 = 0 then 1#1 else 0#1) ⟨a, ha⟩

section Rows
variable (i : grid0.Coords) (x0 : Vec Ideal S1024x1024 .f32) (x1 : Vec Ideal S8x1024 .f32)
  (x2 : Vec Ideal S1024x5632 .bf16) (x3 : Vec Ideal S3x5632 .f32) (x4 : Vec Ideal S1x5632 .f32)
  (x5 : Vec Ideal S2816x1024 .bf16) (x6 x7 : Vec Ideal S1x1024 .f32)

/-- Behind the eight rows before it, a block's rows are the rows the body projects. -/
theorem rows_hi (q : Fin 1032) (r : Fin 1024) (h : (q : ℕ) = 8 + r) (k : Fin 1024) :
    k0_pay62 (F := Ideal) i x0 x1 x2 x3 x4 x5 x6 x7 (ix2 q k) = x0 (ix2 r k) := by
  rw [show q = (⟨8 + (r : ℕ), by omega⟩ : Fin 1032) from Fin.ext h]
  pointwise [k0_pay62, k0_pay3, k0_pay2]

/-- The first eight rows the body projects: zero where a batch begins, else the eight rows before the block. -/
theorem rows_lo (q : Fin 1032) (r : Fin 8) (h : (q : ℕ) = r) (k : Fin 1024) :
    k0_pay62 (F := Ideal) i x0 x1 x2 x3 x4 x5 x6 x7 (ix2 q k) = if (i 0).val % 4 = 0 then 0 else x1 (ix2 r k) := by
  rw [show q = (⟨(r : ℕ), by omega⟩ : Fin 1032) from Fin.ext h]
  pointwise [k0_pay62, k0_pay3]
  rw [first_block (i 0).val (i 0).isLt]
  by_cases h0 : (i 0).val % 4 = 0
  · rw [if_pos h0, if_pos h0]
    rfl
  · rw [if_neg h0, if_neg h0]
    rfl

/-- The block the body writes, at one row and one lane. -/
theorem out_at (r n : Fin 1024) : out0_8 (F := Ideal) i x0 x1 x2 x3 x4 x5 x6 x7 (ix2 r n)
    = rowNorm (fun k => alpha * x0 (ix2 r k) + rowDot (blockAct i x0 x1 x2 x3 x4 x5 x6 x7 r) (fun c => x5 (ix2 c k)))
        (x6 (ix2 0 n)) (x7 (ix2 0 n)) n := by
  unfold out0_8
  refine (congrFun (View.canon_cons_unit_lit (Val := Elt Ideal) (S := S1024x1024) _ _ [] (by decide)) (ix2 r n)).trans ?_
  refine (norm_at _ _ _ r n).trans ?_
  refine rowNorm_congr (fun k => ?_) ?_ ?_ n
  · rw [sum57_eq]
    refine (sumOut_at _ _ _ r k).trans ?_
    refine congrArg₂ (· + ·) ?_ (congrArg₂ rowDot (funext fun c => ?_) (funext fun c => ?_))
    · pointwise [k0_pay61, k0_pay2]
    · exact wide_at _ _ _ _ _ _ _ _ _ _ _ (blockAct i x0 x1 x2 x3 x4 x5 x6 x7 r) r
        (tile0_at i x0 x1 x2 x3 x4 x5 x6 x7 r) (tile1_at i x0 x1 x2 x3 x4 x5 x6 x7 r) (tile2_at i x0 x1 x2 x3 x4 x5 x6 x7 r)
        (tile3_at i x0 x1 x2 x3 x4 x5 x6 x7 r) (tile4_at i x0 x1 x2 x3 x4 x5 x6 x7 r) (tile5_at i x0 x1 x2 x3 x4 x5 x6 x7 r)
        (tile6_at i x0 x1 x2 x3 x4 x5 x6 x7 r) (tile7_at i x0 x1 x2 x3 x4 x5 x6 x7 r) (tile8_at i x0 x1 x2 x3 x4 x5 x6 x7 r)
        (tile9_at i x0 x1 x2 x3 x4 x5 x6 x7 r) (tile10_at i x0 x1 x2 x3 x4 x5 x6 x7 r) c
    · pointwise
  · pointwise [k0_pay58]
  · pointwise [k0_pay59]

end Rows

variable (m : (ℓ : Loc nD τ sig) → Buf (Elt Ideal) ℓ)

/-- Each window's block index at each grid point. -/
theorem idx : ∀ t : Fin cfg0.N, win0_0.index t = ![t.val, 0] ∧ win0_1.index t = ![128 * t.val - 1, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0] :=
  (by decide +kernel : ∀ t : Fin grid0.N, _)

/-- The grid coordinate of a point is its number. -/
theorem coord : ∀ t : Fin cfg0.N, ((grid0.coords t) 0).val = t.val :=
  (by decide +kernel : ∀ t : Fin grid0.N, _)

/-- The FFN's argument by batch, row and lane. -/
abbrev X3 (c : Dev nD) (b : Fin 8) (s : Fin 4096) (k : Fin 1024) : EReal := m ((c : Thread nD τ).loc main_arg0) (ix3 b s k)

/-- The flattened argument the call is given. -/
theorem flat_at (c : Dev nD) (R : Fin 32768) (k : Fin 1024) : V m c main_v0 (ix2 R k) = X3 m c (bat R) (pos R) k := by
  entry_read
  pointwise [bat, pos]

/-- A block of the flattened argument holds the argument's rows. -/
theorem blk0 (c : Dev nD) (t : Fin cfg0.N) (r k : Fin 1024) (R : Fin 32768) (hR : (R : ℕ) = 1024 * t + r) :
    iblk m c 0 t (ix2 r k) = X3 m c (bat R) (pos R) k := by
  refine Eq.trans ?_ (flat_at m c R k)
  blk_ext [iblk, idx t]

/-- The eight rows before a block. -/
theorem blk1 (c : Dev nD) (t : Fin cfg0.N) (ht : t.val % 4 ≠ 0) (r : Fin 8) (k : Fin 1024) (R : Fin 32768) (hR : (R : ℕ) + 8 = 1024 * t + r) :
    iblk m c 1 t (ix2 r k) = X3 m c (bat R) (pos R) k := by
  refine Eq.trans ?_ (flat_at m c R k)
  blk_ext [iblk, idx t]

theorem blk2 (c : Dev nD) (t : Fin cfg0.N) (k : Fin 1024) (o : Fin 5632) :
    iblk m c 2 t (ix2 k o) = m ((c : Thread nD τ).loc main_arg1) (ix2 k o) := by
  blk_point [iblk, V, idx t]

theorem blk3 (c : Dev nD) (t : Fin cfg0.N) (a : Fin 3) (o : Fin 5632) :
    iblk m c 3 t (ix2 a o) = m ((c : Thread nD τ).loc main_arg2) (ix2 a o) := by
  blk_point [iblk, V, idx t]

theorem blk4 (c : Dev nD) (t : Fin cfg0.N) (o : Fin 5632) :
    iblk m c 4 t (ix2 0 o) = m ((c : Thread nD τ).loc main_arg3) (ix1 o) := by
  blk_point [iblk, V, idx t]

theorem blk5 (c : Dev nD) (t : Fin cfg0.N) (q : Fin 2816) (k : Fin 1024) :
    iblk m c 5 t (ix2 q k) = m ((c : Thread nD τ).loc main_arg4) (ix2 q k) := by
  blk_point [iblk, V, idx t]

theorem blk6 (c : Dev nD) (t : Fin cfg0.N) (k : Fin 1024) :
    iblk m c 6 t (ix2 0 k) = m ((c : Thread nD τ).loc main_arg5) (ix1 k) := by
  blk_point [iblk, V, idx t]

theorem blk7 (c : Dev nD) (t : Fin cfg0.N) (k : Fin 1024) :
    iblk m c 7 t (ix2 0 k) = m ((c : Thread nD τ).loc main_arg6) (ix1 k) := by
  blk_point [iblk, V, idx t]

/-- The rows the body projects, before a block's row `r` at distance one or two, or none. -/
theorem rows_at (c : Dev nD) (t : Fin cfg0.N) (r : Fin 1024) (d : ℕ) (hd : d ≤ 2) (q : Fin 1032) (hq : (q : ℕ) + d = r + 8)
    (R : Fin 32768) (hR : (R : ℕ) = 1024 * t + r) (k : Fin 1024) :
    k0_pay62 (F := Ideal) (grid0.coords t) (iblk m c 0 t) (iblk m c 1 t) (iblk m c 2 t) (iblk m c 3 t) (iblk m c 4 t) (iblk m c 5 t) (iblk m c 6 t)
      (iblk m c 7 t) (ix2 q k) = before (X3 m c) d (bat R) (pos R) k := by
  have ht : t.val < 32 := t.isLt
  have hp : (pos R : ℕ) = 1024 * (t.val % 4) + r := by
    show (R : ℕ) % 4096 = _
    omega
  by_cases h8 : 8 ≤ (q : ℕ)
  · refine (rows_hi _ _ _ _ _ _ _ _ _ q ⟨(q : ℕ) - 8, by omega⟩ (by show (q : ℕ) = 8 + ((q : ℕ) - 8); omega) k).trans ?_
    refine (blk0 m c t _ k ⟨(R : ℕ) - d, by omega⟩ (by show (R : ℕ) - d = 1024 * t + ((q : ℕ) - 8); omega)).trans ?_
    rw [before, dif_pos (by omega)]
    refine congrArg₂ (fun b s => X3 m c b s k) (Fin.ext ?_) (Fin.ext ?_)
    · show ((R : ℕ) - d) / 4096 = (R : ℕ) / 4096
      omega
    · show ((R : ℕ) - d) % 4096 = (pos R : ℕ) - d
      omega
  · refine (rows_lo _ _ _ _ _ _ _ _ _ q ⟨(q : ℕ), by omega⟩ rfl k).trans ?_
    rw [coord]
    by_cases h0 : t.val % 4 = 0
    · rw [if_pos h0, before, dif_neg (by omega)]
    · rw [if_neg h0, before, dif_pos (by omega)]
      refine (blk1 m c t h0 _ k ⟨(R : ℕ) - d, by omega⟩ (by show (R : ℕ) - d + 8 = 1024 * t + (q : ℕ); omega)).trans ?_
      refine congrArg₂ (fun b s => X3 m c b s k) (Fin.ext ?_) (Fin.ext ?_)
      · show ((R : ℕ) - d) / 4096 = (R : ℕ) / 4096
        omega
      · show ((R : ℕ) - d) % 4096 = (pos R : ℕ) - d
        omega

/-- The array the call writes. -/
def G (c : Dev nD) : FVec Ideal S32768x1024 .f32 := fun y =>
  ffnOut (X3 m c) (fun k o => m ((c : Thread nD τ).loc main_arg1) (ix2 k o)) (fun a o => m ((c : Thread nD τ).loc main_arg2) (ix2 a o))
    (fun o => m ((c : Thread nD τ).loc main_arg3) (ix1 o)) (fun q k => m ((c : Thread nD τ).loc main_arg4) (ix2 q k))
    (fun k => m ((c : Thread nD τ).loc main_arg5) (ix1 k)) (fun k => m ((c : Thread nD τ).loc main_arg6) (ix1 k)) (y 0) (y 1)

/-- What one grid point writes, at one row and one lane of its block. -/
theorem point (c : Dev nD) (t : Fin cfg0.N) (r n : Fin 1024) (R : Fin 32768) (hR : (R : ℕ) = 1024 * t + r) :
    out0_8 (F := Ideal) (grid0.coords t) (iblk m c 0 t) (iblk m c 1 t) (iblk m c 2 t) (iblk m c 3 t) (iblk m c 4 t) (iblk m c 5 t) (iblk m c 6 t)
      (iblk m c 7 t) (ix2 r n) = G m c (ix2 R n) := by
  refine (out_at _ _ _ _ _ _ _ _ _ r n).trans ?_
  have hr := r.isLt
  unfold G ffnOut ffnRow
  refine rowNorm_congr (fun k => ?_) (blk6 m c t n) (blk7 m c t n) n
  have h0 : ∀ k, iblk m c 0 t (ix2 r k) = X3 m c (bat R) (pos R) k := fun k => blk0 m c t r k R hR
  refine congrArg₂ (· + ·) (congrArg (alpha * ·) (h0 k)) (congrArg₂ rowDot ?_ (funext fun q => blk5 m c t q k))
  have e2 := funext (rows_at m c t r 2 (by omega) ⟨(r : ℕ) + 6, by omega⟩ (by show (r : ℕ) + 6 + 2 = _; omega) R hR)
  have e1 := funext (rows_at m c t r 1 (by omega) ⟨(r : ℕ) + 7, by omega⟩ (by show (r : ℕ) + 7 + 1 = _; omega) R hR)
  have e0 := funext (rows_at m c t r 0 (by omega) ⟨(r : ℕ) + 8, by omega⟩ (by show (r : ℕ) + 8 + 0 = _; omega) R hR)
  have z0 : before (X3 m c) 0 (bat R) (pos R) = X3 m c (bat R) (pos R) := by
    funext k
    rw [before, dif_pos (by omega)]
    rfl
  funext q
  unfold blockAct
  rw [e2, e1, e0, z0]
  refine congrFun (?_ : actCol _ _ _ _ _ _ = actCol _ _ _ _ _ _) q
  exact congr (congr (congrArg (actCol _ _ _) (funext fun k => funext fun o => blk2 m c t k o)) (funext fun a => funext fun o => blk3 m c t a o))
    (funext fun o => blk4 m c t o)

/-- The array after the call. -/
theorem final (c : Dev nD) : (dats m 0 c).arrAt 8 cfg0.N = G m c := by
  refine (dats m 0 c).arrAt_eq_of_covers 8 _ (by decide +kernel) fun t _ y => ?_
  blk_simp
  rw [after0_8]
  idx_vars y
  have ht : t.val < 32 := t.isLt
  refine (point m c t y0 y1 ⟨1024 * t.val + y0, by omega⟩ rfl).trans (congrArg (G m c) ?_)
  symm
  blk_ext [idx t]

end Cert.Kernel2Ideal.Ffn
-- ==== Proof.FfnRef.lean ====
module

public import proofs.«01_k».proof.Proof.Gen.Reference2Ideal.Read
public import proofs.«01_k».proof.Proof.Rows

/-! The conv FFN's reference, read at one row and one lane as the row function `ffnRow`. -/

@[expose] public section

set_option maxRecDepth 16384

noncomputable section

namespace Cert.Reference2Ideal.Ffn

open Idealize.ShloMosaic Idealize.ShloMosaic.TcCoe Idealize.SL.Sem
open Cert.Reference2Ideal Cert.Reference2Ideal.Gen Cert.Reference2Ideal.Read Trunk

variable (x0 : FVec Ideal S8x4096x1024 .f32) (x1 : FVec Ideal S1024x5632 .f32) (x2 : FVec Ideal S3x5632 .f32)
  (x3 : FVec Ideal S5632 .f32) (x4 : FVec Ideal S2816x1024 .f32) (x5 x6 : FVec Ideal S1024 .f32)

/-- The argument of the FFN by batch, row and lane. -/
abbrev X3 (X : FVec Ideal S8x4096x1024 .f32) (b : Fin 8) (s : Fin 4096) (k : Fin 1024) : EReal := X (ix3 b s k)

/-- The up projection of one row onto one channel. -/
theorem up_at (b : Fin 8) (s : Fin 4096) (o : Fin 5632) :
    val_main_v0 (F := Ideal) x0 x1 (ix3 b s o) = rowDot (fun k => x0 (ix3 b s k)) (fun k => x1 (ix2 k o)) := by
  pointwise [val_main_v0, rowDot]

/-- The convolved up projection at one row and one channel. -/
theorem conv_at (b : Fin 8) (s : Fin 4096) (o : Fin 5632) :
    val_main_v24 (F := Ideal) x0 x1 x2 x3 (ix3 b s o)
      = chanConv (before (X3 x0) 2 b s) (before (X3 x0) 1 b s) (fun k => x0 (ix3 b s k)) (fun k o => x1 (ix2 k o))
          (fun a o => x2 (ix2 a o)) (fun o => x3 (ix1 o)) o := by
  pointwise [val_main_v24, val_main_v23, val_main_v22, val_main_v21, val_main_v20, val_main_v19, val_main_v18, val_main_v17,
    val_main_v16, val_main_v15, val_main_v14, val_main_v13, val_main_v12, val_main_v11, val_main_v10, val_main_v9, val_main_v8,
    val_main_v7, val_main_v6, val_main_v5, val_main_v4, val_main_v3, val_main_v2, val_main_v1, val_main_c, val_main_call0_v0, up_at, before, chanConv, conv3]
  have h0 : (FloatOps.sitofp FTy.f32 (0#32 : BitVec 32) : Idealize.ShloMosaic.Ideal FTy.f32) = (0 : EReal) := by
    show ((((0#32 : BitVec 32).toInt : ℝ)) : EReal) = 0
    simp
  have hd : ∀ (d : ℕ), d ≤ (s : ℕ) → ∀ q : Fin 4096, (q : ℕ) = (s : ℕ) - d →
      before (X3 x0) d b s = fun k => x0 (ix3 b q k) := by
    intro d h q hq
    funext k
    rw [before, dif_pos h]
    exact congrArg (fun q => x0 (ix3 b q k)) (Fin.ext hq.symm)
  have hz : ∀ (d : ℕ), ¬ d ≤ (s : ℕ) → before (X3 x0) d b s = fun _ => 0 := by
    intro d h
    funext k
    rw [before, dif_neg h]
  have hs := s.isLt
  have e2 : (if h : 2 ≤ (s : ℕ) ∧ (s : ℕ) - 2 < 4096 then rowDot (fun k => x0 (ix3 b ⟨(s : ℕ) - 2, h.2⟩ k)) fun k => x1 (ix2 k o)
      else (FloatOps.sitofp FTy.f32 (0#32 : BitVec 32) : Idealize.ShloMosaic.Ideal FTy.f32)) = rowDot (before (X3 x0) 2 b s) fun k => x1 (ix2 k o) := by
    split_ifs with h
    · rw [hd 2 h.1 ⟨(s : ℕ) - 2, h.2⟩ rfl]
    · rw [hz 2 (by omega), h0, rowDot_zero]
  have e1 : (if h : 2 ≤ 1 + (s : ℕ) ∧ 1 + (s : ℕ) - 2 < 4096 then rowDot (fun k => x0 (ix3 b ⟨1 + (s : ℕ) - 2, h.2⟩ k)) fun k => x1 (ix2 k o)
      else (FloatOps.sitofp FTy.f32 (0#32 : BitVec 32) : Idealize.ShloMosaic.Ideal FTy.f32)) = rowDot (before (X3 x0) 1 b s) fun k => x1 (ix2 k o) := by
    split_ifs with h
    · rw [hd 1 (by omega) ⟨1 + (s : ℕ) - 2, h.2⟩ (show 1 + (s : ℕ) - 2 = s - 1 by omega)]
    · rw [hz 1 (by omega), h0, rowDot_zero]
  rw [e1, e2]
  exact conv_comm _ _ _ _ _ _ _

/-- The gated activation at one row and one channel. -/
theorem act_at (b : Fin 8) (s : Fin 4096) (c : Fin 2816) :
    val_main_v28 (F := Ideal) x0 x1 x2 x3 (ix3 b s c)
      = actCol (before (X3 x0) 2 b s) (before (X3 x0) 1 b s) (fun k => x0 (ix3 b s k)) (fun k o => x1 (ix2 k o))
          (fun a o => x2 (ix2 a o)) (fun o => x3 (ix1 o)) c := by
  pointwise [val_main_v28, val_main_v27, val_main_call1_v5, val_main_call1_v4, val_main_call1_v3, val_main_call1_v2, val_main_call1_v1, val_main_call1_v0,
    val_main_call1_cst, val_main_call1_cst_0, val_main_v26, val_main_v25, conv_at, actCol, Ideal.logistic]

/-- The reference at one row and one lane. -/
theorem ref_at (R : Fin 32768) (n : Fin 1024) :
    val_main_v57 (F := Ideal) x0 x1 x2 x3 x4 x5 x6 (ix2 R n)
      = ffnOut (X3 x0) (fun k o => x1 (ix2 k o)) (fun a o => x2 (ix2 a o)) (fun o => x3 (ix1 o)) (fun c k => x4 (ix2 c k))
          (fun n => x5 (ix1 n)) (fun n => x6 (ix1 n)) R n := by
  have hy : ∀ (b : Fin 8) (s : Fin 4096) (k : Fin 1024), val_main_v32 (F := Ideal) x0 x1 x2 x3 x4 (ix3 b s k)
      = alpha * x0 (ix3 b s k) + rowDot (actCol (before (X3 x0) 2 b s) (before (X3 x0) 1 b s) (fun k => x0 (ix3 b s k)) (fun k o => x1 (ix2 k o))
          (fun a o => x2 (ix2 a o)) (fun o => x3 (ix1 o))) (fun c => x4 (ix2 c k)) := by
    intro b s k
    pointwise [val_main_v32, val_main_v31, val_main_v30, val_main_cst, val_main_v29, act_at, rowDot]
  unfold ffnOut ffnRow rowNorm rowMean bat pos
  pointwise [val_main_v57, val_main_v56, val_main_v55, val_main_v54, val_main_v53, val_main_v52, val_main_v51, val_main_v50,
    val_main_v49, val_main_v48, val_main_v47, val_main_v46, val_main_v45, val_main_v44, val_main_v43, val_main_v42, val_main_v41,
    val_main_v40, val_main_v39, val_main_v38, val_main_v37, val_main_v36, val_main_v35, val_main_v34, val_main_v33,
    val_main_cst_0, val_main_cst_1, val_main_cst_2, val_main_cst_3, val_main_cst_4, hy, lanes, eps]
  all_goals rfl

end Cert.Reference2Ideal.Ffn
-- ==== Proof.FfnClaim.lean ====
module

public import proofs.«01_k».proof.Proof.FfnValue
public import proofs.«01_k».proof.Proof.FfnRef
public import proofs.«01_k».proof.Defs
public import Idealize.ShloMosaic.Lib.Quiescent

/-! The conv FFN's call and its reference end with equal results. -/

@[expose] public section

noncomputable section

namespace Trunk

open Idealize.ShloMosaic Idealize.ShloMosaic.TcCoe Idealize.SL.Sem

/-- The reference of the conv FFN runs, keeps its arguments and leaves every counter at zero. -/
theorem ffn_ref_frame [Cert.Reference2Ideal.Facts] : Cert.quiescent_Reference2Ideal := fun m ρ _ =>
  (θ_run _ _ _).mono (fun r h => ⟨fun c => (h c).2, sem_eq_zero_of_no_sems rfl r.2⟩) (Cert.Reference2Ideal.Value.run m ρ)

/-- From equal arguments the conv FFN's call and its reference end with equal results. -/
theorem ffn_algebraic [Cert.Kernel2Ideal.Facts] [Cert.Reference2Ideal.Facts] : Cert.algebraic_Kernel2Ideal_Reference2Ideal :=
  fun m ρ m' ρ' _ hag => ⟨fun c => Cert.Kernel2Ideal.Ffn.G m c,
    (θ_run _ _ _).mono (fun _ h c => ⟨(h c).1.trans (Cert.Kernel2Ideal.Ffn.final m c), (h c).2⟩) (Cert.Kernel2Ideal.Value.run_blocks m ρ),
    (θ_run _ _ _).mono (fun _ h c => ⟨(h c).1.trans (by
      obtain ⟨e0, e1, e2, e3, e4, e5, e6⟩ := hag c
      rw [Cert.Reference2Ideal.Read.val_main_v57_eq, e0, e1, e2, e3, e4, e5, e6]
      funext y
      idx_vars y
      exact Cert.Reference2Ideal.Ffn.ref_at _ _ _ _ _ _ _ y0 y1), (h c).2⟩) (Cert.Reference2Ideal.Value.run m' ρ')⟩

end Trunk
-- ==== Proof.MemRows.lean ====
module

public import proofs.«01_k».proof.Proof.Rows

/-! The memory attention's row functions, and why a softmax row of real scores may be divided by its sum or
    multiplied by the sum's reciprocal. -/

@[expose] public section

set_option maxRecDepth 16384

noncomputable section

namespace Trunk

open Idealize.ShloMosaic

/-- The value a row's maximum starts from, minus infinity, as the programs spell it. -/
abbrev rowBot : EReal := Ideal.ofBits .f32 0xFF800000#32

/-- The scores' scale, one over the square root of 256, as the programs spell it. -/
abbrev scale : EReal := Ideal.ofBits .f32 0x3D800000#32

/-- The extended real is a real. -/
def IsReal (a : EReal) : Prop := ∃ r : ℝ, a = (r : EReal)

/-- The product of two reals is a real. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- A sum of reals is a real. -/
theorem IsReal.sum {ι : Type} (s : Finset ι) {f : ι → EReal} (hf : ∀ i, IsReal (f i)) : IsReal (∑ i ∈ s, f i) := by
  classical
  induction s using Finset.induction_on with
  | empty => exact ⟨0, by simp⟩
  | insert a s ha ih =>
    obtain ⟨r, hr⟩ := hf a
    obtain ⟨q, hq⟩ := ih
    exact ⟨r + q, by rw [Finset.sum_insert ha, hr, hq, EReal.coe_add]⟩

/-- The minus infinity the programs spell is the least extended real. -/
theorem rowBot_eq : rowBot = ⊥ := by simp [rowBot, Ideal.ofBits, Ideal.ieee]

/-- The plus infinity the programs spell is the greatest extended real. -/
theorem inf_eq : Ideal.ofBits .f32 0x7F800000#32 = ⊤ := by simp [Ideal.ofBits, Ideal.ieee]

/-- The scale is the real one sixteenth. -/
theorem scale_eq : scale = ((1 / 16 : ℝ) : EReal) := by
  simp [scale, Ideal.ofBits, Ideal.ieee]
  rw [← EReal.coe_mul]
  norm_num

/-- An extended real whose absolute value is under plus infinity is a real. -/
theorem isReal_of_abs_lt {a : EReal} (h : max a (-a) < ⊤) : IsReal a := by
  have h1 : a ≠ ⊤ := fun e => by subst e; simp at h
  have h2 : a ≠ ⊥ := fun e => by subst e; simp at h
  exact ⟨a.toReal, (EReal.coe_toReal h1 h2).symm⟩

/-- The greatest score of a row. -/
def rowTop (s : Fin 256 → EReal) : EReal := Finset.fold max rowBot s Finset.univ

/-- Starting the maximum once more from minus infinity changes nothing. -/
theorem max_rowTop (s : Fin 256 → EReal) : max rowBot (rowTop s) = rowTop s := by
  rw [rowBot_eq]
  exact max_eq_right bot_le

/-- The greatest score of a row is one of its scores. -/
theorem rowTop_mem (s : Fin 256 → EReal) : ∃ e, rowTop s = s e := by
  obtain ⟨e, -, he⟩ := Finset.exists_mem_eq_sup Finset.univ ⟨0, Finset.mem_univ _⟩ s
  refine ⟨e, Eq.trans ?_ he⟩
  unfold rowTop
  rw [rowBot_eq]
  rfl

/-- An exponential is not negative. -/
theorem exp_nonneg (a : EReal) : 0 ≤ Ideal.exp a := by
  induction a with
  | bot => exact le_rfl
  | top => exact le_top
  | coe r => exact EReal.coe_nonneg.mpr (Real.exp_pos r).le

/-- The exponentials of a row of real scores, each less the greatest, have a sum other than zero. -/
theorem expSum_ne_zero {s : Fin 256 → EReal} (hs : ∀ e, IsReal (s e)) : ∑ e, Ideal.exp (s e - rowTop s) ≠ 0 := by
  obtain ⟨e, he⟩ := rowTop_mem s
  obtain ⟨r, hr⟩ := hs e
  have h1 : Ideal.exp (s e - rowTop s) = 1 := by
    rw [he, hr, ← EReal.coe_sub, sub_self]
    show ((Real.exp 0 : ℝ) : EReal) = 1
    rw [Real.exp_zero, EReal.coe_one]
  have h2 : Ideal.exp (s e - rowTop s) ≤ ∑ e, Ideal.exp (s e - rowTop s) :=
    Finset.single_le_sum (f := fun e => Ideal.exp (s e - rowTop s)) (fun i _ => exp_nonneg _) (Finset.mem_univ e)
  rw [h1] at h2
  exact fun h => absurd (h ▸ h2) (by simp)

/-- A head's output at one lane: the values weighted by the softmax of the scores. -/
def headOut (s v : Fin 256 → EReal) : EReal :=
  ∑ e, Ideal.div (Ideal.exp (s e - rowTop s)) (∑ e', Ideal.exp (s e' - rowTop s)) * v e

/-- A head's output with each exponential multiplied by the reciprocal of the sum. -/
def headInv (s v : Fin 256 → EReal) : EReal :=
  ∑ e, Ideal.exp (s e - rowTop s) * Ideal.div 1 (∑ e', Ideal.exp (s e' - rowTop s)) * v e

/-- On real scores the two agree. -/
theorem headInv_eq {s : Fin 256 → EReal} (hs : ∀ e, IsReal (s e)) (v : Fin 256 → EReal) : headInv s v = headOut s v := by
  unfold headInv headOut
  exact Finset.sum_congr rfl fun e _ => by rw [Ideal.mul_one_div (expSum_ne_zero hs)]

/-- The head of a lane. -/
def head (n : Fin 1024) : Fin 4 := ⟨n / 256, by omega⟩

/-- The scores of one row in one head: its scaled queries against the memory's keys. -/
def scores (x : Fin 1024 → EReal) (Wq : Fin 1024 → Fin 1024 → EReal) (M : Fin 256 → Fin 2048 → EReal) (h : Fin 4) (e : Fin 256) : EReal :=
  ∑ d : Fin 256, (∑ k, x k * Wq k ⟨h * 256 + d, by omega⟩) * scale * M e ⟨h * 256 + d, by omega⟩

/-- The scores with the scale taken into the query weights. -/
def scoresIn (x : Fin 1024 → EReal) (Wq : Fin 1024 → Fin 1024 → EReal) (M : Fin 256 → Fin 2048 → EReal) (h : Fin 4) (e : Fin 256) : EReal :=
  ∑ d : Fin 256, (∑ k, x k * Wq k ⟨h * 256 + d, by omega⟩) * M e ⟨h * 256 + d, by omega⟩

/-- The scale may be taken into the query weights. -/
theorem scoresIn_scaled (x : Fin 1024 → EReal) (Wq : Fin 1024 → Fin 1024 → EReal) (M : Fin 256 → Fin 2048 → EReal) (h : Fin 4) (e : Fin 256)
    (hx : ∀ k, IsReal (x k)) (hW : ∀ k j, IsReal (Wq k j)) :
    scoresIn x (fun k j => Wq k j * scale) M h e = scores x Wq M h e := by
  unfold scoresIn scores
  refine Finset.sum_congr rfl fun d _ => congrArg (· * _) ?_
  choose a ha using hx
  choose w hw using hW
  simp only [ha, hw, scale_eq, ← EReal.coe_mul]
  have hc : ∀ f : Fin 1024 → ℝ, ∑ k, ((f k : ℝ) : EReal) = ((∑ k, f k : ℝ) : EReal) := fun f =>
    (map_sum (⟨⟨Real.toEReal, EReal.coe_zero⟩, EReal.coe_add⟩ : ℝ →+ EReal) f Finset.univ).symm
  rw [hc, hc, ← EReal.coe_mul, Finset.sum_mul]
  exact congrArg _ (Finset.sum_congr rfl fun k _ => (mul_assoc _ _ _).symm)

/-- Scores of real rows, weights and keys are real. -/
theorem scores_real (x : Fin 1024 → EReal) (Wq : Fin 1024 → Fin 1024 → EReal) (M : Fin 256 → Fin 2048 → EReal) (h : Fin 4)
    (hx : ∀ k, IsReal (x k)) (hW : ∀ k j, IsReal (Wq k j)) (hM : ∀ (e : Fin 256) (j : Fin 1024), IsReal (M e ⟨j, by omega⟩)) (e : Fin 256) :
    IsReal (scores x Wq M h e) := by
  have hs : IsReal scale := ⟨_, scale_eq⟩
  exact IsReal.sum _ fun d => ((IsReal.sum _ fun k => (hx k).mul (hW k _)).mul hs).mul (hM e ⟨h * 256 + d, by omega⟩)

/-- The attention's output at one lane. -/
def attnRow (x : Fin 1024 → EReal) (Wq : Fin 1024 → Fin 1024 → EReal) (M : Fin 256 → Fin 2048 → EReal) (n : Fin 1024) : EReal :=
  headOut (scores x Wq M (head n)) (fun e => M e ⟨1024 + n, by omega⟩)

/-- The attention's output at one lane as the kernel computes it: weights that hold the scale, and reciprocal sums. -/
def attnInv (x : Fin 1024 → EReal) (Wq : Fin 1024 → Fin 1024 → EReal) (M : Fin 256 → Fin 2048 → EReal) (n : Fin 1024) : EReal :=
  headInv (scoresIn x Wq M (head n)) (fun e => M e ⟨1024 + n, by omega⟩)

/-- On real rows, weights and keys the two outputs agree. -/
theorem attnInv_eq (x : Fin 1024 → EReal) (Wq : Fin 1024 → Fin 1024 → EReal) (M : Fin 256 → Fin 2048 → EReal) (n : Fin 1024)
    (hx : ∀ k, IsReal (x k)) (hW : ∀ k j, IsReal (Wq k j)) (hM : ∀ (e : Fin 256) (j : Fin 1024), IsReal (M e ⟨j, by omega⟩)) :
    attnInv x (fun k j => Wq k j * scale) M n = attnRow x Wq M n := by
  unfold attnInv attnRow
  rw [funext fun e => scoresIn_scaled x Wq M (head n) e hx hW]
  exact headInv_eq (scores_real x Wq M (head n) hx hW hM) _

/-- A sublayer's row from the attention's outputs: output projection, residual and layer norm. -/
def attnNorm (x a : Fin 1024 → EReal) (Wo : Fin 1024 → Fin 1024 → EReal) (g b : Fin 1024 → EReal) (n : Fin 1024) : EReal :=
  rowNorm (fun k => alpha * x k + rowDot a (fun j => Wo j k)) (g n) (b n) n

/-- The memory attention sublayer at one row of the flattened array and one lane. -/
def memOut (X : Fin 8 → Fin 4096 → Fin 1024 → EReal) (M : Fin 8 → Fin 256 → Fin 2048 → EReal) (Wq Wo : Fin 1024 → Fin 1024 → EReal)
    (g b : Fin 1024 → EReal) (R : Fin 32768) (n : Fin 1024) : EReal :=
  attnNorm (X (bat R) (pos R)) (attnRow (X (bat R) (pos R)) Wq (M (bat R))) Wo g b n

end Trunk
-- ==== Proof.MemBody.lean ====
module

public import proofs.«01_k».proof.Proof.Gen.Kernel3Ideal.Frame
public import proofs.«01_k».proof.Proof.MemRows
public import Idealize.ShloMosaic.Lib.Pipeline.ValueKit

/-! The memory attention's body on a piece of 512 rows: queries, four heads, output projection, residual and norm,
    read at one row and one lane; and the output window's four pieces. -/

@[expose] public section

set_option maxRecDepth 16384

noncomputable section

namespace Cert.Kernel3Ideal.Mem

open Idealize.ShloMosaic Idealize.ShloMosaic.TcCoe Idealize.SL.Sem
open Cert.Kernel3Ideal Cert.Kernel3Ideal.Gen Trunk

/-- The queries of a piece. -/
def queries (x : Vec Ideal S512x1024 .f32) (wq : Vec Ideal S1024x1024 .bf16) : FVec Ideal S512x1024 .bf16 :=
  truncf .bf16 (matmul dot_S512x1024_S1024x1024_S512x1024_1_0_0_1_n_n none
    (truncf .bf16 (shapeCast S512x1024 x shapeCasts_S512x1024_S512x1024 : FVec Ideal S512x1024 .f32) bitsLt_bf16_f32 : FVec Ideal S512x1024 .bf16)
    (shapeCast S1024x1024 wq shapeCasts_S1024x1024_S1024x1024 : FVec Ideal S1024x1024 .bf16)
    (constant S512x1024 .f32 0x00000000#32) : FVec Ideal S512x1024 .f32) bitsLt_bf16_f32

/-- The queries at one row and one lane. -/
theorem queries_at (x : Vec Ideal S512x1024 .f32) (wq : Vec Ideal S1024x1024 .bf16) (p : Fin 512) (j : Fin 1024) :
    queries x wq (ix2 p j) = ∑ k : Fin 1024, x (ix2 p k) * wq (ix2 k j) := by
  pointwise [queries]

/-- The exponentials of a head's scores, each less its row's greatest. -/
def expVec (q : FVec Ideal S512x256 .bf16) (K : Vec Ideal S1x256x256 .bf16) : FVec Ideal S512x256 .f32 :=
  let s : FVec Ideal S512x256 .f32 := matmul dot_S512x256_S256x256_S512x256_1_1_0_0_n_n none q
    (shapeCast S256x256 K shapeCasts_S1x256x256_S256x256 : FVec Ideal S256x256 .bf16) (constant S512x256 .f32 0x00000000#32)
  exp (subf s (broadcastTo S512x256 (shapeCast S512x1 (multiReduction .maximumf [1] S512 s 0xFF800000#32 reduces_S512x256_S512 (.inl rfl) rfl)
    shapeCasts_S512_S512x1 : FVec Ideal S512x1 .f32) broadcasts_S512x1_S512x256))

/-- The exponentials at one row and one memory slot. -/
theorem expVec_at (q : FVec Ideal S512x256 .bf16) (K : Vec Ideal S1x256x256 .bf16) (p : Fin 512) (e : Fin 256) :
    expVec q K (ix2 p e) = Ideal.exp ((∑ d : Fin 256, q (ix2 p d) * K (ix3 0 e d)) - rowTop (fun e => ∑ d : Fin 256, q (ix2 p d) * K (ix3 0 e d))) := by
  unfold rowTop
  pointwise [expVec]

/-- One head's output. -/
def headVec (q : FVec Ideal S512x256 .bf16) (K V : Vec Ideal S1x256x256 .bf16) : FVec Ideal S512x256 .bf16 :=
  truncf .bf16 (matmul dot_S512x256_S256x256_S512x256_1_0_0_1_n_n none
    (truncf .bf16 (mulf (expVec q K) (broadcastTo S512x256
        (divf (broadcast S512x1 (Scalar.ofBits .f32 0x3F800000#32))
          (shapeCast S512x1 (multiReduction .add [1] S512 (expVec q K) 0x00000000#32 reduces_S512x256_S512 (.inl rfl) rfl)
            shapeCasts_S512_S512x1 : FVec Ideal S512x1 .f32) : FVec Ideal S512x1 .f32)
        broadcasts_S512x1_S512x256) : FVec Ideal S512x256 .f32) bitsLt_bf16_f32 : FVec Ideal S512x256 .bf16)
    (shapeCast S256x256 V shapeCasts_S1x256x256_S256x256 : FVec Ideal S256x256 .bf16)
    (constant S512x256 .f32 0x00000000#32) : FVec Ideal S512x256 .f32) bitsLt_bf16_f32

/-- One head's output at one row and one lane. -/
theorem headVec_at (q : FVec Ideal S512x256 .bf16) (K V : Vec Ideal S1x256x256 .bf16) (p : Fin 512) (c : Fin 256) :
    headVec q K V (ix2 p c) = headInv (fun e => ∑ d : Fin 256, q (ix2 p d) * K (ix3 0 e d)) (fun e => V (ix3 0 e c)) := by
  unfold headInv
  pointwise [headVec, expVec_at]

/-- Four heads side by side. -/
def wide (H0 H1 H2 H3 : FVec Ideal S512x256 .bf16) : FVec Ideal S512x1024 .bf16 :=
  concatenate S512x1024 1 [⟨S512x256, H0⟩, ⟨S512x256, H1⟩, ⟨S512x256, H2⟩, ⟨S512x256, H3⟩] concatenates_S512x256_S512x256_S512x256_S512x256_S512x1024_d1

/-- Four heads that hold the values of `f` on their lanes hold, side by side, the values of `f`. -/
theorem wide_at (H0 H1 H2 H3 : FVec Ideal S512x256 .bf16) (f : Fin 1024 → EReal) (p : Fin 512)
    (h0 : ∀ c : Fin 256, H0 (ix2 p c) = f ⟨0 + c, by omega⟩)
    (h1 : ∀ c : Fin 256, H1 (ix2 p c) = f ⟨256 + c, by omega⟩)
    (h2 : ∀ c : Fin 256, H2 (ix2 p c) = f ⟨512 + c, by omega⟩)
    (h3 : ∀ c : Fin 256, H3 (ix2 p c) = f ⟨768 + c, by omega⟩)
    (n : Fin 1024) : wide H0 H1 H2 H3 (ix2 p n) = f n := by
  have hn := n.isLt
  pointwise [wide, h0, h1, h2, h3]
  iterate 3
    refine dite_same _ _ _ (fun h => congrArg f (Fin.ext ?_)) (fun h => ?_)
    · first | rfl | omega | (dsimp only; omega)
  refine congrArg f (Fin.ext ?_)
  first | rfl | omega | (dsimp only; omega)

/-- The residual and the output projection. -/
def sumOut (x : Vec Ideal S512x1024 .f32) (a : FVec Ideal S512x1024 .bf16) (w : Vec Ideal S1024x1024 .bf16) : FVec Ideal S512x1024 .f32 :=
  addf (mulf (broadcast S512x1024 (Scalar.ofBits .f32 0x3FB504F3#32)) (shapeCast S512x1024 x shapeCasts_S512x1024_S512x1024 : FVec Ideal S512x1024 .f32))
    (matmul dot_S512x1024_S1024x1024_S512x1024_1_0_0_1_n_n none a (shapeCast S1024x1024 w shapeCasts_S1024x1024_S1024x1024 : FVec Ideal S1024x1024 .bf16)
      (constant S512x1024 .f32 0x00000000#32))

/-- The residual and the output projection at one row and one lane. -/
theorem sumOut_at (x : Vec Ideal S512x1024 .f32) (a : FVec Ideal S512x1024 .bf16) (w : Vec Ideal S1024x1024 .bf16) (p : Fin 512) (n : Fin 1024) :
    sumOut x a w (ix2 p n) = alpha * x (ix2 p n) + rowDot (fun j => a (ix2 p j)) (fun j => w (ix2 j n)) := by
  pointwise [sumOut, rowDot]

/-- The layer norm a piece ends in, at one row and one lane. -/
theorem norm_at (y : FVec Ideal S512x1024 .f32) (g b : Vec Ideal S1x1024 .f32) (p : Fin 512) (n : Fin 1024) :
    k0_pay30 y (k0_pay29 g) b (ix2 p n) = rowNorm (fun k => y (ix2 p k)) (g (ix2 0 n)) (b (ix2 0 n)) n := by
  pointwise [k0_pay30, k0_pay29, rowNorm, rowMean]

section Piece

variable (x : Vec Ideal S512x1024 .f32) (x1 : Vec Ideal S1x256x2048 .bf16) (x2 x3 : Vec Ideal S1024x1024 .bf16) (x4 x5 : Vec Ideal S1x1024 .f32)

/-- The four heads of a piece, side by side. -/
def heads : FVec Ideal S512x1024 .bf16 :=
  wide (headVec (extractStridedSlice S512x256 ![0, 0] (queries x (View.ld x2 r0_1)) slices_S512x1024_o0_0_S512x256) (View.ld x1 r0_2) (View.ld x1 r0_3))
    (headVec (extractStridedSlice S512x256 ![0, 256] (queries x (View.ld x2 r0_1)) slices_S512x1024_o0_256_S512x256) (View.ld x1 r0_4) (View.ld x1 r0_5))
    (headVec (extractStridedSlice S512x256 ![0, 512] (queries x (View.ld x2 r0_1)) slices_S512x1024_o0_512_S512x256) (View.ld x1 r0_6) (View.ld x1 r0_7))
    (headVec (extractStridedSlice S512x256 ![0, 768] (queries x (View.ld x2 r0_1)) slices_S512x1024_o0_768_S512x256) (View.ld x1 r0_8) (View.ld x1 r0_9))

/-- A piece's result. -/
def piece : FVec Ideal S512x1024 .f32 :=
  k0_pay30 (sumOut x (heads x x1 x2) (View.ld x3 r0_1)) (k0_pay29 (View.ld x4 r0_12)) (View.ld x5 r0_12)

/-- A head's row is a function of its scores and values. -/
theorem headInv_congr {s s' v v' : Fin 256 → EReal} (hs : ∀ e, s e = s' e) (hv : ∀ e, v e = v' e) : headInv s v = headInv s' v' := by
  rw [funext hs, funext hv]

/-- The four heads at one row and one lane. -/
theorem heads_at (p : Fin 512) (n : Fin 1024) :
    heads x x1 x2 (ix2 p n) = attnInv (fun k => x (ix2 p k)) (fun k j => x2 (ix2 k j)) (fun e j => x1 (ix3 0 e j)) n := by
  have hq : ∀ j : Fin 1024, queries x (View.ld x2 r0_1) (ix2 p j) = ∑ k : Fin 1024, x (ix2 p k) * x2 (ix2 k j) := fun j => by
    rw [queries_at]
    pointwise
  unfold heads
  refine wide_at _ _ _ _ (attnInv (fun k => x (ix2 p k)) (fun k j => x2 (ix2 k j)) (fun e j => x1 (ix3 0 e j))) p
    (fun c => ?_) (fun c => ?_) (fun c => ?_) (fun c => ?_) n
  all_goals
    rw [headVec_at]
    refine headInv_congr (fun e => Finset.sum_congr rfl fun d _ => ?_) (fun e => ?_)
    · pointwise [hq]
      refine congrArg₂ (· * ·) (Finset.sum_congr rfl fun k _ => congrArg (fun j => x (ix2 p k) * x2 (ix2 k j)) (Fin.ext ?_))
        (congrArg (fun j => x1 (ix3 0 e j)) (Fin.ext ?_))
      all_goals
        simp only [head]
        omega
    · pointwise
      all_goals
        refine congrArg (fun j => x1 (ix3 0 e j)) (Fin.ext ?_)
        dsimp only
        omega

/-- A piece's result at one row and one lane. -/
theorem piece_at (p : Fin 512) (n : Fin 1024) :
    piece x x1 x2 x3 x4 x5 (ix2 p n)
      = attnNorm (fun k => x (ix2 p k)) (attnInv (fun k => x (ix2 p k)) (fun k j => x2 (ix2 k j)) (fun e j => x1 (ix3 0 e j)))
          (fun j k => x3 (ix2 j k)) (fun n => x4 (ix2 0 n)) (fun n => x5 (ix2 0 n)) n := by
  unfold piece attnNorm
  rw [norm_at]
  refine rowNorm_congr (fun k => ?_) (by pointwise) (by pointwise) n
  rw [sumOut_at, funext fun j => heads_at x x1 x2 p j]
  refine congrArg (_ + ·) (congrArg (rowDot _) (funext fun j => ?_))
  pointwise

end Piece

/-- The output window's four pieces, in the pieces' own vocabulary. -/
theorem out_eq (x0 : Vec Ideal S2048x1024 .f32) (x1 : Vec Ideal S1x256x2048 .bf16) (x2 x3 : Vec Ideal S1024x1024 .bf16) (x4 x5 : Vec Ideal S1x1024 .f32) :
    out0_6 x0 x1 x2 x3 x4 x5 = View.canon (Val := Elt Ideal) (s := S2048x1024) (e := .f32)
      [⟨r0_13, piece (View.ld x0 r0_13) x1 x2 x3 x4 x5⟩, ⟨r0_11, piece (View.ld x0 r0_11) x1 x2 x3 x4 x5⟩,
       ⟨r0_10, piece (View.ld x0 r0_10) x1 x2 x3 x4 x5⟩, ⟨r0_0, piece (View.ld x0 r0_0) x1 x2 x3 x4 x5⟩] := rfl

end Cert.Kernel3Ideal.Mem
-- ==== Proof.MemValue.lean ====
module

public import proofs.«01_k».proof.Proof.MemBody
public import proofs.«01_k».proof.Proof.Gen.Kernel3Ideal.Value
public import Idealize.ShloMosaic.Lib.Pipeline.ValueKit

/-! The array the memory attention's call writes, as the row function at every row and lane. -/

@[expose] public section

set_option maxRecDepth 16384

noncomputable section

namespace Cert.Kernel3Ideal.Mem

open Idealize.ShloMosaic Idealize.ShloMosaic.TcCoe Idealize.SL.Sem
open Cert.Kernel3Ideal Cert.Kernel3Ideal.Gen Trunk

variable (m : (ℓ : Loc nD τ sig) → Buf (Elt Ideal) ℓ)

/-- Each window's block index at each grid point. -/
theorem idx : ∀ t : Fin cfg0.N, win0_0.index t = ![t.val, 0] ∧ win0_1.index t = ![t.val / 2, 0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- The sublayer's argument by batch, row and lane. -/
abbrev X3 (c : Dev nD) (b : Fin 8) (s : Fin 4096) (k : Fin 1024) : EReal := m ((c : Thread nD τ).loc main_arg0) (ix3 b s k)

/-- The memory's rows of one batch. -/
abbrev M3 (c : Dev nD) (b : Fin 8) (e : Fin 256) (j : Fin 2048) : EReal := m ((c : Thread nD τ).loc main_arg1) (ix3 b e j)

/-- The query weights. -/
abbrev Wq (c : Dev nD) (k j : Fin 1024) : EReal := m ((c : Thread nD τ).loc main_arg2) (ix2 k j)

/-- The flattened argument the call is given. -/
theorem flat_at (c : Dev nD) (R : Fin 32768) (k : Fin 1024) : V m c main_v0 (ix2 R k) = X3 m c (bat R) (pos R) k := by
  entry_read
  pointwise [bat, pos]

/-- The query weights the call is given hold the scale. -/
theorem wq_at (c : Dev nD) (k j : Fin 1024) : V m c main_v3 (ix2 k j) = Wq m c k j * scale := by
  entry_read
  pointwise

/-- A block of the flattened argument holds the argument's rows. -/
theorem blk0 (c : Dev nD) (t : Fin cfg0.N) (r : Fin 2048) (k : Fin 1024) (R : Fin 32768) (hR : (R : ℕ) = 2048 * t + r) :
    iblk m c 0 t (ix2 r k) = X3 m c (bat R) (pos R) k := by
  refine Eq.trans ?_ (flat_at m c R k)
  blk_ext [iblk, idx t]

theorem blk1 (c : Dev nD) (t : Fin cfg0.N) (e : Fin 256) (j : Fin 2048) (b : Fin 8) (hb : (b : ℕ) = t / 2) :
    iblk m c 1 t (ix3 0 e j) = M3 m c b e j := by
  blk_point [iblk, V, idx t]

theorem blk2 (c : Dev nD) (t : Fin cfg0.N) (k j : Fin 1024) : iblk m c 2 t (ix2 k j) = Wq m c k j * scale := by
  refine Eq.trans ?_ (wq_at m c k j)
  blk_ext [iblk, idx t]

theorem blk3 (c : Dev nD) (t : Fin cfg0.N) (k j : Fin 1024) :
    iblk m c 3 t (ix2 k j) = m ((c : Thread nD τ).loc main_arg3) (ix2 k j) := by
  blk_point [iblk, V, idx t]

theorem blk4 (c : Dev nD) (t : Fin cfg0.N) (k : Fin 1024) :
    iblk m c 4 t (ix2 0 k) = m ((c : Thread nD τ).loc main_arg4) (ix1 k) := by
  blk_point [iblk, V, idx t]

theorem blk5 (c : Dev nD) (t : Fin cfg0.N) (k : Fin 1024) :
    iblk m c 5 t (ix2 0 k) = m ((c : Thread nD τ).loc main_arg5) (ix1 k) := by
  blk_point [iblk, V, idx t]

/-- The sublayer's row with the scale in its query weights and reciprocal sums. -/
def rowInv (x : Fin 1024 → EReal) (W : Fin 1024 → Fin 1024 → EReal) (M : Fin 256 → Fin 2048 → EReal) (Wo : Fin 1024 → Fin 1024 → EReal)
    (g b : Fin 1024 → EReal) (n : Fin 1024) : EReal :=
  attnNorm x (attnInv x W M) Wo g b n

/-- The sublayer's row is a function of its row and weights. -/
theorem rowInv_congr {x x' : Fin 1024 → EReal} {W W' : Fin 1024 → Fin 1024 → EReal} {M M' : Fin 256 → Fin 2048 → EReal}
    {Wo Wo' : Fin 1024 → Fin 1024 → EReal} {g g' b b' : Fin 1024 → EReal} (n : Fin 1024) (hx : ∀ k, x k = x' k) (hW : ∀ k j, W k j = W' k j)
    (hM : ∀ e j, M e j = M' e j) (hWo : ∀ k j, Wo k j = Wo' k j) (hg : ∀ k, g k = g' k) (hb : ∀ k, b k = b' k) :
    rowInv x W M Wo g b n = rowInv x' W' M' Wo' g' b' n := by
  obtain rfl : x = x' := funext hx
  obtain rfl : W = W' := funext fun k => funext (hW k)
  obtain rfl : M = M' := funext fun k => funext (hM k)
  obtain rfl : Wo = Wo' := funext fun k => funext (hWo k)
  obtain rfl : g = g' := funext hg
  obtain rfl : b = b' := funext hb
  rfl

/-- THE OUTPUT WINDOW AT ONE ROW AND ONE LANE. -/
theorem out_at (x0 : Vec Ideal S2048x1024 .f32) (x1 : Vec Ideal S1x256x2048 .bf16) (x2 x3 : Vec Ideal S1024x1024 .bf16) (x4 x5 : Vec Ideal S1x1024 .f32)
    (r : Fin 2048) (n : Fin 1024) :
    out0_6 x0 x1 x2 x3 x4 x5 (ix2 r n)
      = rowInv (fun k => x0 (ix2 r k)) (fun k j => x2 (ix2 k j)) (fun e j => x1 (ix3 0 e j)) (fun j k => x3 (ix2 j k))
          (fun n => x4 (ix2 0 n)) (fun n => x5 (ix2 0 n)) n := by
  rw [out_eq]
  canon_tiles z h
  all_goals
    idx_vars z
    obtain rfl : n = z1 := Fin.ext h1
    refine (piece_at _ x1 x2 x3 x4 x5 z0 n).trans ?_
    refine rowInv_congr n (fun k => congrArg x0 (funext fun a => ?_)) (fun _ _ => rfl) (fun _ _ => rfl) (fun _ _ => rfl) (fun _ => rfl) (fun _ => rfl)
    match a with
    | ⟨0, _⟩ =>
      refine Fin.ext ?_
      first
        | (show 1536 + 1 * (z0 : ℕ) = (r : ℕ); omega)
        | (show 1024 + 1 * (z0 : ℕ) = (r : ℕ); omega)
        | (show 512 + 1 * (z0 : ℕ) = (r : ℕ); omega)
        | (show 0 + 1 * (z0 : ℕ) = (r : ℕ); omega)
    | ⟨1, _⟩ => exact Fin.ext (by show 0 + 1 * (k : ℕ) = k; omega)

/-- The array the call writes. -/
def G (c : Dev nD) : FVec Ideal S32768x1024 .f32 := fun y =>
  rowInv (X3 m c (bat (y 0)) (pos (y 0))) (fun k j => Wq m c k j * scale) (M3 m c (bat (y 0)))
    (fun j k => m ((c : Thread nD τ).loc main_arg3) (ix2 j k)) (fun n => m ((c : Thread nD τ).loc main_arg4) (ix1 n))
    (fun n => m ((c : Thread nD τ).loc main_arg5) (ix1 n)) (y 1)

/-- The array the call writes, at one row and one lane. -/
theorem G_at (c : Dev nD) (R : Fin 32768) (n : Fin 1024) :
    G m c (ix2 R n) = rowInv (X3 m c (bat R) (pos R)) (fun k j => Wq m c k j * scale) (M3 m c (bat R))
      (fun j k => m ((c : Thread nD τ).loc main_arg3) (ix2 j k)) (fun n => m ((c : Thread nD τ).loc main_arg4) (ix1 n))
      (fun n => m ((c : Thread nD τ).loc main_arg5) (ix1 n)) n := rfl

/-- On real rows, weights and keys the sublayer's row is the row with the softmax's quotient. -/
theorem rowInv_real (x : Fin 1024 → EReal) (W : Fin 1024 → Fin 1024 → EReal) (M : Fin 256 → Fin 2048 → EReal) (Wo : Fin 1024 → Fin 1024 → EReal)
    (g b : Fin 1024 → EReal) (n : Fin 1024) (hx : ∀ k, IsReal (x k)) (hW : ∀ k j, IsReal (W k j))
    (hM : ∀ (e : Fin 256) (j : Fin 1024), IsReal (M e ⟨j, by omega⟩)) :
    rowInv x (fun k j => W k j * scale) M Wo g b n = attnNorm x (attnRow x W M) Wo g b n := by
  unfold rowInv
  rw [funext fun n => attnInv_eq x W M n hx hW hM]

/-- What one grid point writes, at one row and one lane of its block. -/
theorem point (c : Dev nD) (t : Fin cfg0.N) (r : Fin 2048) (n : Fin 1024) (R : Fin 32768) (hR : (R : ℕ) = 2048 * t + r) :
    out0_6 (iblk m c 0 t) (iblk m c 1 t) (iblk m c 2 t) (iblk m c 3 t) (iblk m c 4 t) (iblk m c 5 t) (ix2 r n) = G m c (ix2 R n) := by
  refine (out_at (iblk m c 0 t) (iblk m c 1 t) (iblk m c 2 t) (iblk m c 3 t) (iblk m c 4 t) (iblk m c 5 t) r n).trans ?_
  have hr := r.isLt
  unfold G
  exact rowInv_congr n (fun k => blk0 m c t r k R hR) (fun k j => blk2 m c t k j)
    (fun e j => blk1 m c t e j (bat R) (by show (R : ℕ) / 4096 = _; omega)) (fun k j => blk3 m c t k j) (fun k => blk4 m c t k) (fun k => blk5 m c t k)

/-- The array after the call. -/
theorem final (c : Dev nD) : (dats m 0 c).arrAt 6 cfg0.N = G m c := by
  refine (dats m 0 c).arrAt_eq_of_covers 6 _ (by decide +kernel) fun t _ y => ?_
  blk_simp
  rw [after0_6]
  idx_vars y
  have ht : t.val < 16 := t.isLt
  refine (point m c t y0 y1 ⟨2048 * t.val + y0, by omega⟩ rfl).trans (congrArg (G m c) ?_)
  symm
  blk_ext [idx t]

end Cert.Kernel3Ideal.Mem
-- ==== Proof.MemRef.lean ====
module

public import proofs.«01_k».proof.Proof.Gen.Reference3Ideal.Read
public import proofs.«01_k».proof.Proof.MemRows

/-! The memory attention's reference, read at one row and one lane as the row function `memOut`. -/

@[expose] public section

set_option maxRecDepth 16384

noncomputable section

namespace Cert.Reference3Ideal.Mem

open Idealize.ShloMosaic Idealize.ShloMosaic.TcCoe Idealize.SL.Sem
open Cert.Reference3Ideal Cert.Reference3Ideal.Gen Cert.Reference3Ideal.Read Trunk

variable (x0 : FVec Ideal S8x4096x1024 .f32) (x1 : FVec Ideal S8x256x2048 .bf16) (x2 x3 : FVec Ideal S1024x1024 .f32)
  (x4 x5 : FVec Ideal S1024 .f32)

/-- The memory's rows of one batch. -/
abbrev M3 (M : FVec Ideal S8x256x2048 .bf16) (b : Fin 8) (e : Fin 256) (j : Fin 2048) : EReal := M (ix3 b e j)

/-- The sublayer's argument by batch, row and lane. -/
abbrev X3 (X : FVec Ideal S8x4096x1024 .f32) (b : Fin 8) (s : Fin 4096) (k : Fin 1024) : EReal := X (ix3 b s k)

/-- The scores of one row in one head. -/
theorem score_at (b : Fin 8) (h : Fin 4) (s : Fin 4096) (e : Fin 256) :
    val_main_v8 (F := Ideal) x0 x1 x2 (ix4 b h s e) = scores (X3 x0 b s) (fun k j => x2 (ix2 k j)) (M3 x1 b) h e := by
  unfold scores
  pointwise [val_main_v8, val_main_v7, val_main_v6, val_main_v5, val_main_v4, val_main_v3, val_main_v2, val_main_v1, val_main_v0, val_main_cst]

/-- The maximum over the last axis from minus infinity, at one index. -/
theorem fold_at (x : FVec Ideal S8x4x4096x256 .f32) (b : Fin 8) (h : Fin 4) (s : Fin 4096) :
    (Host.reduce FloatOps.maximumf x (constant S_ .f32 0xFF800000#32) reducesTo_S8x4x4096x256_S8x4x4096_d3 h_S_ : FVec Ideal S8x4x4096 .f32) (ix3 b h s)
      = rowTop (fun e => x (ix4 b h s e)) := by
  unfold rowTop
  pointwise

/-- The reference's first maximum of the scores. -/
theorem firstTop_at (b : Fin 8) (h : Fin 4) (s : Fin 4096) :
    val_main_v9 (F := Ideal) x0 x1 x2 (ix3 b h s) = rowTop (fun e => val_main_v8 (F := Ideal) x0 x1 x2 (ix4 b h s e)) := by
  unfold val_main_v9 val_main_cst_0
  exact fold_at (val_main_v8 (F := Ideal) x0 x1 x2) b h s

/-- The maximum with minus infinity, at one index. -/
theorem maxBot_at (X : FVec Ideal S8x4x4096 .f32) (b : Fin 8) (h : Fin 4) (s : Fin 4096) :
    maximumf (val_main_v10 (F := Ideal)) X (ix3 b h s) = max rowBot (X (ix3 b h s)) := by
  pointwise [val_main_v10, val_main_cst_1]

/-- The greatest score of one row in one head. -/
theorem top_at (b : Fin 8) (h : Fin 4) (s : Fin 4096) :
    val_main_v11 (F := Ideal) x0 x1 x2 (ix3 b h s) = rowTop (scores (X3 x0 b s) (fun k j => x2 (ix2 k j)) (M3 x1 b) h) := by
  unfold val_main_v11
  rw [maxBot_at, firstTop_at, max_rowTop, funext fun e => score_at x0 x1 x2 b h s e]

/-- The exponential of a score less the greatest. -/
theorem exp_at (b : Fin 8) (h : Fin 4) (s : Fin 4096) (e : Fin 256) :
    val_main_v15 (F := Ideal) x0 x1 x2 (ix4 b h s e)
      = Ideal.exp (scores (X3 x0 b s) (fun k j => x2 (ix2 k j)) (M3 x1 b) h e - rowTop (scores (X3 x0 b s) (fun k j => x2 (ix2 k j)) (M3 x1 b) h)) := by
  pointwise [val_main_v15, val_main_v14, val_main_v13, val_main_v12, top_at, score_at]

/-- A softmax weight. -/
theorem weight_at (b : Fin 8) (h : Fin 4) (s : Fin 4096) (e : Fin 256) :
    val_main_v19 (F := Ideal) x0 x1 x2 (ix4 b h s e)
      = Ideal.div (Ideal.exp (scores (X3 x0 b s) (fun k j => x2 (ix2 k j)) (M3 x1 b) h e - rowTop (scores (X3 x0 b s) (fun k j => x2 (ix2 k j)) (M3 x1 b) h)))
          (∑ e', Ideal.exp (scores (X3 x0 b s) (fun k j => x2 (ix2 k j)) (M3 x1 b) h e' - rowTop (scores (X3 x0 b s) (fun k j => x2 (ix2 k j)) (M3 x1 b) h))) := by
  pointwise [val_main_v19, val_main_v18, val_main_v17, val_main_v16, val_main_cst_2, exp_at]

/-- The attention's output at one row and one lane. -/
theorem attn_at (b : Fin 8) (s : Fin 4096) (n : Fin 1024) :
    val_main_v24 (F := Ideal) x0 x1 x2 (ix3 b s n) = attnRow (X3 x0 b s) (fun k j => x2 (ix2 k j)) (M3 x1 b) n := by
  unfold attnRow headOut
  pointwise [val_main_v24, val_main_v23, val_main_v22, val_main_v21, val_main_v20, val_main_v5, val_main_v4, weight_at]
  refine Finset.sum_congr rfl fun e _ => ?_
  rw [mul_comm]
  refine congrArg₂ (· * ·) rfl (congrArg (fun j => x1 (ix3 b e j)) (Fin.ext ?_))
  show 1024 + (n : ℕ) / 256 * 256 + (n : ℕ) % 256 = 1024 + n
  omega

/-- The reference at one row and one lane. -/
theorem ref_at (R : Fin 32768) (n : Fin 1024) :
    val_main_v53 (F := Ideal) x0 x1 x2 x3 x4 x5 (ix2 R n)
      = memOut (X3 x0) (M3 x1) (fun k j => x2 (ix2 k j)) (fun k j => x3 (ix2 k j)) (fun n => x4 (ix1 n)) (fun n => x5 (ix1 n)) R n := by
  have hy : ∀ (b : Fin 8) (s : Fin 4096) (k : Fin 1024), val_main_v28 (F := Ideal) x0 x1 x2 x3 (ix3 b s k)
      = alpha * X3 x0 b s k + rowDot (attnRow (X3 x0 b s) (fun k j => x2 (ix2 k j)) (M3 x1 b)) (fun j => x3 (ix2 j k)) := by
    intro b s k
    pointwise [val_main_v28, val_main_v27, val_main_v26, val_main_v25, val_main_cst_3, attn_at, rowDot]
  unfold memOut attnNorm rowNorm rowMean bat pos
  pointwise [val_main_v53, val_main_v52, val_main_v51, val_main_v50, val_main_v49, val_main_v48, val_main_v47, val_main_v46, val_main_v45, val_main_v44, val_main_v43, val_main_v42, val_main_v41, val_main_v40,
    val_main_v39, val_main_v38, val_main_v37, val_main_v36, val_main_v35, val_main_v34, val_main_v33, val_main_v32, val_main_v31, val_main_v30, val_main_v29, val_main_cst_4, val_main_cst_5, val_main_cst_6,
    val_main_cst_7, val_main_cst_8, hy, lanes, eps]
  all_goals rfl

end Cert.Reference3Ideal.Mem
-- ==== Proof.MemClaim.lean ====
module

public import proofs.«01_k».proof.Proof.MemValue
public import proofs.«01_k».proof.Proof.MemRef
public import proofs.«01_k».proof.Proof.Gen.Pre_finite
public import proofs.«01_k».proof.Defs
public import Idealize.ShloMosaic.Lib.Quiescent

/-! From finite rows, keys and query weights the memory attention's call and its reference end with equal results. -/

@[expose] public section

noncomputable section

namespace Trunk

open Idealize.ShloMosaic Idealize.ShloMosaic.TcCoe Idealize.SL.Sem

/-- The reference of the memory attention runs, keeps its arguments and leaves every counter at zero. -/
theorem mem_ref_frame [Cert.Reference3Ideal.Facts] : Cert.quiescent_Reference3Ideal := fun m ρ _ =>
  (θ_run _ _ _).mono (fun r h => ⟨fun c => (h c).2, sem_eq_zero_of_no_sems rfl r.2⟩) (Cert.Reference3Ideal.Value.run m ρ)

/-- An extended real whose absolute value compares less than plus infinity is a real. -/
theorem isReal_of_bit {a : EReal} (h : BitVec.ofBool (decide (FloatOps.absf (F := Ideal) (φ := .f32) a < ⊤)) = 1#1) : IsReal a := by
  refine isReal_of_abs_lt ?_
  by_contra hn
  rw [decide_eq_false (show ¬ FloatOps.absf (F := Ideal) (φ := .f32) a < ⊤ from hn)] at h
  exact absurd h (by decide)

section Args

variable (x0 : FVec Ideal Cert.Pre_finite.S8x4096x1024 .f32) (x1 : FVec Ideal Cert.Pre_finite.S8x256x2048 .bf16)
  (x2 x3 : FVec Ideal Cert.Pre_finite.S1024x1024 .f32) (x4 x5 : FVec Ideal Cert.Pre_finite.S1024 .f32)

/-- The precondition's first array all ones: the sublayer's argument is real. -/
theorem arg_real [Cert.Pre_finite.Facts] (h : (Cert.Pre_finite.fn (F := Ideal) x0 x1 x2 x3 x4 x5).1 = fun _ => 1#1) (b : Fin 8) (s : Fin 4096) (k : Fin 1024) :
    IsReal (x0 (ix3 b s k)) := by
  have h' := congrFun h (ix3 b s k)
  pointwise [Cert.Pre_finite.fn, inf_eq] at h'
  exact isReal_of_bit h'

/-- The precondition's second array all ones: the memory's keys are real. -/
theorem key_real [Cert.Pre_finite.Facts] (h : (Cert.Pre_finite.fn (F := Ideal) x0 x1 x2 x3 x4 x5).2.1 = fun _ => 1#1) (b : Fin 8) (e : Fin 256) (j : Fin 1024) :
    IsReal (x1 (ix3 b e ⟨j, by omega⟩)) := by
  have h' := congrFun h (ix3 b e j)
  pointwise [Cert.Pre_finite.fn, inf_eq] at h'
  exact isReal_of_bit h'

/-- The precondition's third array all ones: the query weights are real. -/
theorem weight_real [Cert.Pre_finite.Facts] (h : (Cert.Pre_finite.fn (F := Ideal) x0 x1 x2 x3 x4 x5).2.2 = fun _ => 1#1) (k j : Fin 1024) :
    IsReal (x2 (ix2 k j)) := by
  have h' := congrFun h (ix2 k j)
  pointwise [Cert.Pre_finite.fn, inf_eq] at h'
  exact isReal_of_bit h'

end Args

/-- From finite arguments what the call writes is the row function of the reference. -/
theorem mem_row [Cert.Kernel3Ideal.Facts] [Cert.Pre_finite.Facts]
    (m : (ℓ : Loc Cert.Kernel3Ideal.nD Cert.Kernel3Ideal.τ Cert.Kernel3Ideal.sig) → Buf (Elt Ideal) ℓ) (hp : Cert.Pre_Kernel3Ideal_finite m)
    (c : Dev Cert.Kernel3Ideal.nD) (R : Fin 32768) (n : Fin 1024) :
    Cert.Kernel3Ideal.Mem.G m c (ix2 R n)
      = memOut (Cert.Kernel3Ideal.Mem.X3 m c) (Cert.Kernel3Ideal.Mem.M3 m c) (Cert.Kernel3Ideal.Mem.Wq m c)
          (fun j k => m ((c : Thread Cert.Kernel3Ideal.nD Cert.Kernel3Ideal.τ).loc Cert.Kernel3Ideal.main_arg3) (ix2 j k)) (fun n => m ((c : Thread Cert.Kernel3Ideal.nD Cert.Kernel3Ideal.τ).loc Cert.Kernel3Ideal.main_arg4) (ix1 n))
          (fun n => m ((c : Thread Cert.Kernel3Ideal.nD Cert.Kernel3Ideal.τ).loc Cert.Kernel3Ideal.main_arg5) (ix1 n)) R n := by
  obtain ⟨p0, p1, p2⟩ := hp c
  exact (Cert.Kernel3Ideal.Mem.G_at m c R n).trans (Cert.Kernel3Ideal.Mem.rowInv_real _ _ _ _ _ _ n
    (fun k => arg_real _ _ _ _ _ _ p0 (bat R) (pos R) k) (fun k j => weight_real _ _ _ _ _ _ p2 k j) (fun e j => key_real _ _ _ _ _ _ p1 (bat R) e j))

/-- From equal finite arguments the memory attention's call and its reference end with equal results. -/
theorem mem_algebraic [Cert.Kernel3Ideal.Facts] [Cert.Reference3Ideal.Facts] [Cert.Pre_finite.Facts] :
    Cert.algebraic_Kernel3Ideal_Reference3Ideal_pre_finite :=
  fun m ρ m' ρ' hp hag => ⟨fun c => Cert.Kernel3Ideal.Mem.G m c,
    (θ_run _ _ _).mono (fun _ h c => ⟨(h c).1.trans (Cert.Kernel3Ideal.Mem.final m c), (h c).2⟩) (Cert.Kernel3Ideal.Value.run_blocks m ρ),
    (θ_run _ _ _).mono (fun _ h c => ⟨(h c).1.trans (by
      obtain ⟨e0, e1, e2, e3, e4, e5⟩ := hag c
      rw [Cert.Reference3Ideal.Read.val_main_v53_eq, e0, e1, e2, e3, e4, e5]
      funext y
      idx_vars y
      exact (Cert.Reference3Ideal.Mem.ref_at _ _ _ _ _ _ y0 y1).trans (mem_row m hp c y0 y1).symm), (h c).2⟩) (Cert.Reference3Ideal.Value.run m' ρ')⟩

end Trunk
-- ==== Proof.InpRows.lean ====
module

public import proofs.«01_k».proof.Proof.Rows

/-! The input projection's row functions: one lane of each of the five results, from a row of the argument, the row's
    position and the weights, as the reference lays them out and as the call does from its prepared weights. -/

@[expose] public section

set_option maxRecDepth 16384

noncomputable section

namespace Trunk

open Idealize.ShloMosaic

/-- The base-two logarithm of e, as the programs spell it. -/
abbrev log2e : EReal := Ideal.ofBits .f32 0x3FB8AA3B#32

/-- The queries' scale, one eighth, as the programs spell it. -/
abbrev eighth : EReal := Ideal.ofBits .f32 0x3E000000#32

/-- A lane of the keys' and values' array beyond the 64 of its slab: ones beside values, the row's block of 64
    beside the selected keys, zero beside the window's keys. -/
def kvFill (p : Fin 4096) (n : Fin 1024) : EReal :=
  if (n : ℕ) / 256 % 2 = 1 then 1 else if (n : ℕ) < 512 then (if (p : ℕ) / 64 = (n : ℕ) % 128 - 64 then 1 else 0) else 0

/-- A lane of the queries, from the projection's columns `w`: head `n / 128`'s lane, or padding. -/
def qLane (x : Fin 1024 → EReal) (W : Fin 1024 → Fin 1816 → EReal) (n : Fin 1024) : EReal :=
  if h : (n : ℕ) % 128 < 64 then rowDot x (fun k => W k ⟨64 * (n / 128) + n % 128, by omega⟩) * eighth * log2e else 0

/-- The same lane from the prepared weights, which hold the scale. -/
def qRow (x : Fin 1024 → EReal) (P : Fin 1024 → Fin 1920 → EReal) (n : Fin 1024) : EReal :=
  if h : (n : ℕ) % 128 < 64 then rowDot x (fun k => P k ⟨64 * (n / 128) + n % 128, by omega⟩) * log2e else 0

/-- A lane of the first branch's keys and values, by head then key or value. -/
def kv0Lane (x : Fin 1024 → EReal) (W : Fin 1024 → Fin 1816 → EReal) (n : Fin 256) : EReal :=
  rowDot x fun k => W k ⟨512 + (n / 64 % 2 * 128 + n / 128 * 64 + n % 64), by omega⟩

/-- The same lane from the prepared weights. -/
def kv0Row (x : Fin 1024 → EReal) (P : Fin 1024 → Fin 1920 → EReal) (n : Fin 256) : EReal :=
  rowDot x fun k => P k ⟨512 + n, by omega⟩

/-- A lane of the other two branches' keys and values, each slab's 64 lanes filled to 128. -/
def kvsLane (x : Fin 1024 → EReal) (W : Fin 1024 → Fin 1816 → EReal) (p : Fin 4096) (n : Fin 1024) : EReal :=
  if h : (n : ℕ) % 128 < 64 then
    rowDot x fun k => W k ⟨512 + ((1 + n / 512) * 256 + n / 256 % 2 * 128 + n / 128 % 2 * 64 + n % 128), by omega⟩
  else kvFill p n

/-- The same lane from the prepared weights. -/
def kvsRow (x : Fin 1024 → EReal) (P : Fin 1024 → Fin 1920 → EReal) (p : Fin 4096) (n : Fin 1024) : EReal :=
  if h : (n : ℕ) % 128 < 64 then
    rowDot x fun k => P k ⟨768 + (n / 512 * 256 + n / 128 % 2 * 128 + n / 256 % 2 * 64 + n % 128), by omega⟩
  else kvFill p n

/-- A lane of the gates, padded with zeros. -/
def gateLane (x : Fin 1024 → EReal) (W : Fin 1024 → Fin 1816 → EReal) (n : Fin 128) : EReal :=
  if h : (n : ℕ) < 24 then rowDot x fun k => W k ⟨1280 + n, by omega⟩ else 0

/-- The same lane from the prepared weights. -/
def gateRow (x : Fin 1024 → EReal) (P : Fin 1024 → Fin 1920 → EReal) (n : Fin 128) : EReal :=
  rowDot x fun k => P k ⟨1280 + n, by omega⟩

/-- A lane of the pooling mixer's input. -/
def uLane (x : Fin 1024 → EReal) (W : Fin 1024 → Fin 1816 → EReal) (n : Fin 512) : EReal :=
  rowDot x fun k => W k ⟨1304 + n, by omega⟩

/-- The same lane from the prepared weights. -/
def uRow (x : Fin 1024 → EReal) (P : Fin 1024 → Fin 1920 → EReal) (n : Fin 512) : EReal :=
  rowDot x fun k => P k ⟨1408 + n, by omega⟩

/-- The queries' scale is the real one eighth. -/
theorem eighth_eq : eighth = ((1 / 8 : ℝ) : EReal) := by
  simp [eighth, Ideal.ofBits, Ideal.ieee]
  rw [← EReal.coe_mul]
  norm_num

/-- A product of a row with weights that hold the scale is the scaled product. -/
theorem rowDot_scale {K : ℕ} (x w : Fin K → EReal) : rowDot x (fun k => w k * eighth) = rowDot x w * eighth := by
  have h0 : (0 : EReal) ≤ eighth := by
    rw [eighth_eq]
    exact_mod_cast (by norm_num : (0 : ℝ) ≤ 1 / 8)
  have h1 : eighth ≠ ⊤ := by
    rw [eighth_eq]
    exact EReal.coe_ne_top _
  unfold rowDot
  induction (Finset.univ : Finset (Fin K)) using Finset.induction_on with
  | empty => simp
  | insert a s ha ih => rw [Finset.sum_insert ha, Finset.sum_insert ha, ih, EReal.right_distrib_of_nonneg_of_ne_top h0 h1, mul_assoc]

/-- A product with zero weights is zero. -/
theorem rowDot_none {K : ℕ} (x : Fin K → EReal) : rowDot x (fun _ => 0) = 0 := by
  simp [rowDot]

end Trunk
-- ==== Proof.InpBody.lean ====
module

public import proofs.«01_k».proof.Proof.Gen.Kernel4Ideal.Frame
public import proofs.«01_k».proof.Proof.InpRows
public import Idealize.ShloMosaic.Lib.Pipeline.ValueKit

/-! The input projection's body: each output window read at one row and one lane. -/

@[expose] public section

set_option maxRecDepth 16384

noncomputable section

namespace Cert.Kernel4Ideal.Inp

open Idealize.ShloMosaic Idealize.ShloMosaic.TcCoe Idealize.SL.Sem
open Cert.Kernel4Ideal Cert.Kernel4Ideal.Gen Trunk

/-- The lane mask's comparison. -/
theorem slt_at (l : Fin 128) : IntOp.cmpi .slt (BitVec.ofNat 32 (l : ℕ)) 64#32 = BitVec.ofBool (decide ((l : ℕ) < 64)) := by
  revert l
  decide +kernel

/-- A selection by a decided bit is the case distinction. -/
theorem sel_at {α : Type} (p : Prop) [Decidable p] (a b : α) : Scalar.select (BitVec.ofBool (decide p)) a b = if p then a else b := by
  by_cases h : p <;> simp [Scalar.select, h]

/-- The lane mask's selection. -/
theorem low_at (l : Fin 128) (a b : EReal) : Scalar.select (IntOp.cmpi .slt (BitVec.ofNat 32 (l : ℕ)) 64#32) a b = if (l : ℕ) < 64 then a else b := by
  rw [slt_at, sel_at]

set_option maxHeartbeats 4000000 in
/-- The queries' window at one row and one lane. -/
theorem q_at (i : grid0.Coords) (x0 : Vec Ideal S1024x1024 .f32) (x1 : Vec Ideal S1024x1920 .bf16) (r n : Fin 1024) :
    out0_2 i x0 x1 (ix2 r n) = qRow (fun k => x0 (ix2 r k)) (fun k j => x1 (ix2 k j)) n := by
  unfold out0_2
  canon_tiles z h
  all_goals
    idx_vars z
    pointwise [k0_pay60, k0_pay59, k0_pay87, k0_pay58, k0_pay57, k0_pay56, k0_pay55, k0_pay54, k0_pay53, k0_pay52, k0_pay51, k0_pay50, k0_pay49, k0_pay48, k0_pay47, k0_pay86, k0_pay84, k0_pay82, k0_pay81, k0_pay46, k0_pay44, k0_pay38, k0_pay37,
      k0_pay80, k0_pay79, k0_pay77, k0_pay75, k0_pay74, k0_pay24, k0_pay23, k0_pay22, k0_pay21, k0_pay20, k0_pay19, k0_pay18, k0_pay17, k0_pay16, k0_pay15, k0_pay14, k0_pay13, k0_pay12, k0_pay11, k0_pay9, k0_pay3, k0_pay2, low_at]
    unfold qRow rowDot
    by_cases hl : (z1 : ℕ) < 64
    · rw [if_pos hl, dif_pos (by omega)]
      refine congrArg (· * log2e) (Finset.sum_congr rfl fun k _ => congrArg₂ (fun a b => x0 (ix2 a k) * x1 (ix2 k b)) (Fin.ext ?_) (Fin.ext ?_))
      · dsimp only
        omega
      · dsimp only
        omega
    · rw [if_neg hl, dif_neg (by omega)]

/-- The first half's positions within the batch. -/
theorem pos_at (i : grid0.Coords) (r : Fin 512) : k0_pay8 i (ix2 r 0) = BitVec.ofNat 32 (1024 * ((i 0 : ℕ) % 4) + r) := by
  pointwise [k0_pay8]
  have h : ∀ a : Fin 32, ∀ q : ℕ, IntOp.addi (Scalar.addi (Scalar.muli
      (Scalar.select (Scalar.andi (Scalar.xori
          (Scalar.cmpi .slt (Scalar.remsi (BitVec.ofNat 32 (a : ℕ)) (Scalar.select (Scalar.cmpi .eq 4#32 0#32) 1#32 4#32)) 0#32)
          (Scalar.cmpi .slt (Scalar.select (Scalar.cmpi .eq 4#32 0#32) 1#32 4#32) 0#32))
        (Scalar.cmpi .ne (Scalar.remsi (BitVec.ofNat 32 (a : ℕ)) (Scalar.select (Scalar.cmpi .eq 4#32 0#32) 1#32 4#32)) 0#32))
        (Scalar.addi (Scalar.remsi (BitVec.ofNat 32 (a : ℕ)) (Scalar.select (Scalar.cmpi .eq 4#32 0#32) 1#32 4#32))
          (Scalar.select (Scalar.cmpi .eq 4#32 0#32) 1#32 4#32))
        (Scalar.remsi (BitVec.ofNat 32 (a : ℕ)) (Scalar.select (Scalar.cmpi .eq 4#32 0#32) 1#32 4#32))) 1024#32) 0#32) (BitVec.ofNat 32 q)
      = BitVec.ofNat 32 (1024 * (a % 4) + q) := by
    intro a q
    rw [show BitVec.ofNat 32 (1024 * ((a : ℕ) % 4) + q) = BitVec.ofNat 32 (1024 * ((a : ℕ) % 4)) + BitVec.ofNat 32 q from BitVec.ofNat_add ..]
    refine congrArg (· + BitVec.ofNat 32 q) ?_
    revert a
    decide +kernel
  exact h (i 0) r

/-- The second half's positions within the batch. -/
theorem pos_at' (i : grid0.Coords) (r : Fin 512) :
    k0_pay43 (BitVec.ofNat 32 (i 0).val) (ix2 r 0) = BitVec.ofNat 32 (1024 * ((i 0 : ℕ) % 4) + (512 + r)) := by
  pointwise [k0_pay43]
  have h : ∀ a : Fin 32, ∀ q : ℕ, IntOp.addi (Scalar.addi (Scalar.muli
      (Scalar.select (Scalar.andi (Scalar.xori
          (Scalar.cmpi .slt (Scalar.remsi (BitVec.ofNat 32 (a : ℕ)) (Scalar.select (Scalar.cmpi .eq 4#32 0#32) 1#32 4#32)) 0#32)
          (Scalar.cmpi .slt (Scalar.select (Scalar.cmpi .eq 4#32 0#32) 1#32 4#32) 0#32))
        (Scalar.cmpi .ne (Scalar.remsi (BitVec.ofNat 32 (a : ℕ)) (Scalar.select (Scalar.cmpi .eq 4#32 0#32) 1#32 4#32)) 0#32))
        (Scalar.addi (Scalar.remsi (BitVec.ofNat 32 (a : ℕ)) (Scalar.select (Scalar.cmpi .eq 4#32 0#32) 1#32 4#32))
          (Scalar.select (Scalar.cmpi .eq 4#32 0#32) 1#32 4#32))
        (Scalar.remsi (BitVec.ofNat 32 (a : ℕ)) (Scalar.select (Scalar.cmpi .eq 4#32 0#32) 1#32 4#32))) 1024#32) 512#32) (BitVec.ofNat 32 q)
      = BitVec.ofNat 32 (1024 * (a % 4) + (512 + q)) := by
    intro a q
    rw [← Nat.add_assoc, show BitVec.ofNat 32 (1024 * ((a : ℕ) % 4) + 512 + q) = BitVec.ofNat 32 (1024 * ((a : ℕ) % 4) + 512) + BitVec.ofNat 32 q from BitVec.ofNat_add ..]
    refine congrArg (· + BitVec.ofNat 32 q) ?_
    revert a
    decide +kernel
  exact h (i 0) r

/-- The block of 64 of a position, as the word arithmetic finds it. -/
def blockWord (w : BitVec 32) : BitVec 32 :=
  Scalar.select
    (IntOp.andi (IntOp.cmpi .ne (IntOp.subi ((IntOp.cmpi .sgt w 0#32).zeroExtend 32) ((IntOp.cmpi .slt w 0#32).zeroExtend 32))
        (Scalar.subi (Scalar.extui (Scalar.cmpi .sgt 64#32 0#32)) (Scalar.extui (Scalar.cmpi .slt 64#32 0#32))))
      (IntOp.cmpi .ne (IntOp.remsi .vector w 64#32) 0#32))
    (IntOp.subi (IntOp.divsi .vector w 64#32) 1#32) (IntOp.divsi .vector w 64#32)

/-- It is the quotient by 64. -/
theorem blockWord_eq (p : Fin 4096) : blockWord (BitVec.ofNat 32 (p : ℕ)) = BitVec.ofNat 32 ((p : ℕ) / 64) := by
  revert p
  decide +kernel

/-- A block's word is a lane's less 64 where the numbers agree. -/
theorem blockLane (a : Fin 64) (l : Fin 128) (hl : ¬ (l : ℕ) < 64) :
    IntOp.cmpi .eq (BitVec.ofNat 32 (a : ℕ)) (IntOp.subi (BitVec.ofNat 32 (l : ℕ)) 64#32) = BitVec.ofBool (decide ((a : ℕ) = (l : ℕ) - 64)) := by
  revert a l
  decide +kernel

/-- The block indicator at a lane beyond the mask. -/
theorem hot_at (v : IVec S512x1 32) (r : Fin 512) (l : Fin 128) (p : Fin 4096) (hv : v (ix2 r 0) = BitVec.ofNat 32 (p : ℕ)) (hl : ¬ (l : ℕ) < 64) :
    k0_pay10 (F := Ideal) v (iota .tc S1x128 32 [1] iota_S1x128_d1_w32) (ix2 r l) = if (p : ℕ) / 64 = (l : ℕ) - 64 then (1 : EReal) else 0 := by
  have hw : (if (p : ℕ) / 64 = (l : ℕ) - 64 then (1 : EReal) else 0)
      = Scalar.select (IntOp.cmpi .eq (blockWord (v (ix2 r 0))) (IntOp.subi (BitVec.ofNat 32 (l : ℕ)) 64#32)) 1 0 := by
    rw [hv, blockWord_eq, blockLane ⟨(p : ℕ) / 64, by omega⟩ l hl, sel_at]
  rw [hw]
  pointwise [k0_pay10, blockWord]

/-- The second half's indicator is the first half's. -/
theorem hot_eq (v : IVec S512x1 32) (w : IVec S1x128 32) : k0_pay45 (F := Ideal) v w = k0_pay10 (F := Ideal) v w := rfl

section Windows

variable (i : grid0.Coords) (x0 : Vec Ideal S1024x1024 .f32) (x1 : Vec Ideal S1024x1920 .bf16)

/-- The first branch's keys and values' window at one row and one lane. -/
theorem kv0_at (r : Fin 1024) (n : Fin 256) :
    out0_3 i x0 x1 (ix2 r n) = kv0Row (fun k => x0 (ix2 r k)) (fun k j => x1 (ix2 k j)) n := by
  unfold out0_3
  canon_tiles z h
  all_goals
    idx_vars z
    pointwise [k0_pay39, k0_pay37, k0_pay4, k0_pay2]
    unfold kv0Row rowDot
    refine Finset.sum_congr rfl fun k _ => congrArg₂ (fun a b => x0 (ix2 a k) * x1 (ix2 k b)) (Fin.ext ?_) (Fin.ext ?_)
    all_goals
      dsimp only
      omega

/-- The gates' window at one row and one lane. -/
theorem gate_at (r : Fin 1024) (n : Fin 128) :
    out0_5 i x0 x1 (ix2 r n) = gateRow (fun k => x0 (ix2 r k)) (fun k j => x1 (ix2 k j)) n := by
  unfold out0_5
  canon_tiles z h
  all_goals
    idx_vars z
    pointwise [k0_pay41, k0_pay37, k0_pay6, k0_pay2]
    unfold gateRow rowDot
    refine Finset.sum_congr rfl fun k _ => congrArg₂ (fun a b => x0 (ix2 a k) * x1 (ix2 k b)) (Fin.ext ?_) (Fin.ext ?_)
    all_goals
      dsimp only
      omega

/-- The pooling input's window at one row and one lane. -/
theorem u_at (r : Fin 1024) (n : Fin 512) :
    out0_6 i x0 x1 (ix2 r n) = uRow (fun k => x0 (ix2 r k)) (fun k j => x1 (ix2 k j)) n := by
  unfold out0_6
  canon_tiles z h
  all_goals
    idx_vars z
    pointwise [k0_pay42, k0_pay37, k0_pay7, k0_pay2]
    unfold uRow rowDot
    refine Finset.sum_congr rfl fun k _ => congrArg₂ (fun a b => x0 (ix2 a k) * x1 (ix2 k b)) (Fin.ext ?_) (Fin.ext ?_)
    all_goals
      dsimp only
      omega

/-- The first half's indicator at a lane beyond the mask. -/
theorem first_hot (r : Fin 512) (l : Fin 128) (p : Fin 4096) (hp : (p : ℕ) = 1024 * ((i 0 : ℕ) % 4) + r) (hl : ¬ (l : ℕ) < 64) :
    k0_pay78 i x0 x1 (ix2 r l) = if (p : ℕ) / 64 = (l : ℕ) - 64 then (1 : EReal) else 0 :=
  hot_at (k0_pay8 i) r l p (by rw [hp]; exact pos_at i r) hl

/-- The second half's. -/
theorem second_hot (r : Fin 512) (l : Fin 128) (p : Fin 4096) (hp : (p : ℕ) = 1024 * ((i 0 : ℕ) % 4) + (512 + r)) (hl : ¬ (l : ℕ) < 64) :
    k0_pay85 i x0 x1 (ix2 r l) = if (p : ℕ) / 64 = (l : ℕ) - 64 then (1 : EReal) else 0 := by
  unfold k0_pay85
  rw [hot_eq]
  exact hot_at (k0_pay43 (BitVec.ofNat 32 (i 0).val)) r l p (by rw [hp]; exact pos_at' i r) hl

set_option maxHeartbeats 8000000 in
/-- The other branches' keys and values' window at one row and one lane. -/
theorem kvs_at (r n : Fin 1024) (p : Fin 4096) (hp : (p : ℕ) = 1024 * ((i 0 : ℕ) % 4) + r) :
    out0_4 i x0 x1 (ix2 r n) = kvsRow (fun k => x0 (ix2 r k)) (fun k j => x1 (ix2 k j)) p n := by
  unfold out0_4
  canon_tiles z h
  all_goals
    idx_vars z
    have hq1 : ¬ (z1 : ℕ) < 64 → (p : ℕ) = 1024 * ((i 0 : ℕ) % 4) + z0 → k0_pay78 i x0 x1 (ix2 z0 z1) = if (p : ℕ) / 64 = (z1 : ℕ) - 64 then (1 : EReal) else 0 :=
      fun hl e => first_hot i x0 x1 z0 z1 p e hl
    have hq2 : ¬ (z1 : ℕ) < 64 → (p : ℕ) = 1024 * ((i 0 : ℕ) % 4) + (512 + z0) → k0_pay85 i x0 x1 (ix2 z0 z1) = if (p : ℕ) / 64 = (z1 : ℕ) - 64 then (1 : EReal) else 0 :=
      fun hl e => second_hot i x0 x1 z0 z1 p e hl
    generalize k0_pay78 i x0 x1 = f1 at hq1 ⊢
    generalize k0_pay85 i x0 x1 = f2 at hq2 ⊢
    pointwise [k0_pay25, k0_pay26, k0_pay27, k0_pay28, k0_pay29, k0_pay30, k0_pay31, k0_pay32, k0_pay33, k0_pay34, k0_pay35, k0_pay36, k0_pay61, k0_pay62, k0_pay63, k0_pay64, k0_pay65, k0_pay66, k0_pay67, k0_pay68, k0_pay69, k0_pay70, k0_pay71, k0_pay72, k0_pay73, k0_pay1, k0_pay83, k0_pay84, k0_pay81, k0_pay76, k0_pay77, k0_pay74, k0_pay44, k0_pay9, k0_pay5, k0_pay40, k0_pay37, k0_pay2, low_at]
    unfold kvsRow rowDot
    by_cases hl : (z1 : ℕ) < 64
    · rw [if_pos hl, dif_pos (by omega)]
      refine Finset.sum_congr rfl fun k _ => congrArg₂ (fun a b => x0 (ix2 a k) * x1 (ix2 k b)) (Fin.ext ?_) (Fin.ext ?_)
      all_goals
        dsimp only
        omega
    · rw [if_neg hl, dif_neg (by omega)]
      unfold kvFill
      first
        | rw [if_pos (by omega)]
        | rw [if_neg (by omega), if_neg (by omega)]
        | (rw [if_neg (by omega), if_pos (by omega), hq1 hl (by omega)]; exact if_congr (by omega) rfl rfl)
        | (rw [if_neg (by omega), if_pos (by omega), hq2 hl (by omega)]; exact if_congr (by omega) rfl rfl)

end Windows

end Cert.Kernel4Ideal.Inp
-- ==== Proof.InpValue.lean ====
module

public import proofs.«01_k».proof.Proof.InpBody

/-! The input projection's value: its prepared weights read at a lane, its blocks, and the five arrays the call writes. -/

@[expose] public section

set_option maxRecDepth 16384

noncomputable section

namespace Trunk

/-- The batch of a row of the flattened argument. -/
def xbat (R : Fin 32768) : Fin 8 := ⟨R / 4096, by omega⟩

/-- The position within its batch of a row of the flattened argument. -/
def xpos (R : Fin 32768) : Fin 4096 := ⟨R % 4096, by omega⟩

end Trunk

namespace Cert.Kernel4Ideal.Inp

open Idealize.ShloMosaic Idealize.ShloMosaic.TcCoe Idealize.SL.Sem
open Cert.Kernel4Ideal Cert.Kernel4Ideal.Gen Trunk

/-- The keys and values columns, by branch, head, then key or value. -/
def kvw (w : FVec Ideal S1024x1816 .f32) : FVec Ideal S1024x3x2x2x64 .f32 :=
  transpose S1024x3x2x2x64 [0, 1, 3, 2, 4] (shapeCast _ (extractStridedSlice S1024x768 ![0, 512] w slices_S1024x1816_S1024x768_0_512) shapeCasts_S1024x768_S1024x3x2x2x64) transposes_S1024x3x2x2x64_S1024x3x2x2x64_0_1_3_2_4

/-- The queries columns, scaled. -/
def wq (w : FVec Ideal S1024x1816 .f32) : FVec Ideal S1024x512 .f32 :=
  mulf (extractStridedSlice S1024x512 ![0, 0] w slices_S1024x1816_S1024x512_0_0) (broadcastInDim S1024x512 ![] bcast_S_S1024x512 (constant S_ .f32 0x3E000000#32))

/-- The first branch's columns. -/
def wkv0 (w : FVec Ideal S1024x1816 .f32) : FVec Ideal S1024x256 .f32 :=
  shapeCast _ (shapeCast _ (extractStridedSlice S1024x1x2x2x64 ![0, 0, 0, 0, 0] (kvw w) slices_S1024x3x2x2x64_S1024x1x2x2x64_0_0_0_0_0) shapeCasts_S1024x1x2x2x64_S1024x2x2x64) shapeCasts_S1024x2x2x64_S1024x256

/-- The other two branches' columns. -/
def wkv12 (w : FVec Ideal S1024x1816 .f32) : FVec Ideal S1024x512 .f32 :=
  shapeCast _ (extractStridedSlice S1024x2x2x2x64 ![0, 1, 0, 0, 0] (kvw w) slices_S1024x3x2x2x64_S1024x2x2x2x64_0_1_0_0_0) shapeCasts_S1024x2x2x2x64_S1024x512

/-- The gates columns, filled with zeros. -/
def wg (w : FVec Ideal S1024x1816 .f32) : FVec Ideal S1024x128 .f32 :=
  pad S1024x128 ![0, 0] ![0, 104] ![0, 0] (extractStridedSlice S1024x24 ![0, 1280] w slices_S1024x1816_S1024x24_0_1280) (sitofp .f32 (constantI S_ 32 0#32)) pads_S1024x24_S1024x128_000_01040 h_S_

/-- The pooling mixer's columns. -/
def wu (w : FVec Ideal S1024x1816 .f32) : FVec Ideal S1024x512 .f32 :=
  extractStridedSlice S1024x512 ![0, 1304] w slices_S1024x1816_S1024x512_0_1304

/-- The five pieces beside one another. -/
def wide (a : FVec Ideal S1024x512 .f32) (b : FVec Ideal S1024x256 .f32) (d : FVec Ideal S1024x512 .f32) (e : FVec Ideal S1024x128 .f32) (f : FVec Ideal S1024x512 .f32) : FVec Ideal S1024x1920 .bf16 :=
  truncf .bf16 (concatenate S1024x1920 1 [⟨S1024x512, a⟩, ⟨S1024x256, b⟩, ⟨S1024x512, d⟩, ⟨S1024x128, e⟩, ⟨S1024x512, f⟩] concatenates_S1024x512_S1024x256_S1024x512_S1024x128_S1024x512_S1024x1920_d1) bitsLt_bf16_f32

/-- The weights as the call prepares them. -/
def prep (w : FVec Ideal S1024x1816 .f32) : FVec Ideal S1024x1920 .bf16 := wide (wq w) (wkv0 w) (wkv12 w) (wg w) (wu w)

/-- The side by side weights at a lane of piece 1 of five. -/
theorem wide_q (a : FVec Ideal S1024x512 .f32) (b : FVec Ideal S1024x256 .f32) (d : FVec Ideal S1024x512 .f32) (e : FVec Ideal S1024x128 .f32) (f : FVec Ideal S1024x512 .f32) (k : Fin 1024) (j : Fin 512) :
    wide a b d e f (ix2 k ⟨0 + j, by omega⟩) = a (ix2 k j) := by
  pointwise [wide]
  all_goals
    rw [dif_pos (by omega)]
    refine congrArg (fun x => a (ix2 k x)) (Fin.ext ?_)
    first | rfl | (dsimp only; omega)

/-- The side by side weights at a lane of piece 2 of five. -/
theorem wide_kv0 (a : FVec Ideal S1024x512 .f32) (b : FVec Ideal S1024x256 .f32) (d : FVec Ideal S1024x512 .f32) (e : FVec Ideal S1024x128 .f32) (f : FVec Ideal S1024x512 .f32) (k : Fin 1024) (j : Fin 256) :
    wide a b d e f (ix2 k ⟨512 + j, by omega⟩) = b (ix2 k j) := by
  pointwise [wide]
  all_goals
    rw [dif_neg (by omega), dif_pos (by omega)]
    refine congrArg (fun x => b (ix2 k x)) (Fin.ext ?_)
    first | rfl | (dsimp only; omega)

/-- The side by side weights at a lane of piece 3 of five. -/
theorem wide_kv12 (a : FVec Ideal S1024x512 .f32) (b : FVec Ideal S1024x256 .f32) (d : FVec Ideal S1024x512 .f32) (e : FVec Ideal S1024x128 .f32) (f : FVec Ideal S1024x512 .f32) (k : Fin 1024) (j : Fin 512) :
    wide a b d e f (ix2 k ⟨768 + j, by omega⟩) = d (ix2 k j) := by
  pointwise [wide]
  all_goals
    rw [dif_neg (by omega), dif_neg (by omega), dif_pos (by omega)]
    refine congrArg (fun x => d (ix2 k x)) (Fin.ext ?_)
    first | rfl | (dsimp only; omega)

/-- The side by side weights at a lane of piece 4 of five. -/
theorem wide_g (a : FVec Ideal S1024x512 .f32) (b : FVec Ideal S1024x256 .f32) (d : FVec Ideal S1024x512 .f32) (e : FVec Ideal S1024x128 .f32) (f : FVec Ideal S1024x512 .f32) (k : Fin 1024) (j : Fin 128) :
    wide a b d e f (ix2 k ⟨1280 + j, by omega⟩) = e (ix2 k j) := by
  pointwise [wide]
  all_goals
    rw [dif_neg (by omega), dif_neg (by omega), dif_neg (by omega), dif_pos (by omega)]
    refine congrArg (fun x => e (ix2 k x)) (Fin.ext ?_)
    first | rfl | (dsimp only; omega)

/-- The side by side weights at a lane of piece 5 of five. -/
theorem wide_u (a : FVec Ideal S1024x512 .f32) (b : FVec Ideal S1024x256 .f32) (d : FVec Ideal S1024x512 .f32) (e : FVec Ideal S1024x128 .f32) (f : FVec Ideal S1024x512 .f32) (k : Fin 1024) (j : Fin 512) :
    wide a b d e f (ix2 k ⟨1408 + j, by omega⟩) = f (ix2 k j) := by
  pointwise [wide]
  all_goals
    rw [dif_neg (by omega), dif_neg (by omega), dif_neg (by omega), dif_neg (by omega)]
    refine congrArg (fun x => f (ix2 k x)) (Fin.ext ?_)
    first | rfl | (dsimp only; omega)

section Lookups

variable (w : FVec Ideal S1024x1816 .f32) (k : Fin 1024)

/-- The scaled queries columns. -/
theorem wq_at (j : Fin 512) : wq w (ix2 k j) = w (ix2 k ⟨j, by omega⟩) * eighth := by
  pointwise [wq]

/-- The first branch's columns, by head then key or value. -/
theorem wkv0_at (j : Fin 256) : wkv0 w (ix2 k j) = w (ix2 k ⟨512 + (j / 64 % 2 * 128 + j / 128 * 64 + j % 64), by omega⟩) := by
  pointwise [wkv0, kvw]
  first | done | (refine congrArg (fun x => w (ix2 k x)) (Fin.ext ?_); dsimp only; omega)

/-- The other two branches' columns, by head then key or value. -/
theorem wkv12_at (j : Fin 512) :
    wkv12 w (ix2 k j) = w (ix2 k ⟨512 + ((1 + j / 256) * 256 + j / 64 % 2 * 128 + j / 128 % 2 * 64 + j % 64), by omega⟩) := by
  pointwise [wkv12, kvw]
  first | done | (refine congrArg (fun x => w (ix2 k x)) (Fin.ext ?_); dsimp only; omega)

/-- The gates columns, zero beyond the 24. -/
theorem wg_at (j : Fin 128) : wg w (ix2 k j) = if h : (j : ℕ) < 24 then w (ix2 k ⟨1280 + j, by omega⟩) else 0 := by
  have hz : (FloatOps.sitofp (F := Idealize.ShloMosaic.Ideal) .f32 (0#32 : BitVec 32) : EReal) = 0 := by simp [FloatOps.sitofp]
  pointwise [wg]
  by_cases h : (j : ℕ) < 24
  · rw [dif_pos h, dif_pos h]
  · rw [dif_neg h, dif_neg h]
    exact hz

/-- The pooling mixer's columns. -/
theorem wu_at (j : Fin 512) : wu w (ix2 k j) = w (ix2 k ⟨1304 + j, by omega⟩) := by
  pointwise [wu]

end Lookups

/-- The lanes' arithmetic between the prepared weights' order and the reference's. -/
theorem lanes_eq (a b c d : ℕ) (hb : b < 2) (hc : c < 2) (hd : d < 64) :
    512 + ((1 + (a * 256 + b * 128 + c * 64 + d) / 256) * 256 + (a * 256 + b * 128 + c * 64 + d) / 64 % 2 * 128
      + (a * 256 + b * 128 + c * 64 + d) / 128 % 2 * 64 + (a * 256 + b * 128 + c * 64 + d) % 64) = 512 + ((1 + a) * 256 + c * 128 + b * 64 + d) := by
  have h1 : (a * 256 + b * 128 + c * 64 + d) / 256 = a := by omega
  have h2 : (a * 256 + b * 128 + c * 64 + d) / 64 % 2 = c := by omega
  have h3 : (a * 256 + b * 128 + c * 64 + d) / 128 % 2 = b := by omega
  have h4 : (a * 256 + b * 128 + c * 64 + d) % 64 = d := by omega
  rw [h1, h2, h3, h4]

section Rows

variable (x : Fin 1024 → EReal) (w : FVec Ideal S1024x1816 .f32)

/-- The queries from the prepared weights are the reference's. -/
theorem q_prep (n : Fin 1024) : qRow x (fun k j => prep w (ix2 k j)) n = qLane x (fun k j => w (ix2 k j)) n := by
  unfold qRow qLane
  by_cases h : (n : ℕ) % 128 < 64
  · rw [dif_pos h, dif_pos h, ← rowDot_scale]
    refine congrArg (· * log2e) (congrArg (rowDot x) (funext fun k => ?_))
    refine Eq.trans ?_ ((wide_q (wq w) (wkv0 w) (wkv12 w) (wg w) (wu w) k ⟨64 * (n / 128) + n % 128, by omega⟩).trans (wq_at w k _))
    exact congrArg (fun y => prep w (ix2 k y)) (Fin.ext (by dsimp only; omega))
  · rw [dif_neg h, dif_neg h]

/-- The first branch's keys and values from the prepared weights are the reference's. -/
theorem kv0_prep (n : Fin 256) : kv0Row x (fun k j => prep w (ix2 k j)) n = kv0Lane x (fun k j => w (ix2 k j)) n :=
  congrArg (rowDot x) (funext fun k => (wide_kv0 (wq w) (wkv0 w) (wkv12 w) (wg w) (wu w) k n).trans (wkv0_at w k n))

/-- The other branches' keys and values from the prepared weights are the reference's. -/
theorem kvs_prep (p : Fin 4096) (n : Fin 1024) :
    kvsRow x (fun k j => prep w (ix2 k j)) p n = kvsLane x (fun k j => w (ix2 k j)) p n := by
  unfold kvsRow kvsLane
  by_cases h : (n : ℕ) % 128 < 64
  · rw [dif_pos h, dif_pos h]
    refine congrArg (rowDot x) (funext fun k => ?_)
    refine (wide_kv12 (wq w) (wkv0 w) (wkv12 w) (wg w) (wu w) k ⟨n / 512 * 256 + n / 128 % 2 * 128 + n / 256 % 2 * 64 + n % 128, by omega⟩).trans
      ((wkv12_at w k _).trans ?_)
    refine congrArg (fun y => w (ix2 k y)) (Fin.ext ?_)
    dsimp only
    exact lanes_eq (n / 512) (n / 128 % 2) (n / 256 % 2) (n % 128) (by omega) (by omega) h
  · rw [dif_neg h, dif_neg h]

/-- The gates from the prepared weights are the reference's. -/
theorem gate_prep (n : Fin 128) : gateRow x (fun k j => prep w (ix2 k j)) n = gateLane x (fun k j => w (ix2 k j)) n := by
  unfold gateRow gateLane
  by_cases h : (n : ℕ) < 24
  · rw [dif_pos h]
    exact congrArg (rowDot x) (funext fun k => (wide_g (wq w) (wkv0 w) (wkv12 w) (wg w) (wu w) k n).trans ((wg_at w k n).trans (dif_pos h)))
  · rw [dif_neg h]
    refine Eq.trans ?_ (rowDot_none x)
    exact congrArg (rowDot x) (funext fun k => (wide_g (wq w) (wkv0 w) (wkv12 w) (wg w) (wu w) k n).trans ((wg_at w k n).trans (dif_neg h)))

/-- The pooling mixer's input from the prepared weights is the reference's. -/
theorem u_prep (n : Fin 512) : uRow x (fun k j => prep w (ix2 k j)) n = uLane x (fun k j => w (ix2 k j)) n :=
  congrArg (rowDot x) (funext fun k => (wide_u (wq w) (wkv0 w) (wkv12 w) (wg w) (wu w) k n).trans (wu_at w k n))

end Rows

variable (m : (ℓ : Loc nD τ sig) → Buf (Elt Ideal) ℓ)

/-- The grid's coordinate is the point. -/
theorem coord : ∀ t : Fin cfg0.N, ((grid0.coords t) 0 : ℕ) = t.val :=
  (by decide +kernel : ∀ t : Fin grid0.N, _)

/-- Each window's block index at each grid point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The call's second operand is the prepared weights. -/
theorem weights (c : Dev nD) : V m c main_v16 = prep (m ((c : Thread nD τ).loc main_arg1)) := by
  rfl

/-- The flattened argument, as its first step leaves it. -/
theorem flat (c : Dev nD) : V m c main_v0 = shapeCast S32768x1024 (m ((c : Thread nD τ).loc main_arg0)) shapeCasts_S8x4096x1024_S32768x1024 := by
  rfl

/-- A flattened array at one row and one lane. -/
theorem rows_at (v : FVec Ideal S8x4096x1024 .f32) (R : Fin 32768) (k : Fin 1024) :
    shapeCast S32768x1024 v shapeCasts_S8x4096x1024_S32768x1024 (ix2 R k) = v (ix3 (xbat R) (xpos R) k) := by
  pointwise [xbat, xpos]

/-- The flattened argument the call is given. -/
theorem flat_at (c : Dev nD) (R : Fin 32768) (k : Fin 1024) :
    V m c main_v0 (ix2 R k) = m ((c : Thread nD τ).loc main_arg0) (ix3 (xbat R) (xpos R) k) := by
  rw [flat]
  exact rows_at _ R k

/-- A block of the flattened argument holds the argument's rows. -/
theorem blk0 (c : Dev nD) (t : Fin cfg0.N) (r k : Fin 1024) (R : Fin 32768) (hR : (R : ℕ) = 1024 * t + r) :
    iblk m c 0 t (ix2 r k) = m ((c : Thread nD τ).loc main_arg0) (ix3 (xbat R) (xpos R) k) := by
  refine Eq.trans ?_ (flat_at m c R k)
  blk_ext [iblk, idx t]

/-- The weights' block is the prepared weights. -/
theorem blk1 (c : Dev nD) (t : Fin cfg0.N) (k : Fin 1024) (j : Fin 1920) :
    iblk m c 1 t (ix2 k j) = prep (m ((c : Thread nD τ).loc main_arg1)) (ix2 k j) := by
  refine Eq.trans ?_ (congrFun (weights m c) (ix2 k j))
  blk_ext [iblk, idx t]

/-- A row of the argument. -/
def row (c : Dev nD) (R : Fin 32768) : Fin 1024 → EReal := fun k => m ((c : Thread nD τ).loc main_arg0) (ix3 (xbat R) (xpos R) k)

/-- The weights' columns. -/
def cols (c : Dev nD) : Fin 1024 → Fin 1816 → EReal := fun k j => m ((c : Thread nD τ).loc main_arg1) (ix2 k j)

/-- A block's row is the argument's. -/
theorem blk0_row (c : Dev nD) (t : Fin cfg0.N) (r : Fin 1024) (R : Fin 32768) (hR : (R : ℕ) = 1024 * t + r) :
    (fun k : Fin 1024 => iblk m c 0 t (ix2 r k)) = row m c R := funext fun k => blk0 m c t r k R hR

/-- The weights' block, by row and column. -/
theorem blk1_cols (c : Dev nD) (t : Fin cfg0.N) :
    (fun (k : Fin 1024) (j : Fin 1920) => iblk m c 1 t (ix2 k j)) = fun k j => prep (m ((c : Thread nD τ).loc main_arg1)) (ix2 k j) :=
  funext fun k => funext fun j => blk1 m c t k j

/-- The queries, as the call writes the array. -/
def GQ (c : Dev nD) : FVec Ideal S32768x1024 .bf16 := fun y => qLane (row m c (y 0)) (cols m c) (y 1)

/-- The queries: what one grid point writes, at one row and one lane of its block. -/
theorem pointQ (c : Dev nD) (t : Fin cfg0.N) (r : Fin 1024) (n : Fin 1024) (R : Fin 32768) (hR : (R : ℕ) = 1024 * t + r) :
    out0_2 (grid0.coords t) (iblk m c 0 t) (iblk m c 1 t) (ix2 r n) = GQ m c (ix2 R n) := by
  refine (q_at (grid0.coords t) (iblk m c 0 t) (iblk m c 1 t) r n).trans ?_
  rw [blk0_row m c t r R hR, blk1_cols m c t]
  exact q_prep (row m c R) _ n

/-- The queries: the array after the call. -/
theorem finalQ (c : Dev nD) : (dats m 0 c).arrAt 2 cfg0.N = GQ m c := by
  refine (dats m 0 c).arrAt_eq_of_covers 2 _ (by decide +kernel) fun t _ y => ?_
  blk_simp
  rw [after0_2]
  idx_vars y
  have ht : t.val < 32 := t.isLt
  refine (pointQ m c t y0 y1 ⟨1024 * t.val + y0, by omega⟩ rfl).trans (congrArg (GQ m c) ?_)
  symm
  blk_ext [idx t]

/-- The first branch's keys and values, as the call writes the array. -/
def GKv0 (c : Dev nD) : FVec Ideal S32768x256 .f32 := fun y => kv0Lane (row m c (y 0)) (cols m c) (y 1)

/-- The first branch's keys and values: what one grid point writes, at one row and one lane of its block. -/
theorem pointKv0 (c : Dev nD) (t : Fin cfg0.N) (r : Fin 1024) (n : Fin 256) (R : Fin 32768) (hR : (R : ℕ) = 1024 * t + r) :
    out0_3 (grid0.coords t) (iblk m c 0 t) (iblk m c 1 t) (ix2 r n) = GKv0 m c (ix2 R n) := by
  refine (kv0_at (grid0.coords t) (iblk m c 0 t) (iblk m c 1 t) r n).trans ?_
  rw [blk0_row m c t r R hR, blk1_cols m c t]
  exact kv0_prep (row m c R) _ n

/-- The first branch's keys and values: the array after the call. -/
theorem finalKv0 (c : Dev nD) : (dats m 0 c).arrAt 3 cfg0.N = GKv0 m c := by
  refine (dats m 0 c).arrAt_eq_of_covers 3 _ (by decide +kernel) fun t _ y => ?_
  blk_simp
  rw [after0_3]
  idx_vars y
  have ht : t.val < 32 := t.isLt
  refine (pointKv0 m c t y0 y1 ⟨1024 * t.val + y0, by omega⟩ rfl).trans (congrArg (GKv0 m c) ?_)
  symm
  blk_ext [idx t]

/-- The other branches' keys and values, as the call writes the array. -/
def GKvs (c : Dev nD) : FVec Ideal S32768x1024 .bf16 := fun y => kvsLane (row m c (y 0)) (cols m c) (xpos (y 0)) (y 1)

/-- The other branches' keys and values: what one grid point writes, at one row and one lane of its block. -/
theorem pointKvs (c : Dev nD) (t : Fin cfg0.N) (r : Fin 1024) (n : Fin 1024) (R : Fin 32768) (hR : (R : ℕ) = 1024 * t + r) :
    out0_4 (grid0.coords t) (iblk m c 0 t) (iblk m c 1 t) (ix2 r n) = GKvs m c (ix2 R n) := by
  have hp : (xpos R : ℕ) = 1024 * ((grid0.coords t 0 : ℕ) % 4) + r := by
    rw [coord t]
    show (R : ℕ) % 4096 = _
    omega
  refine (kvs_at (grid0.coords t) (iblk m c 0 t) (iblk m c 1 t) r n (xpos R) hp).trans ?_
  rw [blk0_row m c t r R hR, blk1_cols m c t]
  exact kvs_prep (row m c R) _ (xpos R) n

/-- The other branches' keys and values: the array after the call. -/
theorem finalKvs (c : Dev nD) : (dats m 0 c).arrAt 4 cfg0.N = GKvs m c := by
  refine (dats m 0 c).arrAt_eq_of_covers 4 _ (by decide +kernel) fun t _ y => ?_
  blk_simp
  rw [after0_4]
  idx_vars y
  have ht : t.val < 32 := t.isLt
  refine (pointKvs m c t y0 y1 ⟨1024 * t.val + y0, by omega⟩ rfl).trans (congrArg (GKvs m c) ?_)
  symm
  blk_ext [idx t]

/-- The gates, as the call writes the array. -/
def GGate (c : Dev nD) : FVec Ideal S32768x128 .f32 := fun y => gateLane (row m c (y 0)) (cols m c) (y 1)

/-- The gates: what one grid point writes, at one row and one lane of its block. -/
theorem pointGate (c : Dev nD) (t : Fin cfg0.N) (r : Fin 1024) (n : Fin 128) (R : Fin 32768) (hR : (R : ℕ) = 1024 * t + r) :
    out0_5 (grid0.coords t) (iblk m c 0 t) (iblk m c 1 t) (ix2 r n) = GGate m c (ix2 R n) := by
  refine (gate_at (grid0.coords t) (iblk m c 0 t) (iblk m c 1 t) r n).trans ?_
  rw [blk0_row m c t r R hR, blk1_cols m c t]
  exact gate_prep (row m c R) _ n

/-- The gates: the array after the call. -/
theorem finalGate (c : Dev nD) : (dats m 0 c).arrAt 5 cfg0.N = GGate m c := by
  refine (dats m 0 c).arrAt_eq_of_covers 5 _ (by decide +kernel) fun t _ y => ?_
  blk_simp
  rw [after0_5]
  idx_vars y
  have ht : t.val < 32 := t.isLt
  refine (pointGate m c t y0 y1 ⟨1024 * t.val + y0, by omega⟩ rfl).trans (congrArg (GGate m c) ?_)
  symm
  blk_ext [idx t]

/-- The pooling mixer's input, as the call writes the array. -/
def GU (c : Dev nD) : FVec Ideal S32768x512 .f32 := fun y => uLane (row m c (y 0)) (cols m c) (y 1)

/-- The pooling mixer's input: what one grid point writes, at one row and one lane of its block. -/
theorem pointU (c : Dev nD) (t : Fin cfg0.N) (r : Fin 1024) (n : Fin 512) (R : Fin 32768) (hR : (R : ℕ) = 1024 * t + r) :
    out0_6 (grid0.coords t) (iblk m c 0 t) (iblk m c 1 t) (ix2 r n) = GU m c (ix2 R n) := by
  refine (u_at (grid0.coords t) (iblk m c 0 t) (iblk m c 1 t) r n).trans ?_
  rw [blk0_row m c t r R hR, blk1_cols m c t]
  exact u_prep (row m c R) _ n

/-- The pooling mixer's input: the array after the call. -/
theorem finalU (c : Dev nD) : (dats m 0 c).arrAt 6 cfg0.N = GU m c := by
  refine (dats m 0 c).arrAt_eq_of_covers 6 _ (by decide +kernel) fun t _ y => ?_
  blk_simp
  rw [after0_6]
  idx_vars y
  have ht : t.val < 32 := t.isLt
  refine (pointU m c t y0 y1 ⟨1024 * t.val + y0, by omega⟩ rfl).trans (congrArg (GU m c) ?_)
  symm
  blk_ext [idx t]

end Cert.Kernel4Ideal.Inp
-- ==== Proof.InpRef.lean ====
module

public import proofs.«01_k».proof.Proof.InpValue
public import proofs.«01_k».proof.Proof.Gen.Reference4Ideal.Read

/-! The input projection's reference: each of its five results read at one row and one lane. -/

@[expose] public section

set_option maxRecDepth 16384

noncomputable section

namespace Cert.Reference4Ideal.Inp

open Idealize.ShloMosaic Idealize.ShloMosaic.TcCoe Idealize.SL.Sem
open Cert.Reference4Ideal Cert.Reference4Ideal.Read Trunk

variable (x0 : FVec Ideal S8x4096x1024 .f32) (x1 : FVec Ideal S1024x1816 .f32)

/-- The projection at one element. -/
theorem dot_at (b : Fin 8) (p : Fin 4096) (n : Fin 1816) :
    val_main_v0 (F := Ideal) x0 x1 (ix3 b p n) = rowDot (fun k : Fin 1024 => x0 (ix3 b p k)) (fun k => x1 (ix2 k n)) := by
  pointwise [val_main_v0, rowDot]

/-- The whole number zero as a value. -/
theorem zero_at : (FloatOps.sitofp (F := Idealize.ShloMosaic.Ideal) .f32 (0#32 : BitVec 32) : EReal) = 0 := by simp [FloatOps.sitofp]

/-- The queries at one row and one lane. -/
theorem q_at (R : Fin 32768) (n : Fin 1024) :
    val_main_v39 (F := Ideal) x0 x1 (ix2 R n) = qLane (fun k => x0 (ix3 (xbat R) (xpos R) k)) (fun k j => x1 (ix2 k j)) n := by
  pointwise [val_main_v39, val_main_v38, val_main_v37, val_main_call2_v0, val_main_c_5, val_main_v6, val_main_v5, val_main_cst_0, val_main_v4, val_main_v3, val_main_cst, val_main_v2, val_main_v1]
  unfold qLane
  by_cases h : (n : ℕ) % 128 < 64
  · have hc : (R : ℕ) / 4096 < 8 ∧ (R : ℕ) % 4096 < 4096 ∧ (n : ℕ) / 128 < 8 ∧ (n : ℕ) % 128 < 64 := ⟨by omega, by omega, by omega, h⟩
    refine (dif_pos hc).trans (Eq.trans ?_ (dif_pos h).symm)
    rw [dot_at]
    refine congrArg (fun a => a * eighth * log2e) (congrArg (rowDot _) (funext fun k => congrArg (fun y => x1 (ix2 k y)) (Fin.ext ?_)))
    dsimp only
    omega
  · have hc : ¬ ((R : ℕ) / 4096 < 8 ∧ (R : ℕ) % 4096 < 4096 ∧ (n : ℕ) / 128 < 8 ∧ (n : ℕ) % 128 < 64) := fun hh => h hh.2.2.2
    refine (dif_neg hc).trans (zero_at.trans ?_)
    symm
    exact dif_neg h

/-- The first branch's keys and values at one row and one lane. -/
theorem kv0_at (R : Fin 32768) (n : Fin 256) :
    val_main_v43 (F := Ideal) x0 x1 (ix2 R n) = kv0Lane (fun k => x0 (ix3 (xbat R) (xpos R) k)) (fun k j => x1 (ix2 k j)) n := by
  pointwise [val_main_v43, val_main_v42, val_main_v41, val_main_v40, val_main_v8, val_main_v7]
  exact dot_at x0 x1 _ _ _

/-- The gates at one row and one lane. -/
theorem gate_at (R : Fin 32768) (n : Fin 128) :
    val_main_v52 (F := Ideal) x0 x1 (ix2 R n) = gateLane (fun k => x0 (ix3 (xbat R) (xpos R) k)) (fun k j => x1 (ix2 k j)) n := by
  pointwise [val_main_v52, val_main_v51, val_main_call3_v0, val_main_c_6, val_main_v9]
  unfold gateLane
  by_cases h : (n : ℕ) < 24
  · have hc : (R : ℕ) / 4096 < 8 ∧ (R : ℕ) % 4096 < 4096 ∧ (n : ℕ) < 24 := ⟨by omega, by omega, h⟩
    refine (dif_pos hc).trans (Eq.trans ?_ (dif_pos h).symm)
    exact dot_at x0 x1 _ _ _
  · have hc : ¬ ((R : ℕ) / 4096 < 8 ∧ (R : ℕ) % 4096 < 4096 ∧ (n : ℕ) < 24) := fun hh => h hh.2.2
    refine (dif_neg hc).trans (zero_at.trans ?_)
    symm
    exact dif_neg h

/-- The pooling mixer's input at one row and one lane. -/
theorem u_at (R : Fin 32768) (n : Fin 512) :
    val_main_v53 (F := Ideal) x0 x1 (ix2 R n) = uLane (fun k => x0 (ix3 (xbat R) (xpos R) k)) (fun k j => x1 (ix2 k j)) n := by
  pointwise [val_main_v53, val_main_v10]
  exact dot_at x0 x1 _ _ _

/-- A position's block, as a word: the quotient by 64 rounded down. -/
theorem v13_at (p : Fin 4096) : val_main_v13 (F := Ideal) (ix2 p 0) = BitVec.ofNat 32 ((p : ℕ) / 64) := by
  pointwise [val_main_v13, val_main_call0_v13, val_main_call0_v12, val_main_call0_c_0, val_main_call0_v11, val_main_call0_v10, val_main_call0_v9, val_main_call0_c, val_main_call0_v8, val_main_call0_v7, val_main_call0_v6, val_main_call0_v5, val_main_call0_v4, val_main_call0_v3, val_main_call0_v2, val_main_call0_v1, val_main_call0_v0, val_main_c, val_main_v12, val_main_v11, id_eq]
  revert p
  decide +kernel

/-- A block's word agrees with a lane's where the numbers do. -/
theorem word_eq (a l : Fin 64) : IntOp.cmpi .eq (BitVec.ofNat 32 (a : ℕ)) (BitVec.ofNat 32 (l : ℕ)) = BitVec.ofBool (decide ((a : ℕ) = l)) := by
  revert a l
  decide +kernel

/-- The block indicator at one position and one block. -/
theorem hot_at (b : Fin 8) (p : Fin 4096) (g : Fin 2) (l : Fin 64) :
    val_main_v21 (F := Ideal) (ix4 b p g l) = if (p : ℕ) / 64 = (l : ℕ) then (1 : EReal) else 0 := by
  pointwise [val_main_v21, val_main_v20, val_main_v19, val_main_call1_v1, val_main_call1_v0, val_main_cst_2, val_main_cst_1, val_main_v18, val_main_v17, val_main_v16, val_main_v15, val_main_v14]
  rw [v13_at p, word_eq ⟨(p : ℕ) / 64, by omega⟩ l, Cert.Kernel4Ideal.Inp.sel_at]

/-- The selected keys' slab. -/
theorem s0_at (b : Fin 8) (p : Fin 4096) (g : Fin 2) (l : Fin 128) :
    val_main_v44 (F := Ideal) x0 x1 (ix5 b p 0 g l)
      = if h : (l : ℕ) < 64 then rowDot (fun k : Fin 1024 => x0 (ix3 b p k)) (fun k => x1 (ix2 k ⟨512 + (256 + g * 64 + l), by omega⟩))
        else if (p : ℕ) / 64 = (l : ℕ) - 64 then 1 else 0 := by
  have e : val_main_v26 (F := Ideal) = val_main_v21 (F := Ideal) := rfl
  pointwise [val_main_v44, val_main_v27, val_main_v25, val_main_v24, val_main_v8, val_main_v7]
  by_cases h : (l : ℕ) < 64
  · rw [dif_pos h, dif_pos h]
    exact dot_at x0 x1 _ _ _
  · rw [dif_neg h, dif_neg h, e]
    exact hot_at b p g _

/-- The selected values' slab. -/
theorem s1_at (b : Fin 8) (p : Fin 4096) (g : Fin 2) (l : Fin 128) :
    val_main_v45 (F := Ideal) x0 x1 (ix5 b p 0 g l)
      = if h : (l : ℕ) < 64 then rowDot (fun k : Fin 1024 => x0 (ix3 b p k)) (fun k => x1 (ix2 k ⟨512 + (256 + 128 + g * 64 + l), by omega⟩))
        else 1 := by
  pointwise [val_main_v45, val_main_v30, val_main_v29, val_main_v28, val_main_v8, val_main_v7, val_main_v23, val_main_cst_4]
  by_cases h : (l : ℕ) < 64
  · rw [dif_pos h, dif_pos h]
    refine (dot_at x0 x1 _ _ _).trans (congrArg (rowDot _) (funext fun k => congrArg (fun y => x1 (ix2 k y)) (Fin.ext ?_)))
    first | rfl | (dsimp only; omega)
  · rw [dif_neg h, dif_neg h]

/-- The window keys' slab. -/
theorem s2_at (b : Fin 8) (p : Fin 4096) (g : Fin 2) (l : Fin 128) :
    val_main_v46 (F := Ideal) x0 x1 (ix5 b p 0 g l)
      = if h : (l : ℕ) < 64 then rowDot (fun k : Fin 1024 => x0 (ix3 b p k)) (fun k => x1 (ix2 k ⟨512 + (512 + g * 64 + l), by omega⟩))
        else 0 := by
  pointwise [val_main_v46, val_main_v33, val_main_v32, val_main_v31, val_main_v8, val_main_v7, val_main_v22, val_main_cst_3]
  by_cases h : (l : ℕ) < 64
  · rw [dif_pos h, dif_pos h]
    refine (dot_at x0 x1 _ _ _).trans (congrArg (rowDot _) (funext fun k => congrArg (fun y => x1 (ix2 k y)) (Fin.ext ?_)))
    first | rfl | (dsimp only; omega)
  · rw [dif_neg h, dif_neg h]

/-- The window values' slab. -/
theorem s3_at (b : Fin 8) (p : Fin 4096) (g : Fin 2) (l : Fin 128) :
    val_main_v47 (F := Ideal) x0 x1 (ix5 b p 0 g l)
      = if h : (l : ℕ) < 64 then rowDot (fun k : Fin 1024 => x0 (ix3 b p k)) (fun k => x1 (ix2 k ⟨512 + (512 + 128 + g * 64 + l), by omega⟩))
        else 1 := by
  pointwise [val_main_v47, val_main_v36, val_main_v35, val_main_v34, val_main_v8, val_main_v7, val_main_v23, val_main_cst_4]
  by_cases h : (l : ℕ) < 64
  · rw [dif_pos h, dif_pos h]
    refine (dot_at x0 x1 _ _ _).trans (congrArg (rowDot _) (funext fun k => congrArg (fun y => x1 (ix2 k y)) (Fin.ext ?_)))
    first | rfl | (dsimp only; omega)
  · rw [dif_neg h, dif_neg h]

/-- A slab read at the lane of the array it belongs to. -/
theorem slab_at (f : Fin 1024 → EReal) (W : Fin 1024 → Fin 1816 → EReal) (p : Fin 4096) (n : Fin 1024) (a v : ℕ) (ha : a < 2) (hv : v < 2) (hn : (n : ℕ) / 256 = 2 * a + v)
    (y : EReal) (z : EReal) (hz : ¬ (n : ℕ) % 128 < 64 → z = kvFill p n)
    (hy : y = if h : (n : ℕ) % 128 < 64 then rowDot f (fun k => W k ⟨512 + ((1 + a) * 256 + v * 128 + n / 128 % 2 * 64 + n % 128), by omega⟩) else z) :
    y = kvsLane f W p n := by
  rw [hy]
  unfold kvsLane
  by_cases h : (n : ℕ) % 128 < 64
  · rw [dif_pos h, dif_pos h]
    refine congrArg (rowDot f) (funext fun k => congrArg (W k) (Fin.ext ?_))
    have h1 : (n : ℕ) / 512 = a := by omega
    have h2 : (n : ℕ) / 256 % 2 = v := by omega
    dsimp only
    rw [h1, h2]
  · rw [dif_neg h, dif_neg h]
    exact hz h

/-- The other branches' keys and values at one row and one lane. -/
theorem kvs_at (R : Fin 32768) (n : Fin 1024) :
    val_main_v50 (F := Ideal) x0 x1 (ix2 R n) = kvsLane (fun k => x0 (ix3 (xbat R) (xpos R) k)) (fun k j => x1 (ix2 k j)) (xpos R) n := by
  pointwise [val_main_v50, val_main_v49, val_main_v48]
  by_cases h0 : (n : ℕ) / 256 < 1
  · rw [dif_pos h0]
    refine slab_at _ _ _ n 0 0 (by omega) (by omega) (by omega) _ _ (fun hl => ?_) ((congrArg (fun y => val_main_v44 (F := Ideal) x0 x1 (ix5 _ _ y _ _)) (Subsingleton.elim _ 0)).trans (s0_at x0 x1 (xbat R) (xpos R) ⟨n / 128 % 2, by omega⟩ ⟨n % 128, by omega⟩))
    unfold kvFill
    rw [if_neg (by omega : ¬ (n : ℕ) / 256 % 2 = 1), if_pos (by omega : (n : ℕ) < 512)]
  · rw [dif_neg h0]
    by_cases h1 : (n : ℕ) / 256 - 1 < 1
    · rw [dif_pos h1]
      refine slab_at _ _ _ n 0 1 (by omega) (by omega) (by omega) _ _ (fun hl => ?_) ((congrArg (fun y => val_main_v45 (F := Ideal) x0 x1 (ix5 _ _ y _ _)) (Subsingleton.elim _ 0)).trans (s1_at x0 x1 (xbat R) (xpos R) ⟨n / 128 % 2, by omega⟩ ⟨n % 128, by omega⟩))
      unfold kvFill
      rw [if_pos (by omega : (n : ℕ) / 256 % 2 = 1)]
    · rw [dif_neg h1]
      by_cases h2 : (n : ℕ) / 256 - 1 - 1 < 1
      · rw [dif_pos h2]
        refine slab_at _ _ _ n 1 0 (by omega) (by omega) (by omega) _ _ (fun hl => ?_) ((congrArg (fun y => val_main_v46 (F := Ideal) x0 x1 (ix5 _ _ y _ _)) (Subsingleton.elim _ 0)).trans (s2_at x0 x1 (xbat R) (xpos R) ⟨n / 128 % 2, by omega⟩ ⟨n % 128, by omega⟩))
        unfold kvFill
        rw [if_neg (by omega : ¬ (n : ℕ) / 256 % 2 = 1), if_neg (by omega : ¬ (n : ℕ) < 512)]
      · rw [dif_neg h2]
        refine slab_at _ _ _ n 1 1 (by omega) (by omega) (by omega) _ _ (fun hl => ?_) ((congrArg (fun y => val_main_v47 (F := Ideal) x0 x1 (ix5 _ _ y _ _)) (Subsingleton.elim _ 0)).trans (s3_at x0 x1 (xbat R) (xpos R) ⟨n / 128 % 2, by omega⟩ ⟨n % 128, by omega⟩))
        unfold kvFill
        rw [if_pos (by omega : (n : ℕ) / 256 % 2 = 1)]

end Cert.Reference4Ideal.Inp
-- ==== Proof.InpClaim.lean ====
module

public import proofs.«01_k».proof.Proof.InpRef
public import proofs.«01_k».proof.Proof.Gen.Kernel4Ideal.Value
public import proofs.«01_k».proof.Defs
public import Idealize.ShloMosaic.Lib.Quiescent

/-! The input projection's claims. -/

@[expose] public section

set_option maxRecDepth 16384

noncomputable section

namespace Trunk

open Idealize.ShloMosaic Idealize.ShloMosaic.TcCoe Idealize.SL.Sem

/-- The input projection's reference runs, keeps its arguments and leaves every counter at zero. -/
theorem inp_ref_frame [Cert.Reference4Ideal.Facts] : Cert.quiescent_Reference4Ideal := fun m ρ _ =>
  (θ_run _ _ _).mono (fun r h => ⟨fun c => (h c).2.2.2.2.2, sem_eq_zero_of_no_sems rfl r.2⟩) (Cert.Reference4Ideal.Value.run m ρ)

/-- From equal arguments the input projection and its reference end with equal results, all five of them. -/
theorem inp_algebraic [Cert.Kernel4Ideal.Facts] [Cert.Reference4Ideal.Facts] : Cert.algebraic_Kernel4Ideal_Reference4Ideal :=
  fun m ρ m' ρ' _ hag => ⟨fun c => Cert.Kernel4Ideal.Inp.GQ m c, fun c => Cert.Kernel4Ideal.Inp.GKv0 m c, fun c => Cert.Kernel4Ideal.Inp.GKvs m c,
    fun c => Cert.Kernel4Ideal.Inp.GGate m c, fun c => Cert.Kernel4Ideal.Inp.GU m c,
    (θ_run _ _ _).mono (fun _ h c => ⟨(h c).1.trans (Cert.Kernel4Ideal.Inp.finalQ m c), (h c).2.1.trans (Cert.Kernel4Ideal.Inp.finalKv0 m c),
      (h c).2.2.1.trans (Cert.Kernel4Ideal.Inp.finalKvs m c), (h c).2.2.2.1.trans (Cert.Kernel4Ideal.Inp.finalGate m c),
      (h c).2.2.2.2.1.trans (Cert.Kernel4Ideal.Inp.finalU m c), (h c).2.2.2.2.2⟩) (Cert.Kernel4Ideal.Value.run_blocks m ρ),
    (θ_run _ _ _).mono (fun _ h c => by
      obtain ⟨e0, e1⟩ := hag c
      refine ⟨(h c).1.trans ?_, (h c).2.1.trans ?_, (h c).2.2.1.trans ?_, (h c).2.2.2.1.trans ?_, (h c).2.2.2.2.1.trans ?_, (h c).2.2.2.2.2⟩
      · rw [Cert.Reference4Ideal.Read.val_main_v39_eq, e0, e1]
        funext y
        idx_vars y
        exact Cert.Reference4Ideal.Inp.q_at _ _ y0 y1
      · rw [Cert.Reference4Ideal.Read.val_main_v43_eq, e0, e1]
        funext y
        idx_vars y
        exact Cert.Reference4Ideal.Inp.kv0_at _ _ y0 y1
      · rw [Cert.Reference4Ideal.Read.val_main_v50_eq, e0, e1]
        funext y
        idx_vars y
        exact Cert.Reference4Ideal.Inp.kvs_at _ _ y0 y1
      · rw [Cert.Reference4Ideal.Read.val_main_v52_eq, e0, e1]
        funext y
        idx_vars y
        exact Cert.Reference4Ideal.Inp.gate_at _ _ y0 y1
      · rw [Cert.Reference4Ideal.Read.val_main_v53_eq, e0, e1]
        funext y
        idx_vars y
        exact Cert.Reference4Ideal.Inp.u_at _ _ y0 y1) (Cert.Reference4Ideal.Value.run m' ρ')⟩

end Trunk
-- ==== Proof.PoolRows.lean ====
module

public import proofs.«01_k».proof.Proof.MemRows
public import Idealize.ShloMosaic.Lib.Routing.OpsOne

/-! The pooling mixer's row functions: the trailing means over 2, 4, 8 and 16 positions less the token, the groups' linear
    maps, the output projection of both mixers, the residual and the layer norm; and the window sum as a difference of
    running sums. -/

@[expose] public section

set_option maxRecDepth 16384

noncomputable section

namespace Trunk

open Idealize.ShloMosaic

/-- The number of positions a window of `w` holds at position `p`, as the programs find it. -/
def cnt (p w : ℕ) : EReal :=
  FloatOps.sitofp (F := Idealize.ShloMosaic.Ideal) .f32 (IntOp.minsi (IntOp.addi (BitVec.ofNat 32 p) 1#32) (BitVec.ofNat 32 w))

/-- The trailing mean over `w` positions less the token, where `u d` is the value `d` positions before. -/
def poolLane (u : ℕ → EReal) (w p : ℕ) : EReal := Ideal.div (∑ d ∈ Finset.range w, u d) (cnt p w) - u 0

/-- The pooled values of a position, lane by lane: group `g` has a window of `2 ^ (g + 1)`. -/
def poolVec (u : ℕ → Fin 512 → EReal) (p : ℕ) (n : Fin 512) : EReal := poolLane (fun d => u d n) (2 ^ ((n : ℕ) / 128 + 1)) p

/-- The mixed values at one lane: the group's linear map and the lane's scale. -/
def mixLane (v : Fin 512 → EReal) (pw : Fin 4 → Fin 128 → Fin 128 → EReal) (ps : Fin 512 → EReal) (n : Fin 512) : EReal :=
  rowDot (fun c : Fin 128 => v ⟨128 * (n / 128) + c, by omega⟩) (fun c => pw ⟨n / 128, by omega⟩ c ⟨n % 128, by omega⟩) * ps n

/-- One row of the two mixers' output projection with its residual and layer norm, at one lane. -/
def poolRow (x : Fin 1024 → EReal) (a : Fin 512 → EReal) (v : Fin 512 → EReal) (pw : Fin 4 → Fin 128 → Fin 128 → EReal)
    (ps : Fin 512 → EReal) (wo : Fin 1024 → Fin 1024 → EReal) (g b : EReal) (n : Fin 1024) : EReal :=
  rowNorm (fun j => alpha * x j + (rowDot a (fun k => wo ⟨k, by omega⟩ j) + rowDot (mixLane v pw ps) (fun k => wo ⟨512 + k, by omega⟩ j))) g b n

/-- The value `d` positions before position `p`, zero where there is none. -/
def back (U : Fin 4096 → Fin 512 → EReal) (p : Fin 4096) (d : ℕ) (n : Fin 512) : EReal :=
  if d ≤ (p : ℕ) then U ⟨(p : ℕ) - d, by omega⟩ n else 0

/-- Pooled values depend on the sixteen positions that end at the token only. -/
theorem poolVec_congr {u u' : ℕ → Fin 512 → EReal} (h : ∀ d, d < 16 → ∀ n, u d n = u' d n) (p : ℕ) (n : Fin 512) : poolVec u p n = poolVec u' p n := by
  have hw : 2 ^ ((n : ℕ) / 128 + 1) ≤ 16 := by
    have h4 : (n : ℕ) / 128 + 1 ≤ 4 := by omega
    exact (Nat.pow_le_pow_right (by omega) h4).trans (by norm_num)
  unfold poolVec poolLane
  dsimp only
  rw [h 0 (by omega) n, Finset.sum_congr rfl fun d hd => h d (lt_of_lt_of_le (Finset.mem_range.1 hd) hw) n]

/-- A window sum doubles by adding the window before it. -/
theorem window_double (f : ℕ → EReal) (k i : ℕ) (hi : 2 * k ≤ i + 1) :
    (∑ d ∈ Finset.range k, f (i - d)) + ∑ d ∈ Finset.range k, f (i - k - d) = ∑ d ∈ Finset.range (2 * k), f (i - d) := by
  rw [Nat.two_mul, Finset.sum_range_add]
  refine congrArg₂ (· + ·) rfl (Finset.sum_congr rfl fun d _ => congrArg f ?_)
  omega

/-- The window sum is the difference of the running sums at its two ends, the values being real. -/
theorem window_of_sums (f : ℕ → EReal) (hf : ∀ i, IsReal (f i)) (w p : ℕ) :
    (∑ i ∈ Finset.range (p + 1), f i) - (if w ≤ p then ∑ i ∈ Finset.range (p - w + 1), f i else 0)
      = ∑ d ∈ Finset.range w, if d ≤ p then f (p - d) else 0 := by
  by_cases h : w ≤ p
  · rw [if_pos h, show p + 1 = (p - w + 1) + w by omega, Finset.sum_range_add]
    obtain ⟨a, ha⟩ := IsReal.sum (Finset.range (p - w + 1)) hf
    rw [ha, add_comm, EReal.add_sub_cancel_right, ← Finset.sum_range_reflect]
    refine Finset.sum_congr rfl fun d hd => ?_
    have hd' := Finset.mem_range.1 hd
    rw [if_pos (by omega)]
    exact congrArg f (by omega)
  · rw [if_neg h, sub_zero, show w = (p + 1) + (w - (p + 1)) by omega, Finset.sum_range_add _ (p + 1) (w - (p + 1)), ← Finset.sum_range_reflect f (p + 1)]
    refine Eq.symm (Eq.trans (congrArg₂ (· + ·) (Finset.sum_congr rfl fun d hd => ?_) (Finset.sum_eq_zero fun d _ => if_neg (by omega))) (add_zero _))
    have hd' := Finset.mem_range.1 hd
    rw [if_pos (by omega)]
    exact congrArg f (by omega)

/-- A fold that adds is the sum of what it adds. -/
theorem fold_add {α : Type} (l : List α) (F : α → EReal) (z : EReal) : l.foldl (fun a n => a + F n) z = z + (l.map F).sum := by
  induction l generalizing z with
  | nil => simp
  | cons a t ih => rw [List.foldl_cons, ih, List.map_cons, List.sum_cons, add_assoc]

/-- A window that reaches back over all positions sums the positions up to its end. -/
theorem sum_reach (f : ℕ → EReal) (q j : ℕ) (hj : j ≤ q) :
    (∑ n ∈ Finset.range (q + 1), if q ≤ j + n then f (j + n - q) else 0) = ∑ i ∈ Finset.range (j + 1), f i := by
  rw [show q + 1 = (q - j) + (j + 1) by omega, Finset.sum_range_add]
  refine Eq.trans (congrArg₂ (· + ·) (Finset.sum_eq_zero fun d hd => ?_) (Finset.sum_congr rfl fun d _ => ?_)) (zero_add _)
  · have hd' := Finset.mem_range.1 hd
    exact if_neg (by omega)
  · rw [if_pos (by omega)]
    exact congrArg f (by omega)

/-- The places of a window over one batch's positions, one channel. -/
def column (N : ℕ) : Fin N ≃ (⟨3, ![1, N, 1]⟩ : Shape).Idx where
  toFun k := ix3 0 k 0
  invFun y := y 1
  left_inv _ := rfl
  right_inv y := by
    funext a
    match a with
    | ⟨0, _⟩ => exact Subsingleton.elim (α := Fin 1) _ _
    | ⟨1, _⟩ => rfl
    | ⟨2, _⟩ => exact Subsingleton.elim (α := Fin 1) _ _

/-- A running sum along the positions, as it prints: a window of all positions padded below by one less. -/
theorem cumsum_at {A N q C : ℕ} (hq : q + 1 = N) (x : (⟨3, ![A, N, C]⟩ : Shape).Idx → EReal)
    (h : (⟨3, ![A, N, C]⟩ : Shape).ReduceWindows (![1, N, 1] : Fin 3 → ℕ) ![1, 1, 1] ![0, q, 0] ![0, 0, 0] ⟨3, ![A, N, C]⟩) (b : Fin A) (j : Fin N) (c : Fin C)
    (f : ℕ → EReal) (hf : ∀ i : Fin N, x (ix3 b i c) = f i) :
    Ideal.hostReduceWindowAdd (![1, N, 1] : Fin 3 → ℕ) ![1, 1, 1] ![0, q, 0] ![0, 0, 0] h x 0 (ix3 b j c) = ∑ i ∈ Finset.range ((j : ℕ) + 1), f i := by
  unfold Ideal.hostReduceWindowAdd Host.reduceWindow
  refine (fold_add _ _ _).trans ((zero_add _).trans ?_)
  refine (Fin.sum_univ_def _).symm.trans ?_
  refine (Finset.sum_congr rfl fun n _ => ?_).trans ((Equiv.sum_comp (⟨3, ![1, N, 1]⟩ : Shape).rowMajor.symm (fun y => if q ≤ (j : ℕ) + (y 1).val then f ((j : ℕ) + (y 1).val - q) else (0 : EReal))).trans ?_)
  · have key : ∀ y : (⟨3, ![1, N, 1]⟩ : Shape).Idx, (y 0).val = 0 ∧ (y 2).val = 0 ∧ (y 1).val < N := fun y =>
      ⟨congrArg Fin.val (Subsingleton.elim (α := Fin 1) (y 0) 0), congrArg Fin.val (Subsingleton.elim (α := Fin 1) (y 2) 0), (y 1).isLt⟩
    obtain ⟨hy0, hy2, hy1⟩ := key ((⟨3, ![1, N, 1]⟩ : Shape).rowMajor.symm n)
    have hj := j.isLt
    by_cases hc : q ≤ (j : ℕ) + ((⟨3, ![1, N, 1]⟩ : Shape).rowMajor.symm n 1).val
    · rw [if_pos hc]
      have hb : (j : ℕ) + ((⟨3, ![1, N, 1]⟩ : Shape).rowMajor.symm n 1).val - q < N := by omega
      refine (dif_pos ?_).trans (Eq.trans (congrArg x (a₂ := ix3 b ⟨(j : ℕ) + ((⟨3, ![1, N, 1]⟩ : Shape).rowMajor.symm n 1).val - q, hb⟩ c) ?_) (hf ⟨_, hb⟩))
      · intro a
        match a with
        | ⟨0, _⟩ => exact ⟨Nat.zero_le _, lt_of_eq_of_lt (by change b.val * 1 + ((⟨3, ![1, N, 1]⟩ : Shape).rowMajor.symm n 0).val - 0 = b.val; omega) b.isLt⟩
        | ⟨1, _⟩ => exact ⟨by change q ≤ j.val * 1 + ((⟨3, ![1, N, 1]⟩ : Shape).rowMajor.symm n 1).val; omega, by change j.val * 1 + ((⟨3, ![1, N, 1]⟩ : Shape).rowMajor.symm n 1).val - q < N; omega⟩
        | ⟨2, _⟩ => exact ⟨Nat.zero_le _, lt_of_eq_of_lt (by change c.val * 1 + ((⟨3, ![1, N, 1]⟩ : Shape).rowMajor.symm n 2).val - 0 = c.val; omega) c.isLt⟩
      · funext a
        match a with
        | ⟨0, _⟩ => exact Fin.ext (by change b.val * 1 + ((⟨3, ![1, N, 1]⟩ : Shape).rowMajor.symm n 0).val - 0 = b.val; omega)
        | ⟨1, _⟩ => exact Fin.ext (by change j.val * 1 + ((⟨3, ![1, N, 1]⟩ : Shape).rowMajor.symm n 1).val - q = j.val + ((⟨3, ![1, N, 1]⟩ : Shape).rowMajor.symm n 1).val - q; omega)
        | ⟨2, _⟩ => exact Fin.ext (by change c.val * 1 + ((⟨3, ![1, N, 1]⟩ : Shape).rowMajor.symm n 2).val - 0 = c.val; omega)
    · rw [if_neg hc]
      refine dif_neg fun hin => hc ?_
      have h1 : q ≤ j.val * 1 + ((⟨3, ![1, N, 1]⟩ : Shape).rowMajor.symm n 1).val := (hin (1 : Fin 3)).1
      omega
  · refine (Equiv.sum_comp (column N) _).symm.trans ?_
    refine Eq.trans ?_ (sum_reach f q j (by have := j.isLt; omega))
    rw [hq, ← Fin.sum_univ_eq_sum_range (fun n => if q ≤ (j : ℕ) + n then f ((j : ℕ) + n - q) else 0) N]
    rfl

/-- One row of the mixers' output at one lane, from the whole arrays, the row given by its batch and position. -/
def poolOut (X : Fin 8 → Fin 4096 → Fin 1024 → EReal) (A U : Fin 8 → Fin 4096 → Fin 512 → EReal) (pw : Fin 4 → Fin 128 → Fin 128 → EReal)
    (ps : Fin 512 → EReal) (wo : Fin 1024 → Fin 1024 → EReal) (g b : Fin 1024 → EReal) (i : Fin 8) (s : Fin 4096) (n : Fin 1024) : EReal :=
  poolRow (X i s) (A i s) (poolVec (back (U i) s) s) pw ps wo (g n) (b n) n

end Trunk
-- ==== Proof.PoolBody.lean ====
module

public import proofs.«01_k».proof.Proof.Gen.Kernel5Ideal.Frame
public import proofs.«01_k».proof.Proof.PoolRows
public import Idealize.ShloMosaic.Lib.Pipeline.ValueKit

/-! The pooling mixer's body: the output window read at one row and one lane. -/

@[expose] public section

set_option maxRecDepth 16384

noncomputable section

namespace Cert.Kernel5Ideal.Pool

open Idealize.ShloMosaic Idealize.ShloMosaic.TcCoe Idealize.SL.Sem
open Cert.Kernel5Ideal Cert.Kernel5Ideal.Gen Trunk

/-! ## Window sums by doubling -/

/-- Rows that hold, from row `k - 1` on, the sums of the `k` values that end there. -/
def Runs (v : FVec Ideal S528x128 .f32) (f : Fin 128 → ℕ → EReal) (k : ℕ) : Prop :=
  ∀ (i : Fin 528) (c : Fin 128), k ≤ (i : ℕ) + 1 → v (ix2 i c) = ∑ d ∈ Finset.range k, f c ((i : ℕ) - d)

/-- A doubling: the rows and the rows rolled down. -/
def dbl (k : BitVec 32) (v : FVec Ideal S528x128 .f32) : FVec Ideal S528x128 .f32 :=
  addf v (dynamicRotate 0 k none v rotates_S528x128_d0)

/-- One doubling, given where the rolled rows come from. -/
theorem runs_step {v : FVec Ideal S528x128 .f32} {f : Fin 128 → ℕ → EReal} {k : ℕ} {b : BitVec 32} (hk : 0 < k)
    (hb : ∀ (i : Fin 528) (c : Fin 128), dbl b v (ix2 i c) = v (ix2 i c) + v (ix2 ⟨((i : ℕ) + 528 - k) % 528, Nat.mod_lt _ (by omega)⟩ c))
    (h : Runs v f k) : Runs (dbl b v) f (2 * k) := by
  intro i c hi
  have e : ((i : ℕ) + 528 - k) % 528 = (i : ℕ) - k := by
    have := i.isLt
    omega
  rw [hb i c, h i c (by omega), h _ c (by dsimp only; omega)]
  dsimp only
  rw [e]
  exact window_double (f c) k i hi

/-- From one value to two. -/
theorem runs2 {v : FVec Ideal S528x128 .f32} {f : Fin 128 → ℕ → EReal} (h : Runs v f 1) : Runs (dbl 1#32 v) f 2 :=
  runs_step (by omega) (fun i c => by pointwise [dbl]) h

/-- From two values to four. -/
theorem runs4 {v : FVec Ideal S528x128 .f32} {f : Fin 128 → ℕ → EReal} (h : Runs v f 2) : Runs (dbl 2#32 v) f 4 :=
  runs_step (by omega) (fun i c => by pointwise [dbl]) h

/-- From four values to eight. -/
theorem runs8 {v : FVec Ideal S528x128 .f32} {f : Fin 128 → ℕ → EReal} (h : Runs v f 4) : Runs (dbl 4#32 v) f 8 :=
  runs_step (by omega) (fun i c => by pointwise [dbl]) h

/-- From eight values to sixteen. -/
theorem runs16 {v : FVec Ideal S528x128 .f32} {f : Fin 128 → ℕ → EReal} (h : Runs v f 8) : Runs (dbl 8#32 v) f 16 :=
  runs_step (by omega) (fun i c => by pointwise [dbl]) h

/-! ## One group -/

/-- A group's mixed lanes from its window sums. -/
def mix (w : BitVec 32) (q : IVec S512x1 32) (u : FVec Ideal S512x128 .f32) (run : FVec Ideal S528x128 .f32) (pw : Vec Ideal S1x128x128 .bf16)
    (ps : Vec Ideal S1x128 .f32) : FVec Ideal S512x128 .bf16 :=
  truncf .bf16 (mulf (matmul dot_S512x128_S128x128_S512x128_1_0_0_1_n_n none
      (truncf .bf16 (subf (divf (extractStridedSlice S512x128 ![16, 0] run slices_S528x128_o16_0_S512x128)
          (broadcastTo S512x128 (sitofp .f32 (minsi (addi q (broadcast S512x1 1#32)) (broadcast S512x1 w))) broadcasts_S512x1_S512x128)) u) bitsLt_bf16_f32)
      (shapeCast S128x128 pw shapeCasts_S1x128x128_S128x128 : FVec Ideal S128x128 .bf16) (constant S512x128 .f32 0x00000000#32))
    (broadcastTo S512x128 (shapeCast S1x128 ps shapeCasts_S1x128_S1x128) broadcasts_S1x128_S512x128)) bitsLt_bf16_f32

/-- It is the linear map of the means less the token, scaled. -/
theorem mix_at (w : BitVec 32) (q : IVec S512x1 32) (u : FVec Ideal S512x128 .f32) (run : FVec Ideal S528x128 .f32) (pw : Vec Ideal S1x128x128 .bf16)
    (ps : Vec Ideal S1x128 .f32) (r : Fin 512) (c : Fin 128) :
    mix w q u run pw ps (ix2 r c)
      = rowDot (fun k : Fin 128 => Ideal.div (run (ix2 ⟨16 + r, by omega⟩ k)) (FloatOps.sitofp (F := Idealize.ShloMosaic.Ideal) .f32 (IntOp.minsi (IntOp.addi (q (ix2 r 0)) 1#32) w)) - u (ix2 r k))
          (fun k => pw (ix3 0 k c)) * ps (ix2 0 c) := by
  pointwise [mix, rowDot]

/-- It is a group's part of the mixed lanes. -/
theorem group (g : ℕ) (hg : g < 4) (q : IVec S512x1 32) (u : FVec Ideal S512x128 .f32) (run : FVec Ideal S528x128 .f32) (pw : Vec Ideal S1x128x128 .bf16)
    (ps : Vec Ideal S1x128 .f32) (r : Fin 512) (p : ℕ) (U : ℕ → Fin 512 → EReal) (PW : Fin 4 → Fin 128 → Fin 128 → EReal) (PS : Fin 512 → EReal)
    (hq : q (ix2 r 0) = BitVec.ofNat 32 p) (hu : ∀ c : Fin 128, u (ix2 r c) = U 0 ⟨128 * g + c, by omega⟩)
    (hrun : ∀ c : Fin 128, run (ix2 ⟨16 + r, by omega⟩ c) = ∑ d ∈ Finset.range (2 ^ (g + 1)), U d ⟨128 * g + c, by omega⟩)
    (hpw : ∀ k c : Fin 128, pw (ix3 0 k c) = PW ⟨g, hg⟩ k c) (hps : ∀ c : Fin 128, ps (ix2 0 c) = PS ⟨128 * g + c, by omega⟩) (c : Fin 128) :
    mix (BitVec.ofNat 32 (2 ^ (g + 1))) q u run pw ps (ix2 r c) = mixLane (poolVec U p) PW PS ⟨128 * g + c, by omega⟩ := by
  rw [mix_at, hq, hps]
  unfold mixLane rowDot
  refine congrArg₂ (· * ·) (Finset.sum_congr rfl fun k _ => congrArg₂ (· * ·) ?_ ?_) rfl
  · have e : (⟨128 * ((128 * g + (c : ℕ)) / 128) + (k : ℕ), by omega⟩ : Fin 512) = ⟨128 * g + k, by omega⟩ := Fin.ext (by dsimp only; omega)
    have e' : (128 * g + (k : ℕ)) / 128 + 1 = g + 1 := by omega
    dsimp only
    rw [e, hrun, hu]
    unfold poolVec poolLane cnt
    dsimp only
    rw [e']
  · refine (hpw k c).trans ?_
    exact congrArg₂ (fun a b => PW a k b) (Fin.ext (by dsimp only; omega)) (Fin.ext (by dsimp only; omega))

/-- Four groups side by side. -/
theorem wide4_at (a b d e : FVec Ideal S512x128 .bf16) (r : Fin 512) (F : Fin 512 → EReal) (ha : ∀ c : Fin 128, a (ix2 r c) = F ⟨128 * 0 + c, by omega⟩)
    (hb : ∀ c : Fin 128, b (ix2 r c) = F ⟨128 * 1 + c, by omega⟩) (hd : ∀ c : Fin 128, d (ix2 r c) = F ⟨128 * 2 + c, by omega⟩)
    (he : ∀ c : Fin 128, e (ix2 r c) = F ⟨128 * 3 + c, by omega⟩) (n : Fin 512) :
    concatenate S512x512 1 [⟨S512x128, a⟩, ⟨S512x128, b⟩, ⟨S512x128, d⟩, ⟨S512x128, e⟩] concatenates_S512x128_S512x128_S512x128_S512x128_S512x512_d1 (ix2 r n) = F n := by
  pointwise
  split
  · exact (ha _).trans (congrArg F (Fin.ext (by dsimp only; omega)))
  split
  · exact (hb _).trans (congrArg F (Fin.ext (by dsimp only; omega)))
  split
  · exact (hd _).trans (congrArg F (Fin.ext (by dsimp only; omega)))
  · exact (he _).trans (congrArg F (Fin.ext (by dsimp only; omega)))

/-- The mixed values' projection added to an accumulator. -/
theorem proj_at (v : FVec Ideal S512x1024 .f32) (A : FVec Ideal S512x512 .bf16) (w : Vec Ideal S512x1024 .bf16) (r : Fin 512) (j : Fin 1024) :
    addf v (matmul dot_S512x512_S512x1024_S512x1024_1_0_0_1_n_n none A (shapeCast S512x1024 w shapeCasts_S512x1024_S512x1024 : FVec Ideal S512x1024 .bf16)
        (constant S512x1024 .f32 0x00000000#32)) (ix2 r j) = v (ix2 r j) + rowDot (fun k => A (ix2 r k)) (fun k => w (ix2 k j)) := by
  pointwise [rowDot]

/-- The other mixer's projection. -/
theorem nsa_at (a : Vec Ideal S512x512 .bf16) (w : Vec Ideal S512x1024 .bf16) (r : Fin 512) (j : Fin 1024) :
    k0_pay6 (k0_pay5 a) w (ix2 r j) = rowDot (fun k => a (ix2 r k)) (fun k => w (ix2 k j)) := by
  pointwise [k0_pay6, k0_pay5, rowDot]

/-- The layer norm at one row and one lane. -/
theorem norm_at (acc : FVec Ideal S512x1024 .f32) (x : Vec Ideal S512x1024 .f32) (g b : Vec Ideal S1x1024 .f32) (r : Fin 512) (n : Fin 1024) :
    k0_pay30 (k0_pay26 acc x) (k0_pay27 g) (k0_pay28 b) (k0_pay29 acc x) (ix2 r n)
      = rowNorm (fun j => alpha * x (ix2 r j) + acc (ix2 r j)) (g (ix2 0 n)) (b (ix2 0 n)) n := by
  pointwise [k0_pay30, k0_pay26, k0_pay27, k0_pay28, k0_pay29, rowNorm, rowMean]

/-! ## One half of the window -/

/-- The values of a group's lane by row. -/
def lane (v : FVec Ideal S528x512 .f32) (g : ℕ) (hg : g < 4) (c : Fin 128) (i : ℕ) : EReal :=
  if h : i < 528 then v (ix2 ⟨i, h⟩ ⟨128 * g + c, by omega⟩) else 0

/-- A sum of one value. -/
theorem runs1 (v : FVec Ideal S528x512 .f32) (w : FVec Ideal S528x128 .f32) (g : ℕ) (hg : g < 4)
    (h : ∀ (i : Fin 528) (c : Fin 128), w (ix2 i c) = v (ix2 i ⟨128 * g + c, by omega⟩)) : Runs w (lane v g hg) 1 := by
  intro i c _
  have hi : (i : ℕ) - 0 < 528 := i.isLt
  rw [Finset.sum_range_one, h i c]
  unfold lane
  refine Eq.trans ?_ (dif_pos hi).symm
  rfl

/-- The window sum at a row. -/
theorem run_at {v : FVec Ideal S528x512 .f32} {w : FVec Ideal S528x128 .f32} {g : ℕ} {hg : g < 4} {k : ℕ} (hk : k ≤ 16) (h : Runs w (lane v g hg) k) (r : Fin 512)
    (U : ℕ → Fin 512 → EReal) (hU : ∀ d, d < 16 → ∀ n, v (ix2 ⟨16 + r - d, by omega⟩ n) = U d n) (c : Fin 128) :
    w (ix2 ⟨16 + r, by omega⟩ c) = ∑ d ∈ Finset.range k, U d ⟨128 * g + c, by omega⟩ := by
  rw [h _ c (by dsimp only; omega)]
  refine Finset.sum_congr rfl fun d hd => ?_
  have hd' := Finset.mem_range.1 hd
  rw [← hU d (by omega)]
  exact dif_pos (by dsimp only; omega)

/-- The two projections of one half, from its positions, values and history. -/
def acc (q : IVec S512x1 32) (u : FVec Ideal S512x512 .f32) (v : FVec Ideal S528x512 .f32) (a : Vec Ideal S512x512 .bf16) (w w' : Vec Ideal S512x1024 .bf16)
    (p0 p1 p2 p3 : Vec Ideal S1x128x128 .bf16) (s0 s1 s2 s3 : Vec Ideal S1x128 .f32) : FVec Ideal S512x1024 .f32 :=
  addf (k0_pay6 (k0_pay5 a) w) (matmul dot_S512x512_S512x1024_S512x1024_1_0_0_1_n_n none
    (concatenate S512x512 1 [
      ⟨S512x128, mix 2#32 q (extractStridedSlice S512x128 ![0, 0] u slices_S512x512_o0_0_S512x128) (dbl 1#32 (extractStridedSlice S528x128 ![0, 0] v slices_S528x512_o0_0_S528x128)) p0 s0⟩,
      ⟨S512x128, mix 4#32 q (extractStridedSlice S512x128 ![0, 128] u slices_S512x512_o0_128_S512x128) (dbl 2#32 (dbl 1#32 (extractStridedSlice S528x128 ![0, 128] v slices_S528x512_o0_128_S528x128))) p1 s1⟩,
      ⟨S512x128, mix 8#32 q (extractStridedSlice S512x128 ![0, 256] u slices_S512x512_o0_256_S512x128) (dbl 4#32 (dbl 2#32 (dbl 1#32 (extractStridedSlice S528x128 ![0, 256] v slices_S528x512_o0_256_S528x128)))) p2 s2⟩,
      ⟨S512x128, mix 16#32 q (extractStridedSlice S512x128 ![0, 384] u slices_S512x512_o0_384_S512x128) (dbl 8#32 (dbl 4#32 (dbl 2#32 (dbl 1#32 (extractStridedSlice S528x128 ![0, 384] v slices_S528x512_o0_384_S528x128))))) p3 s3⟩]
      concatenates_S512x128_S512x128_S512x128_S512x128_S512x512_d1)
    (shapeCast S512x1024 w' shapeCasts_S512x1024_S512x1024 : FVec Ideal S512x1024 .bf16) (constant S512x1024 .f32 0x00000000#32))

/-- They are the two mixers' rows times the two halves of the output weight. -/
theorem acc_at (q : IVec S512x1 32) (u : FVec Ideal S512x512 .f32) (v : FVec Ideal S528x512 .f32) (a : Vec Ideal S512x512 .bf16) (w w' : Vec Ideal S512x1024 .bf16)
    (p0 p1 p2 p3 : Vec Ideal S1x128x128 .bf16) (s0 s1 s2 s3 : Vec Ideal S1x128 .f32) (r : Fin 512) (p : ℕ) (U : ℕ → Fin 512 → EReal)
    (PW : Fin 4 → Fin 128 → Fin 128 → EReal) (PS : Fin 512 → EReal) (hq : q (ix2 r 0) = BitVec.ofNat 32 p) (hu : ∀ n, u (ix2 r n) = U 0 n)
    (hU : ∀ d, d < 16 → ∀ n, v (ix2 ⟨16 + r - d, by omega⟩ n) = U d n)
    (hp0 : ∀ k c, p0 (ix3 0 k c) = PW 0 k c) (hp1 : ∀ k c, p1 (ix3 0 k c) = PW 1 k c) (hp2 : ∀ k c, p2 (ix3 0 k c) = PW 2 k c) (hp3 : ∀ k c, p3 (ix3 0 k c) = PW 3 k c)
    (hs0 : ∀ c : Fin 128, s0 (ix2 0 c) = PS ⟨128 * 0 + c, by omega⟩) (hs1 : ∀ c : Fin 128, s1 (ix2 0 c) = PS ⟨128 * 1 + c, by omega⟩)
    (hs2 : ∀ c : Fin 128, s2 (ix2 0 c) = PS ⟨128 * 2 + c, by omega⟩) (hs3 : ∀ c : Fin 128, s3 (ix2 0 c) = PS ⟨128 * 3 + c, by omega⟩) (j : Fin 1024) :
    acc q u v a w w' p0 p1 p2 p3 s0 s1 s2 s3 (ix2 r j)
      = rowDot (fun k => a (ix2 r k)) (fun k => w (ix2 k j)) + rowDot (mixLane (poolVec U p) PW PS) (fun k => w' (ix2 k j)) := by
  unfold acc
  rw [proj_at, nsa_at]
  refine congrArg₂ (· + ·) rfl (congrArg₂ rowDot (funext fun n => ?_) rfl)
  refine wide4_at _ _ _ _ r (mixLane (poolVec U p) PW PS) ?_ ?_ ?_ ?_ n
  · refine group 0 (by omega) q _ _ p0 s0 r p U PW PS hq (fun c => ?_) ?_ hp0 hs0
    · rw [← hu]; pointwise
    · exact run_at (by omega) (runs2 (runs1 v _ 0 (by omega) fun i c => by pointwise)) r U hU
  · refine group 1 (by omega) q _ _ p1 s1 r p U PW PS hq (fun c => ?_) ?_ hp1 hs1
    · rw [← hu]; pointwise
    · exact run_at (by omega) (runs4 (runs2 (runs1 v _ 1 (by omega) fun i c => by pointwise))) r U hU
  · refine group 2 (by omega) q _ _ p2 s2 r p U PW PS hq (fun c => ?_) ?_ hp2 hs2
    · rw [← hu]; pointwise
    · exact run_at (by omega) (runs8 (runs4 (runs2 (runs1 v _ 2 (by omega) fun i c => by pointwise)))) r U hU
  · refine group 3 (by omega) q _ _ p3 s3 r p U PW PS hq (fun c => ?_) ?_ hp3 hs3
    · rw [← hu]; pointwise
    · exact run_at (by omega) (runs16 (runs8 (runs4 (runs2 (runs1 v _ 3 (by omega) fun i c => by pointwise))))) r U hU

/-! ## The window -/

/-- The first half's positions within the batch. -/
theorem pos_at (i : grid0.Coords) (r : Fin 512) : k0_pay2 i (ix2 r 0) = BitVec.ofNat 32 (1024 * ((i 0 : ℕ) % 4) + r) := by
  pointwise [k0_pay2]
  have h : ∀ a : Fin 32, ∀ q : ℕ,
    IntOp.addi (Scalar.addi (Scalar.muli
      (Scalar.select (Scalar.andi (Scalar.xori
          (Scalar.cmpi .slt (Scalar.remsi (BitVec.ofNat 32 (a : ℕ)) (Scalar.select (Scalar.cmpi .eq 4#32 0#32) 1#32 4#32)) 0#32)
          (Scalar.cmpi .slt (Scalar.select (Scalar.cmpi .eq 4#32 0#32) 1#32 4#32) 0#32))
        (Scalar.cmpi .ne (Scalar.remsi (BitVec.ofNat 32 (a : ℕ)) (Scalar.select (Scalar.cmpi .eq 4#32 0#32) 1#32 4#32)) 0#32))
        (Scalar.addi (Scalar.remsi (BitVec.ofNat 32 (a : ℕ)) (Scalar.select (Scalar.cmpi .eq 4#32 0#32) 1#32 4#32))
          (Scalar.select (Scalar.cmpi .eq 4#32 0#32) 1#32 4#32))
        (Scalar.remsi (BitVec.ofNat 32 (a : ℕ)) (Scalar.select (Scalar.cmpi .eq 4#32 0#32) 1#32 4#32))) 1024#32) 0#32) (BitVec.ofNat 32 q)
      = BitVec.ofNat 32 (1024 * (a % 4) + q) := by
    intro a q
    rw [show BitVec.ofNat 32 (1024 * ((a : ℕ) % 4) + q) = BitVec.ofNat 32 (1024 * ((a : ℕ) % 4)) + BitVec.ofNat 32 q from BitVec.ofNat_add ..]
    refine congrArg (· + BitVec.ofNat 32 q) ?_
    revert a
    decide +kernel
  exact h (i 0) r

/-- The second half's positions within the batch. -/
theorem pos_at' (i : grid0.Coords) (r : Fin 512) :
    k0_pay14 (BitVec.ofNat 32 (i 0).val) (ix2 r 0) = BitVec.ofNat 32 (1024 * ((i 0 : ℕ) % 4) + (512 + r)) := by
  pointwise [k0_pay14]
  have h : ∀ a : Fin 32, ∀ q : ℕ,
    IntOp.addi (Scalar.addi (Scalar.muli
      (Scalar.select (Scalar.andi (Scalar.xori
          (Scalar.cmpi .slt (Scalar.remsi (BitVec.ofNat 32 (a : ℕ)) (Scalar.select (Scalar.cmpi .eq 4#32 0#32) 1#32 4#32)) 0#32)
          (Scalar.cmpi .slt (Scalar.select (Scalar.cmpi .eq 4#32 0#32) 1#32 4#32) 0#32))
        (Scalar.cmpi .ne (Scalar.remsi (BitVec.ofNat 32 (a : ℕ)) (Scalar.select (Scalar.cmpi .eq 4#32 0#32) 1#32 4#32)) 0#32))
        (Scalar.addi (Scalar.remsi (BitVec.ofNat 32 (a : ℕ)) (Scalar.select (Scalar.cmpi .eq 4#32 0#32) 1#32 4#32))
          (Scalar.select (Scalar.cmpi .eq 4#32 0#32) 1#32 4#32))
        (Scalar.remsi (BitVec.ofNat 32 (a : ℕ)) (Scalar.select (Scalar.cmpi .eq 4#32 0#32) 1#32 4#32))) 1024#32) 512#32) (BitVec.ofNat 32 q)
      = BitVec.ofNat 32 (1024 * (a % 4) + (512 + q)) := by
    intro a q
    rw [← Nat.add_assoc, show BitVec.ofNat 32 (1024 * ((a : ℕ) % 4) + 512 + q) = BitVec.ofNat 32 (1024 * ((a : ℕ) % 4) + 512) + BitVec.ofNat 32 q from BitVec.ofNat_add ..]
    refine congrArg (· + BitVec.ofNat 32 q) ?_
    revert a
    decide +kernel
  exact h (i 0) r

/-- The values that end at a row of the window: in the window, before it, or none before the batch. -/
def hist (i : grid0.Coords) (x2 : Vec Ideal S1024x512 .f32) (x3 : Vec Ideal S16x512 .f32) (r : Fin 1024) (d : ℕ) (n : Fin 512) : EReal :=
  if d ≤ (r : ℕ) then x2 (ix2 ⟨(r : ℕ) - d, by omega⟩ n) else if (i 0 : ℕ) % 4 = 0 then 0 else x3 (ix2 ⟨(16 + r - d) % 16, Nat.mod_lt _ (by omega)⟩ n)

/-- Whether the window opens a batch, as the word arithmetic finds it. -/
theorem opens_at (a : Fin 32) : (Scalar.cmpi .eq
      (Scalar.select (Scalar.andi (Scalar.xori
          (Scalar.cmpi .slt (Scalar.remsi (BitVec.ofNat 32 (a : ℕ)) (Scalar.select (Scalar.cmpi .eq 4#32 0#32) 1#32 4#32)) 0#32)
          (Scalar.cmpi .slt (Scalar.select (Scalar.cmpi .eq 4#32 0#32) 1#32 4#32) 0#32))
        (Scalar.cmpi .ne (Scalar.remsi (BitVec.ofNat 32 (a : ℕ)) (Scalar.select (Scalar.cmpi .eq 4#32 0#32) 1#32 4#32)) 0#32))
        (Scalar.addi (Scalar.remsi (BitVec.ofNat 32 (a : ℕ)) (Scalar.select (Scalar.cmpi .eq 4#32 0#32) 1#32 4#32))
          (Scalar.select (Scalar.cmpi .eq 4#32 0#32) 1#32 4#32))
        (Scalar.remsi (BitVec.ofNat 32 (a : ℕ)) (Scalar.select (Scalar.cmpi .eq 4#32 0#32) 1#32 4#32))) 0#32)
    = BitVec.ofBool (decide ((a : ℕ) % 4 = 0)) := by
  revert a
  decide +kernel

/-- A selection by a decided bit is the case distinction. -/
theorem sel_at {α : Type} (p : Prop) [Decidable p] (a b : α) : Scalar.select (BitVec.ofBool (decide p)) a b = if p then a else b := by
  by_cases h : p <;> simp [Scalar.select, h]

/-- The first half's history. -/
theorem first_at (i : grid0.Coords) (x2 : Vec Ideal S1024x512 .f32) (x3 : Vec Ideal S16x512 .f32) (r : Fin 512) (d : ℕ) (hd : d < 16) (n : Fin 512) :
    k0_pay4 i (View.ld x2 r0_0) (View.ld x3 r0_1) (ix2 ⟨16 + r - d, by omega⟩ n) = hist i x2 x3 ⟨r, by omega⟩ d n := by
  pointwise [k0_pay4, k0_pay3]
  refine Eq.trans (dite_congr rfl (fun _ => (congrArg (fun b => Scalar.select b 0 _) (opens_at (i 0))).trans (sel_at _ _ _)) fun _ => rfl) ?_
  unfold hist
  by_cases h : d ≤ (r : ℕ)
  · rw [if_pos h]
    refine (dif_neg (by omega)).trans (congrArg (fun a => x2 (ix2 a n)) (Fin.ext ?_))
    dsimp only
    omega
  · rw [if_neg h]
    refine (dif_pos (by omega)).trans (if_congr Iff.rfl rfl (congrArg (fun a => x3 (ix2 a n)) (Fin.ext ?_)))
    dsimp only
    omega

/-- The second half's history. -/
theorem second_at (i : grid0.Coords) (x2 : Vec Ideal S1024x512 .f32) (x3 : Vec Ideal S16x512 .f32) (r : Fin 512) (d : ℕ) (hd : d < 16) (n : Fin 512) :
    k0_pay16 (View.ld x2 r0_11) (View.ld x2 r0_12) (ix2 ⟨16 + r - d, by omega⟩ n) = hist i x2 x3 ⟨512 + r, by omega⟩ d n := by
  pointwise [k0_pay16, k0_pay15]
  have hd' : d ≤ 512 + (r : ℕ) := by omega
  refine Eq.trans ?_ (if_pos hd').symm
  split
  · exact congrArg (fun a => x2 (ix2 a n)) (Fin.ext (by dsimp only; omega))
  · exact congrArg (fun a => x2 (ix2 a n)) (Fin.ext (by dsimp only; omega))

/-- The layer norm of one half. -/
def half (A : FVec Ideal S512x1024 .f32) (x : Vec Ideal S512x1024 .f32) (g b : Vec Ideal S1x1024 .f32) : FVec Ideal S512x1024 .f32 :=
  k0_pay30 (k0_pay26 A x) (k0_pay27 g) (k0_pay28 b) (k0_pay29 A x)

/-- The window is its two halves. -/
theorem out_eq (i : grid0.Coords) (x0 : Vec Ideal S1024x1024 .f32) (x1 : Vec Ideal S1024x512 .bf16) (x2 : Vec Ideal S1024x512 .f32) (x3 : Vec Ideal S16x512 .f32)
    (x4 : Vec Ideal S4x128x128 .bf16) (x5 : Vec Ideal S1x512 .f32) (x6 : Vec Ideal S1024x1024 .bf16) (x7 x8 : Vec Ideal S1x1024 .f32) :
    out0_9 i x0 x1 x2 x3 x4 x5 x6 x7 x8 = View.canon [
      ⟨r0_13, half (acc (k0_pay14 (BitVec.ofNat 32 (i 0).val)) (k0_pay15 (View.ld x2 r0_11)) (k0_pay16 (View.ld x2 r0_11) (View.ld x2 r0_12)) (View.ld x1 r0_11) (View.ld x6 r0_2) (View.ld x6 r0_13)
          (View.ld x4 r0_3) (View.ld x4 r0_5) (View.ld x4 r0_7) (View.ld x4 r0_9) (View.ld x5 r0_4) (View.ld x5 r0_6) (View.ld x5 r0_8) (View.ld x5 r0_10))
        (View.ld x0 r0_13) (View.ld x7 r0_14) (View.ld x8 r0_14)⟩,
      ⟨r0_2, half (acc (k0_pay2 i) (k0_pay3 (View.ld x2 r0_0)) (k0_pay4 i (View.ld x2 r0_0) (View.ld x3 r0_1)) (View.ld x1 r0_0) (View.ld x6 r0_2) (View.ld x6 r0_13)
          (View.ld x4 r0_3) (View.ld x4 r0_5) (View.ld x4 r0_7) (View.ld x4 r0_9) (View.ld x5 r0_4) (View.ld x5 r0_6) (View.ld x5 r0_8) (View.ld x5 r0_10))
        (View.ld x0 r0_2) (View.ld x7 r0_14) (View.ld x8 r0_14)⟩] := rfl

/-- The second half at one row and one lane. -/
theorem second_half (i : grid0.Coords) (x0 : Vec Ideal S1024x1024 .f32) (x1 : Vec Ideal S1024x512 .bf16) (x2 : Vec Ideal S1024x512 .f32) (x3 : Vec Ideal S16x512 .f32)
    (x4 : Vec Ideal S4x128x128 .bf16) (x5 : Vec Ideal S1x512 .f32) (x6 : Vec Ideal S1024x1024 .bf16) (x7 x8 : Vec Ideal S1x1024 .f32) (r : Fin 512) (n : Fin 1024) :
    half (acc (k0_pay14 (BitVec.ofNat 32 (i 0).val)) (k0_pay15 (View.ld x2 r0_11)) (k0_pay16 (View.ld x2 r0_11) (View.ld x2 r0_12)) (View.ld x1 r0_11) (View.ld x6 r0_2) (View.ld x6 r0_13)
          (View.ld x4 r0_3) (View.ld x4 r0_5) (View.ld x4 r0_7) (View.ld x4 r0_9) (View.ld x5 r0_4) (View.ld x5 r0_6) (View.ld x5 r0_8) (View.ld x5 r0_10))
        (View.ld x0 r0_13) (View.ld x7 r0_14) (View.ld x8 r0_14) (ix2 r n)
      = poolRow (fun k => x0 (ix2 ⟨512 + r, by omega⟩ k)) (fun k => x1 (ix2 ⟨512 + r, by omega⟩ k)) (poolVec (hist i x2 x3 ⟨512 + r, by omega⟩) (1024 * ((i 0 : ℕ) % 4) + (⟨512 + r, by omega⟩ : Fin 1024))) (fun g k c => x4 (ix3 g k c))
          (fun k => x5 (ix2 0 k)) (fun k j => x6 (ix2 k j)) (x7 (ix2 0 n)) (x8 (ix2 0 n)) n := by
  unfold half poolRow
  refine (norm_at _ _ _ _ r n).trans (rowNorm_congr (fun j => congrArg₂ (· + ·) ?_ ?_) ?_ ?_ n)
  · pointwise
  · refine (acc_at _ _ _ _ _ _ _ _ _ _ _ _ _ _ r (1024 * ((i 0 : ℕ) % 4) + (512 + r)) (hist i x2 x3 ⟨512 + r, by omega⟩) (fun g k c => x4 (ix3 g k c))
        (fun k => x5 (ix2 0 k)) (pos_at' i r) (fun k => ?_) (fun d hd k => second_at i x2 x3 r d hd k) (fun k c => by pointwise) (fun k c => by pointwise) (fun k c => by pointwise) (fun k c => by pointwise)
        (fun c => by pointwise) (fun c => by pointwise) (fun c => by pointwise) (fun c => by pointwise) j).trans ?_
    · unfold hist
      refine Eq.trans ?_ (if_pos (Nat.zero_le _)).symm
      pointwise [k0_pay15]
    · unfold rowDot
      refine congrArg₂ (· + ·) (Finset.sum_congr rfl fun k _ => congrArg₂ (· * ·) ?_ ?_) (Finset.sum_congr rfl fun k _ => congrArg₂ (· * ·) rfl ?_)
      · pointwise
      · pointwise
      · pointwise
  · pointwise
  · pointwise

/-- The first half at one row and one lane. -/
theorem first_half (i : grid0.Coords) (x0 : Vec Ideal S1024x1024 .f32) (x1 : Vec Ideal S1024x512 .bf16) (x2 : Vec Ideal S1024x512 .f32) (x3 : Vec Ideal S16x512 .f32)
    (x4 : Vec Ideal S4x128x128 .bf16) (x5 : Vec Ideal S1x512 .f32) (x6 : Vec Ideal S1024x1024 .bf16) (x7 x8 : Vec Ideal S1x1024 .f32) (r : Fin 512) (n : Fin 1024) :
    half (acc (k0_pay2 i) (k0_pay3 (View.ld x2 r0_0)) (k0_pay4 i (View.ld x2 r0_0) (View.ld x3 r0_1)) (View.ld x1 r0_0) (View.ld x6 r0_2) (View.ld x6 r0_13)
          (View.ld x4 r0_3) (View.ld x4 r0_5) (View.ld x4 r0_7) (View.ld x4 r0_9) (View.ld x5 r0_4) (View.ld x5 r0_6) (View.ld x5 r0_8) (View.ld x5 r0_10))
        (View.ld x0 r0_2) (View.ld x7 r0_14) (View.ld x8 r0_14) (ix2 r n)
      = poolRow (fun k => x0 (ix2 ⟨r, by omega⟩ k)) (fun k => x1 (ix2 ⟨r, by omega⟩ k)) (poolVec (hist i x2 x3 ⟨r, by omega⟩) (1024 * ((i 0 : ℕ) % 4) + (⟨r, by omega⟩ : Fin 1024))) (fun g k c => x4 (ix3 g k c))
          (fun k => x5 (ix2 0 k)) (fun k j => x6 (ix2 k j)) (x7 (ix2 0 n)) (x8 (ix2 0 n)) n := by
  unfold half poolRow
  refine (norm_at _ _ _ _ r n).trans (rowNorm_congr (fun j => congrArg₂ (· + ·) ?_ ?_) ?_ ?_ n)
  · pointwise
  · refine (acc_at _ _ _ _ _ _ _ _ _ _ _ _ _ _ r (1024 * ((i 0 : ℕ) % 4) + r) (hist i x2 x3 ⟨r, by omega⟩) (fun g k c => x4 (ix3 g k c))
        (fun k => x5 (ix2 0 k)) (pos_at i r) (fun k => ?_) (fun d hd k => first_at i x2 x3 r d hd k) (fun k c => by pointwise) (fun k c => by pointwise) (fun k c => by pointwise) (fun k c => by pointwise)
        (fun c => by pointwise) (fun c => by pointwise) (fun c => by pointwise) (fun c => by pointwise) j).trans ?_
    · unfold hist
      refine Eq.trans ?_ (if_pos (Nat.zero_le _)).symm
      pointwise [k0_pay3]
    · unfold rowDot
      refine congrArg₂ (· + ·) (Finset.sum_congr rfl fun k _ => congrArg₂ (· * ·) ?_ ?_) (Finset.sum_congr rfl fun k _ => congrArg₂ (· * ·) rfl ?_)
      · pointwise
      · pointwise
      · pointwise
  · pointwise
  · pointwise

/-- The output window at one row and one lane. -/
theorem out_at (i : grid0.Coords) (x0 : Vec Ideal S1024x1024 .f32) (x1 : Vec Ideal S1024x512 .bf16) (x2 : Vec Ideal S1024x512 .f32) (x3 : Vec Ideal S16x512 .f32)
    (x4 : Vec Ideal S4x128x128 .bf16) (x5 : Vec Ideal S1x512 .f32) (x6 : Vec Ideal S1024x1024 .bf16) (x7 x8 : Vec Ideal S1x1024 .f32) (r n : Fin 1024) :
    out0_9 i x0 x1 x2 x3 x4 x5 x6 x7 x8 (ix2 r n)
      = poolRow (fun k => x0 (ix2 r k)) (fun k => x1 (ix2 r k)) (poolVec (hist i x2 x3 r) (1024 * ((i 0 : ℕ) % 4) + r)) (fun g k c => x4 (ix3 g k c))
          (fun k => x5 (ix2 0 k)) (fun k j => x6 (ix2 k j)) (x7 (ix2 0 n)) (x8 (ix2 0 n)) n := by
  rw [out_eq]
  canon_tiles z h
  · idx_vars z
    have hz : 512 + (z0 : ℕ) < 1024 := Nat.add_lt_add_left z0_lt 512
    obtain rfl : r = ⟨512 + z0, hz⟩ := Fin.ext h0
    obtain rfl : n = z1 := Fin.ext h1
    exact second_half i x0 x1 x2 x3 x4 x5 x6 x7 x8 z0 n
  · idx_vars z
    have hz : (z0 : ℕ) < 1024 := z0_lt.trans (by norm_num)
    obtain rfl : r = ⟨z0, hz⟩ := Fin.ext (by omega)
    obtain rfl : n = z1 := Fin.ext (by omega)
    exact first_half i x0 x1 x2 x3 x4 x5 x6 x7 x8 z0 n

end Cert.Kernel5Ideal.Pool
-- ==== Proof.PoolValue.lean ====
module

public import proofs.«01_k».proof.Proof.PoolBody
public import proofs.«01_k».proof.Proof.Gen.Kernel5Ideal.Value
public import Idealize.ShloMosaic.Lib.Pipeline.ValueKit

/-! The array the pooling mixer's call writes, as the row function at every row and lane. -/

@[expose] public section

set_option maxRecDepth 16384

noncomputable section

namespace Cert.Kernel5Ideal.Pool

open Idealize.ShloMosaic Idealize.ShloMosaic.TcCoe Idealize.SL.Sem
open Cert.Kernel5Ideal Cert.Kernel5Ideal.Gen Trunk

variable (m : (ℓ : Loc nD τ sig) → Buf (Elt Ideal) ℓ)

/-- Each window's block index at each grid point. -/
theorem idx : ∀ t : Fin cfg0.N, win0_0.index t = ![t.val, 0] ∧ win0_1.index t = ![t.val, 0] ∧ win0_2.index t = ![t.val, 0]
    ∧ win0_3.index t = ![64 * t.val - 1, 0] ∧ win0_4.index t = ![0, 0, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, _)

/-- The grid coordinate of a point is its number. -/
theorem coord : ∀ t : Fin cfg0.N, ((grid0.coords t) 0).val = t.val :=
  (by decide +kernel : ∀ t : Fin grid0.N, _)

/-- The residual by batch, position and lane. -/
abbrev X3 (c : Dev nD) (b : Fin 8) (s : Fin 4096) (k : Fin 1024) : EReal := m ((c : Thread nD τ).loc main_arg0) (ix3 b s k)
/-- The other mixer's values by batch, position and lane. -/
abbrev A3 (c : Dev nD) (b : Fin 8) (s : Fin 4096) (k : Fin 512) : EReal := m ((c : Thread nD τ).loc main_arg1) (ix3 b s k)
/-- The pooled values by batch, position and lane. -/
abbrev U3 (c : Dev nD) (b : Fin 8) (s : Fin 4096) (k : Fin 512) : EReal := m ((c : Thread nD τ).loc main_arg2) (ix3 b s k)

/-- The flattened residual. -/
theorem flat0 (c : Dev nD) (R : Fin 32768) (k : Fin 1024) : V m c main_v0 (ix2 R k) = X3 m c (bat R) (pos R) k := by
  entry_read
  pointwise [bat, pos]

/-- The other mixer's flattened values. -/
theorem flat1 (c : Dev nD) (R : Fin 32768) (k : Fin 512) : V m c main_v1 (ix2 R k) = A3 m c (bat R) (pos R) k := by
  entry_read
  pointwise [bat, pos]

/-- The flattened pooled values. -/
theorem flat2 (c : Dev nD) (R : Fin 32768) (k : Fin 512) : V m c main_v2 (ix2 R k) = U3 m c (bat R) (pos R) k := by
  entry_read
  pointwise [bat, pos]

/-- A block of the flattened residual holds its rows. -/
theorem blk0 (c : Dev nD) (t : Fin cfg0.N) (r k : Fin 1024) (R : Fin 32768) (hR : (R : ℕ) = 1024 * t + r) :
    iblk m c 0 t (ix2 r k) = X3 m c (bat R) (pos R) k := by
  refine Eq.trans ?_ (flat0 m c R k)
  blk_ext [iblk, idx t]

/-- A block of the other mixer's values holds its rows. -/
theorem blk1 (c : Dev nD) (t : Fin cfg0.N) (r : Fin 1024) (k : Fin 512) (R : Fin 32768) (hR : (R : ℕ) = 1024 * t + r) :
    iblk m c 1 t (ix2 r k) = A3 m c (bat R) (pos R) k := by
  refine Eq.trans ?_ (flat1 m c R k)
  blk_ext [iblk, idx t]

/-- A block of the pooled values holds its rows. -/
theorem blk2 (c : Dev nD) (t : Fin cfg0.N) (r : Fin 1024) (k : Fin 512) (R : Fin 32768) (hR : (R : ℕ) = 1024 * t + r) :
    iblk m c 2 t (ix2 r k) = U3 m c (bat R) (pos R) k := by
  refine Eq.trans ?_ (flat2 m c R k)
  blk_ext [iblk, idx t]

/-- The sixteen rows before a block. -/
theorem blk3 (c : Dev nD) (t : Fin cfg0.N) (ht : t.val % 4 ≠ 0) (r : Fin 16) (k : Fin 512) (R : Fin 32768) (hR : (R : ℕ) + 16 = 1024 * t + r) :
    iblk m c 3 t (ix2 r k) = U3 m c (bat R) (pos R) k := by
  refine Eq.trans ?_ (flat2 m c R k)
  blk_ext [iblk, idx t]

theorem blk4 (c : Dev nD) (t : Fin cfg0.N) (g : Fin 4) (k j : Fin 128) :
    iblk m c 4 t (ix3 g k j) = m ((c : Thread nD τ).loc main_arg3) (ix3 g k j) := by
  blk_point [iblk, V, idx t]

theorem blk5 (c : Dev nD) (t : Fin cfg0.N) (k : Fin 512) :
    iblk m c 5 t (ix2 0 k) = m ((c : Thread nD τ).loc main_arg4) (ix1 k) := by
  blk_point [iblk, V, idx t]

theorem blk6 (c : Dev nD) (t : Fin cfg0.N) (k j : Fin 1024) :
    iblk m c 6 t (ix2 k j) = m ((c : Thread nD τ).loc main_arg5) (ix2 k j) := by
  blk_point [iblk, V, idx t]

theorem blk7 (c : Dev nD) (t : Fin cfg0.N) (k : Fin 1024) :
    iblk m c 7 t (ix2 0 k) = m ((c : Thread nD τ).loc main_arg6) (ix1 k) := by
  blk_point [iblk, V, idx t]

theorem blk8 (c : Dev nD) (t : Fin cfg0.N) (k : Fin 1024) :
    iblk m c 8 t (ix2 0 k) = m ((c : Thread nD τ).loc main_arg7) (ix1 k) := by
  blk_point [iblk, V, idx t]

/-- The values that end at a row of a block are those that end at the position. -/
theorem hist_at (c : Dev nD) (t : Fin cfg0.N) (r : Fin 1024) (d : ℕ) (hd : d < 16) (n : Fin 512) (R : Fin 32768) (hR : (R : ℕ) = 1024 * t + r) :
    hist (grid0.coords t) (iblk m c 2 t) (iblk m c 3 t) r d n = back (U3 m c (bat R)) (pos R) d n := by
  have ht : t.val < 32 := t.isLt
  have hr := r.isLt
  have hp : (pos R : ℕ) = 1024 * (t.val % 4) + r := by
    show (R : ℕ) % 4096 = _
    omega
  unfold hist back
  by_cases h : d ≤ (r : ℕ)
  · rw [if_pos h, if_pos (by omega)]
    refine (blk2 m c t _ n ⟨(R : ℕ) - d, by omega⟩ (by show (R : ℕ) - d = 1024 * t + ((r : ℕ) - d); omega)).trans ?_
    refine congrArg₂ (fun b s => U3 m c b s n) (Fin.ext ?_) (Fin.ext ?_)
    · show ((R : ℕ) - d) / 4096 = (R : ℕ) / 4096
      omega
    · show ((R : ℕ) - d) % 4096 = (pos R : ℕ) - d
      omega
  · rw [if_neg h, coord]
    by_cases h0 : t.val % 4 = 0
    · rw [if_pos h0, if_neg (by omega)]
    · rw [if_neg h0, if_pos (by omega)]
      refine (blk3 m c t h0 _ n ⟨(R : ℕ) - d, by omega⟩ (by show (R : ℕ) - d + 16 = 1024 * t + (16 + (r : ℕ) - d) % 16; omega)).trans ?_
      refine congrArg₂ (fun b s => U3 m c b s n) (Fin.ext ?_) (Fin.ext ?_)
      · show ((R : ℕ) - d) / 4096 = (R : ℕ) / 4096
        omega
      · show ((R : ℕ) - d) % 4096 = (pos R : ℕ) - d
        omega

/-- The array the call writes. -/
def G (c : Dev nD) : FVec Ideal S32768x1024 .f32 := fun y =>
  poolOut (X3 m c) (A3 m c) (U3 m c) (fun g k j => m ((c : Thread nD τ).loc main_arg3) (ix3 g k j)) (fun k => m ((c : Thread nD τ).loc main_arg4) (ix1 k))
    (fun k j => m ((c : Thread nD τ).loc main_arg5) (ix2 k j)) (fun k => m ((c : Thread nD τ).loc main_arg6) (ix1 k))
    (fun k => m ((c : Thread nD τ).loc main_arg7) (ix1 k)) (bat (y 0)) (pos (y 0)) (y 1)

/-- What one grid point writes, at one row and one lane of its block. -/
theorem point (c : Dev nD) (t : Fin cfg0.N) (r n : Fin 1024) (R : Fin 32768) (hR : (R : ℕ) = 1024 * t + r) :
    out0_9 (F := Ideal) (grid0.coords t) (iblk m c 0 t) (iblk m c 1 t) (iblk m c 2 t) (iblk m c 3 t) (iblk m c 4 t) (iblk m c 5 t) (iblk m c 6 t)
      (iblk m c 7 t) (iblk m c 8 t) (ix2 r n) = G m c (ix2 R n) := by
  refine (out_at _ _ _ _ _ _ _ _ _ _ r n).trans ?_
  have ht : t.val < 32 := t.isLt
  have hr := r.isLt
  have hp : (pos R : ℕ) = 1024 * (t.val % 4) + r := by
    show (R : ℕ) % 4096 = _
    omega
  have h0 : (fun k => iblk m c 0 t (ix2 r k)) = X3 m c (bat R) (pos R) := funext fun k => blk0 m c t r k R hR
  have h1 : (fun k => iblk m c 1 t (ix2 r k)) = A3 m c (bat R) (pos R) := funext fun k => blk1 m c t r k R hR
  have h2 : poolVec (hist (grid0.coords t) (iblk m c 2 t) (iblk m c 3 t) r) (1024 * ((grid0.coords t 0 : ℕ) % 4) + r) = poolVec (back (U3 m c (bat R)) (pos R)) (pos R) := by
    funext k
    rw [coord, hp]
    exact poolVec_congr (fun d hd j => hist_at m c t r d hd j R hR) _ k
  have h4 : (fun g k j => iblk m c 4 t (ix3 g k j)) = fun g k j => m ((c : Thread nD τ).loc main_arg3) (ix3 g k j) :=
    funext fun g => funext fun k => funext fun j => blk4 m c t g k j
  have h5 : (fun k => iblk m c 5 t (ix2 0 k)) = fun k => m ((c : Thread nD τ).loc main_arg4) (ix1 k) := funext fun k => blk5 m c t k
  have h6 : (fun k j => iblk m c 6 t (ix2 k j)) = fun k j => m ((c : Thread nD τ).loc main_arg5) (ix2 k j) := funext fun k => funext fun j => blk6 m c t k j
  unfold G poolOut
  exact congrFun (congr (congr (congr (congr (congr (congr (congr (congrArg poolRow h0) h1) h2) h4) h5) h6) (blk7 m c t n)) (blk8 m c t n)) n

/-- The array after the call. -/
theorem final (c : Dev nD) : (dats m 0 c).arrAt 9 cfg0.N = G m c := by
  refine (dats m 0 c).arrAt_eq_of_covers 9 _ (by decide +kernel) fun t _ y => ?_
  blk_simp
  rw [after0_9]
  idx_vars y
  have ht : t.val < 32 := t.isLt
  refine (point m c t y0 y1 ⟨1024 * t.val + y0, by omega⟩ rfl).trans (congrArg (G m c) ?_)
  symm
  blk_ext [idx t]

end Cert.Kernel5Ideal.Pool
-- ==== Proof.PoolRef.lean ====
module

public import proofs.«01_k».proof.Proof.PoolRows
public import proofs.«01_k».proof.Proof.Gen.Reference5Ideal.Run
public import proofs.«01_k».proof.Proof.Gen.Reference5Ideal.Read

/-! The pooling mixer's reference at one row and one lane, from real pooled values. -/

@[expose] public section

set_option maxRecDepth 16384

noncomputable section

namespace Cert.Reference5Ideal.Pool

open Idealize.ShloMosaic Idealize.ShloMosaic.TcCoe Idealize.SL.Sem
open Cert.Reference5Ideal Cert.Reference5Ideal.Gen Cert.Reference5Ideal.Read Trunk

variable (x0 : FVec Ideal S8x4096x1024 .f32) (x1 : FVec Ideal S8x4096x512 .bf16) (x2 : FVec Ideal S8x4096x512 .f32) (x3 : FVec Ideal S4x128x128 .f32)
  (x4 : FVec Ideal S512 .f32) (x5 : FVec Ideal S1024x1024 .f32) (x6 x7 : FVec Ideal S1024 .f32)

/-- The values of one lane by position. -/
def col (b : Fin 8) (n : Fin 512) (i : ℕ) : EReal := if h : i < 4096 then x2 (ix3 b ⟨i, h⟩ n) else 0

/-- They are real where the array is. -/
theorem col_real (hx : ∀ b s n, IsReal (x2 (ix3 b s n))) (b : Fin 8) (n : Fin 512) (i : ℕ) : IsReal (col x2 b n i) := by
  unfold col
  split
  · exact hx _ _ _
  · exact ⟨0, rfl⟩

/-- A running sum of a group's lane. -/
theorem cs (v : FVec Ideal S8x4096x128 .f32) (init : FVec Ideal S_ .f32) (hi : ∀ y, init y = 0) (b : Fin 8) (j : Fin 4096) (c : Fin 128) (f : ℕ → EReal)
    (hf : ∀ i : Fin 4096, v (ix3 b i c) = f i) :
    Host.reduceWindowAdd ![1, 4096, 1] ![1, 1, 1] ![0, 4095, 0] ![0, 0, 0] v init reduceWindows_S8x4096x128_S8x4096x128_w1s1p0_0_w4096s1p4095_0_w1s1p0_0 h_S_ (ix3 b j c)
      = ∑ i ∈ Finset.range ((j : ℕ) + 1), f i := by
  have key := cumsum_at (A := 8) (N := 4096) (q := 4095) (C := 128) rfl v reduceWindows_S8x4096x128_S8x4096x128_w1s1p0_0_w4096s1p4095_0_w1s1p0_0 b j c f hf
  unfold Host.reduceWindowAdd
  rw [hi]
  exact key

/-- The difference of two running sums is the sum of the window's values. -/
theorem window_at (hx : ∀ b s n, IsReal (x2 (ix3 b s n))) (b : Fin 8) (s : Fin 4096) (n : Fin 512) (w : ℕ) :
    ((∑ i ∈ Finset.range ((s : ℕ) + 1), col x2 b n i) - (if h : w ≤ (s : ℕ) ∧ (s : ℕ) - w < 4096 then ∑ i ∈ Finset.range ((s : ℕ) - w + 1), col x2 b n i
        else (FloatOps.sitofp FTy.f32 (0#32 : BitVec 32) : Idealize.ShloMosaic.Ideal FTy.f32)))
      = ∑ d ∈ Finset.range w, back (fun s n => x2 (ix3 b s n)) s d n := by
  have h0 : (FloatOps.sitofp FTy.f32 (0#32 : BitVec 32) : Idealize.ShloMosaic.Ideal FTy.f32) = (0 : EReal) := by
    show ((((0#32 : BitVec 32).toInt : ℝ)) : EReal) = 0
    simp
  have hs := s.isLt
  refine Eq.trans (congrArg₂ (· - ·) rfl ?_) ((window_of_sums (col x2 b n) (col_real x2 hx b n) w s).trans (Finset.sum_congr rfl fun d _ => ?_))
  · by_cases h : w ≤ (s : ℕ)
    · exact (dif_pos ⟨h, by omega⟩).trans (if_pos h).symm
    · exact ((dif_neg (fun h' => h h'.1)).trans h0).trans (if_neg h).symm
  · refine if_congr Iff.rfl (dif_pos (by omega)) rfl

/-- A group's pooled value from its window sum. -/
theorem vec_at (U : Fin 4096 → Fin 512 → EReal) (s : Fin 4096) (g : ℕ) (hg : g < 4) (c : Fin 128) :
    Ideal.div (∑ d ∈ Finset.range (2 ^ (g + 1)), back U s d ⟨128 * g + c, by omega⟩)
        (FloatOps.sitofp (F := Idealize.ShloMosaic.Ideal) .f32 (IntOp.minsi (IntOp.addi (BitVec.ofNat 32 (s : ℕ)) 1#32) (BitVec.ofNat 32 (2 ^ (g + 1))))) - U s ⟨128 * g + c, by omega⟩
      = poolVec (back U s) s ⟨128 * g + c, by omega⟩ := by
  have e : (128 * g + (c : ℕ)) / 128 + 1 = g + 1 := by omega
  unfold poolVec poolLane cnt
  dsimp only
  rw [e]
  exact congrArg₂ (· - ·) rfl (if_pos (Nat.zero_le _)).symm

/-- Group 0's running sums. -/
theorem cs0 (b : Fin 8) (j : Fin 4096) (c : Fin 128) :
    val_main_v5 (F := Ideal) x2 (ix3 b j c) = ∑ i ∈ Finset.range ((j : ℕ) + 1), col x2 b ⟨128 * 0 + c, by omega⟩ i := by
  refine cs _ _ (fun y => ?_) b j c _ fun i => ?_
  · pointwise [val_main_call0_call0_v0, val_main_call0_call0_cst]
  · refine Eq.trans ?_ (dif_pos i.isLt).symm
    pointwise [val_main_v4, val_main_v3, val_main_v1]

/-- Group 0's pooled values. -/
theorem pooled0 (hx : ∀ b s n, IsReal (x2 (ix3 b s n))) (b : Fin 8) (s : Fin 4096) (c : Fin 128) :
    val_main_v18 (F := Ideal) x2 (ix3 b s c) = poolVec (back (fun s n => x2 (ix3 b s n)) s) s ⟨128 * 0 + c, by omega⟩ := by
  refine Eq.trans ?_ (vec_at _ s 0 (by omega) c)
  rw [← window_at x2 hx b s ⟨128 * 0 + c, by omega⟩]
  pointwise [val_main_v18, val_main_v17, val_main_v16, val_main_v15, val_main_v14, val_main_v13, val_main_v12, val_main_v11, val_main_v10, val_main_v9, val_main_v8, val_main_v7, val_main_v6,
    val_main_v4, val_main_v3, val_main_v2, val_main_v1, val_main_c, val_main_c_0, val_main_c_1, val_main_call1_v0, cs0]
  all_goals rfl

/-- Group 1's running sums. -/
theorem cs1 (b : Fin 8) (j : Fin 4096) (c : Fin 128) :
    val_main_v21 (F := Ideal) x2 (ix3 b j c) = ∑ i ∈ Finset.range ((j : ℕ) + 1), col x2 b ⟨128 * 1 + c, by omega⟩ i := by
  refine cs _ _ (fun y => ?_) b j c _ fun i => ?_
  · pointwise [val_main_call2_call0_v0, val_main_call2_call0_cst]
  · refine Eq.trans ?_ (dif_pos i.isLt).symm
    pointwise [val_main_v20, val_main_v19, val_main_v1]

/-- Group 1's pooled values. -/
theorem pooled1 (hx : ∀ b s n, IsReal (x2 (ix3 b s n))) (b : Fin 8) (s : Fin 4096) (c : Fin 128) :
    val_main_v34 (F := Ideal) x2 (ix3 b s c) = poolVec (back (fun s n => x2 (ix3 b s n)) s) s ⟨128 * 1 + c, by omega⟩ := by
  refine Eq.trans ?_ (vec_at _ s 1 (by omega) c)
  rw [← window_at x2 hx b s ⟨128 * 1 + c, by omega⟩]
  pointwise [val_main_v34, val_main_v33, val_main_v32, val_main_v31, val_main_v30, val_main_v29, val_main_v28, val_main_v27, val_main_v26, val_main_v25, val_main_v24, val_main_v23, val_main_v22,
    val_main_v20, val_main_v19, val_main_v2, val_main_v1, val_main_c_2, val_main_c_3, val_main_c_4, val_main_call3_v0, cs1]
  all_goals rfl

/-- Group 2's running sums. -/
theorem cs2 (b : Fin 8) (j : Fin 4096) (c : Fin 128) :
    val_main_v37 (F := Ideal) x2 (ix3 b j c) = ∑ i ∈ Finset.range ((j : ℕ) + 1), col x2 b ⟨128 * 2 + c, by omega⟩ i := by
  refine cs _ _ (fun y => ?_) b j c _ fun i => ?_
  · pointwise [val_main_call4_call0_v0, val_main_call4_call0_cst]
  · refine Eq.trans ?_ (dif_pos i.isLt).symm
    pointwise [val_main_v36, val_main_v35, val_main_v1]

/-- Group 2's pooled values. -/
theorem pooled2 (hx : ∀ b s n, IsReal (x2 (ix3 b s n))) (b : Fin 8) (s : Fin 4096) (c : Fin 128) :
    val_main_v50 (F := Ideal) x2 (ix3 b s c) = poolVec (back (fun s n => x2 (ix3 b s n)) s) s ⟨128 * 2 + c, by omega⟩ := by
  refine Eq.trans ?_ (vec_at _ s 2 (by omega) c)
  rw [← window_at x2 hx b s ⟨128 * 2 + c, by omega⟩]
  pointwise [val_main_v50, val_main_v49, val_main_v48, val_main_v47, val_main_v46, val_main_v45, val_main_v44, val_main_v43, val_main_v42, val_main_v41, val_main_v40, val_main_v39, val_main_v38,
    val_main_v36, val_main_v35, val_main_v2, val_main_v1, val_main_c_5, val_main_c_6, val_main_c_7, val_main_call5_v0, cs2]
  all_goals rfl

/-- Group 3's running sums. -/
theorem cs3 (b : Fin 8) (j : Fin 4096) (c : Fin 128) :
    val_main_v53 (F := Ideal) x2 (ix3 b j c) = ∑ i ∈ Finset.range ((j : ℕ) + 1), col x2 b ⟨128 * 3 + c, by omega⟩ i := by
  refine cs _ _ (fun y => ?_) b j c _ fun i => ?_
  · pointwise [val_main_call6_call0_v0, val_main_call6_call0_cst]
  · refine Eq.trans ?_ (dif_pos i.isLt).symm
    pointwise [val_main_v52, val_main_v51, val_main_v1]

/-- Group 3's pooled values. -/
theorem pooled3 (hx : ∀ b s n, IsReal (x2 (ix3 b s n))) (b : Fin 8) (s : Fin 4096) (c : Fin 128) :
    val_main_v66 (F := Ideal) x2 (ix3 b s c) = poolVec (back (fun s n => x2 (ix3 b s n)) s) s ⟨128 * 3 + c, by omega⟩ := by
  refine Eq.trans ?_ (vec_at _ s 3 (by omega) c)
  rw [← window_at x2 hx b s ⟨128 * 3 + c, by omega⟩]
  pointwise [val_main_v66, val_main_v65, val_main_v64, val_main_v63, val_main_v62, val_main_v61, val_main_v60, val_main_v59, val_main_v58, val_main_v57, val_main_v56, val_main_v55, val_main_v54,
    val_main_v52, val_main_v51, val_main_v2, val_main_v1, val_main_c_8, val_main_c_9, val_main_c_10, val_main_call7_v0, cs3]
  all_goals rfl

/-- The groups' pooled values, stacked. -/
theorem stack_at (hx : ∀ b s n, IsReal (x2 (ix3 b s n))) (b : Fin 8) (s : Fin 4096) (g : Fin 4) (c : Fin 128) :
    val_main_v71 (F := Ideal) x2 (ix4 b s g c) = poolVec (back (fun s n => x2 (ix3 b s n)) s) s ⟨128 * g + c, by omega⟩ := by
  have h0 := pooled0 x2 hx
  have h1 := pooled1 x2 hx
  have h2 := pooled2 x2 hx
  have h3 := pooled3 x2 hx
  pointwise [val_main_v71, val_main_v70, val_main_v69, val_main_v68, val_main_v67, h0, h1, h2, h3]
  split
  · exact congrArg _ (Fin.ext (by dsimp only; omega))
  split
  · exact congrArg _ (Fin.ext (by dsimp only; omega))
  split
  · exact congrArg _ (Fin.ext (by dsimp only; omega))
  · exact congrArg _ (Fin.ext (by dsimp only; omega))

/-- The mixed lanes. -/
theorem mixed_at (hx : ∀ b s n, IsReal (x2 (ix3 b s n))) (b : Fin 8) (s : Fin 4096) (n : Fin 512) :
    val_main_v77 (F := Ideal) x2 x3 x4 (ix3 b s n)
      = mixLane (poolVec (back (fun s n => x2 (ix3 b s n)) s) s) (fun g k j => x3 (ix3 g k j)) (fun n => x4 (ix1 n)) n := by
  have h0 := stack_at x2 hx
  pointwise [val_main_v77, val_main_v76, val_main_v75, val_main_v74, val_main_v73, val_main_v72, h0]
  unfold mixLane rowDot
  exact congrArg₂ (· * ·) (Finset.sum_congr rfl fun k _ => mul_comm _ _) rfl

/-- A dot product over both mixers' lanes is the sum of the two. -/
theorem rowDot_halves (f w : Fin 1024 → EReal) :
    rowDot f w = rowDot (fun k : Fin 512 => f ⟨k, by omega⟩) (fun k => w ⟨k, by omega⟩) + rowDot (fun k : Fin 512 => f ⟨512 + k, by omega⟩) (fun k => w ⟨512 + k, by omega⟩) :=
  Fin.sum_univ_add (a := 512) (b := 512) (fun k : Fin (512 + 512) => f k * w k)

/-- The residual and the projection before the norm. -/
theorem sum_at (hx : ∀ b s n, IsReal (x2 (ix3 b s n))) (b : Fin 8) (s : Fin 4096) (j : Fin 1024) :
    val_main_v82 (F := Ideal) x0 x1 x2 x3 x4 x5 (ix3 b s j)
      = alpha * x0 (ix3 b s j) + (rowDot (fun k => x1 (ix3 b s k)) (fun k : Fin 512 => x5 (ix2 ⟨k, by omega⟩ j))
          + rowDot (mixLane (poolVec (back (fun s n => x2 (ix3 b s n)) s) s) (fun g k j => x3 (ix3 g k j)) (fun n => x4 (ix1 n))) (fun k : Fin 512 => x5 (ix2 ⟨512 + k, by omega⟩ j))) := by
  have e : val_main_v82 (F := Ideal) x0 x1 x2 x3 x4 x5 (ix3 b s j)
      = alpha * x0 (ix3 b s j) + rowDot (fun k => val_main_v78 (F := Ideal) x1 x2 x3 x4 (ix3 b s k)) (fun k => x5 (ix2 k j)) := by
    pointwise [val_main_v82, val_main_v81, val_main_v80, val_main_v79, val_main_cst, rowDot]
  rw [e, rowDot_halves]
  refine congrArg₂ (· + ·) rfl (congrArg₂ (· + ·) (congrArg₂ rowDot (funext fun k => ?_) rfl) (congrArg₂ rowDot (funext fun k => ?_) rfl))
  · pointwise [val_main_v78, val_main_v0]
  · refine Eq.trans ?_ (mixed_at x2 x3 x4 hx b s k)
    pointwise [val_main_v78]

/-- The reference at one row and one lane. -/
theorem ref_at (hx : ∀ b s n, IsReal (x2 (ix3 b s n))) (R : Fin 32768) (n : Fin 1024) :
    val_main_v107 (F := Ideal) x0 x1 x2 x3 x4 x5 x6 x7 (ix2 R n)
      = poolOut (fun b s k => x0 (ix3 b s k)) (fun b s k => x1 (ix3 b s k)) (fun b s k => x2 (ix3 b s k)) (fun g k j => x3 (ix3 g k j)) (fun n => x4 (ix1 n))
          (fun k j => x5 (ix2 k j)) (fun n => x6 (ix1 n)) (fun n => x7 (ix1 n)) (bat R) (pos R) n := by
  have hy := sum_at x0 x1 x2 x3 x4 x5 hx
  unfold poolOut poolRow rowNorm rowMean bat pos
  pointwise [val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_cst_11, val_main_cst_12, val_main_cst_13, val_main_cst_14, val_main_cst_15, hy, lanes, eps]
  all_goals rfl

end Cert.Reference5Ideal.Pool
-- ==== Proof.PoolClaim.lean ====
module

public import proofs.«01_k».proof.Proof.MemClaim
public import proofs.«01_k».proof.Proof.PoolValue
public import proofs.«01_k».proof.Proof.PoolRef
public import proofs.«01_k».proof.Proof.Gen.Pre_finite_inputs
public import proofs.«01_k».proof.Defs
public import Idealize.ShloMosaic.Lib.Quiescent

/-! From finite pooled values the pooling mixer's call and its reference end with equal results. -/

@[expose] public section

noncomputable section

namespace Trunk

open Idealize.ShloMosaic Idealize.ShloMosaic.TcCoe Idealize.SL.Sem

/-- The reference of the pooling mixer runs, keeps its arguments and leaves every counter at zero. -/
theorem pool_ref_frame [Cert.Reference5Ideal.Facts] : Cert.quiescent_Reference5Ideal := fun m ρ _ =>
  (θ_run _ _ _).mono (fun r h => ⟨fun c => (h c).2, sem_eq_zero_of_no_sems rfl r.2⟩) (Cert.Reference5Ideal.Value.run m ρ)

/-- The precondition's array all ones: the pooled values are real. -/
theorem pool_real [Cert.Pre_finite_inputs.Facts] (x0 : FVec Ideal Cert.Pre_finite_inputs.S8x4096x1024 .f32) (x1 : FVec Ideal Cert.Pre_finite_inputs.S8x4096x512 .bf16)
    (x2 : FVec Ideal Cert.Pre_finite_inputs.S8x4096x512 .f32) (x3 : FVec Ideal Cert.Pre_finite_inputs.S4x128x128 .f32) (x4 : FVec Ideal Cert.Pre_finite_inputs.S512 .f32)
    (x5 : FVec Ideal Cert.Pre_finite_inputs.S1024x1024 .f32) (x6 x7 : FVec Ideal Cert.Pre_finite_inputs.S1024 .f32)
    (h : Cert.Pre_finite_inputs.fn (F := Ideal) x0 x1 x2 x3 x4 x5 x6 x7 = fun _ => 1#1) (b : Fin 8) (s : Fin 4096) (k : Fin 512) : IsReal (x2 (ix3 b s k)) := by
  have h' := congrFun h (ix3 b s k)
  pointwise [Cert.Pre_finite_inputs.fn, inf_eq] at h'
  exact isReal_of_bit h'

/-- From equal arguments, the pooled values finite, the pooling mixer's call and its reference end with equal results. -/
theorem pool_algebraic [Cert.Kernel5Ideal.Facts] [Cert.Reference5Ideal.Facts] [Cert.Pre_finite_inputs.Facts] :
    Cert.algebraic_Kernel5Ideal_Reference5Ideal_pre_finite_inputs :=
  fun m ρ m' ρ' hp hag => ⟨fun c => Cert.Kernel5Ideal.Pool.G m c,
    (θ_run _ _ _).mono (fun _ h c => ⟨(h c).1.trans (Cert.Kernel5Ideal.Pool.final m c), (h c).2⟩) (Cert.Kernel5Ideal.Value.run_blocks m ρ),
    (θ_run _ _ _).mono (fun _ h c => ⟨(h c).1.trans (by
      obtain ⟨e0, e1, e2, e3, e4, e5, e6, e7⟩ := hag c
      rw [Cert.Reference5Ideal.Read.val_main_v107_eq, e0, e1, e2, e3, e4, e5, e6, e7]
      funext y
      idx_vars y
      exact Cert.Reference5Ideal.Pool.ref_at _ _ _ _ _ _ _ _ (fun b s k => pool_real _ _ _ _ _ _ _ _ (hp c) b s k) y0 y1), (h c).2⟩) (Cert.Reference5Ideal.Value.run m' ρ')⟩

end Trunk
-- ==== Proof.MkvValue.lean ====
module

public import proofs.«01_k».proof.Proof.Gen.Kernel6Ideal.Value
public import proofs.«01_k».proof.Proof.Gen.Reference6Ideal.Read
public import proofs.«01_k».proof.Proof.Rows
public import proofs.«01_k».proof.Defs
public import Idealize.ShloMosaic.Lib.Pipeline.ValueKit
public import Idealize.ShloMosaic.Lib.Quiescent

/-! The memory's projection: the array the call writes, and its reference, as row products. -/

@[expose] public section

set_option maxRecDepth 16384

noncomputable section

namespace Trunk

/-- The batch of a row of the flattened memory. -/
def mbat (R : Fin 2048) : Fin 8 := ⟨R / 256, by omega⟩

/-- The row within its batch of a row of the flattened memory. -/
def mrow (R : Fin 2048) : Fin 256 := ⟨R % 256, by omega⟩

end Trunk

namespace Cert.Kernel6Ideal.Mkv

open Idealize.ShloMosaic Idealize.ShloMosaic.TcCoe Idealize.SL.Sem
open Cert.Kernel6Ideal Cert.Kernel6Ideal.Gen Trunk

variable (m : (ℓ : Loc nD τ sig) → Buf (Elt Ideal) ℓ)

/-- Each window's block index at each grid point. -/
theorem idx : ∀ t : Fin cfg0.N, win0_0.index t = ![t.val, 0] ∧ win0_1.index t = ![0, 0] ∧ win0_2.index t = ![t.val, 0] :=
  (by decide +kernel : ∀ t : Fin grid0.N, _)

/-- One element of the memory's projection. -/
def G (c : Dev nD) : FVec Ideal S2048x2048 .bf16 := fun y =>
  rowDot (fun k : Fin 1024 => m ((c : Thread nD τ).loc main_arg0) (ix3 (mbat (y 0)) (mrow (y 0)) k))
    (fun k => m ((c : Thread nD τ).loc main_arg1) (ix2 k (y 1)))

/-- The flattened memory the call is given. -/
theorem flat_at (c : Dev nD) (R : Fin 2048) (k : Fin 1024) :
    V m c main_v0 (ix2 R k) = m ((c : Thread nD τ).loc main_arg0) (ix3 (mbat R) (mrow R) k) := by
  entry_read
  pointwise [mbat, mrow]

/-- A block of the flattened memory holds the memory's rows. -/
theorem blk0 (c : Dev nD) (t : Fin cfg0.N) (r : Fin 512) (k : Fin 1024) (R : Fin 2048) (hR : (R : ℕ) = 512 * t + r) :
    iblk m c 0 t (ix2 r k) = m ((c : Thread nD τ).loc main_arg0) (ix3 (mbat R) (mrow R) k) := by
  refine Eq.trans ?_ (flat_at m c R k)
  blk_ext [iblk, idx t]

/-- The weights' block is the weights. -/
theorem blk1 (c : Dev nD) (t : Fin cfg0.N) (k : Fin 1024) (j : Fin 2048) :
    iblk m c 1 t (ix2 k j) = m ((c : Thread nD τ).loc main_arg1) (ix2 k j) := by
  blk_point [iblk, V, idx t]

/-- The body's product at one row and one lane. -/
theorem pay_at (v0 : Vec Ideal S512x1024 .f32) (v3 : Vec Ideal S1024x2048 .bf16) (r : Fin 512) (n : Fin 2048) :
    k0_pay1 v0 v3 (ix2 r n) = rowDot (fun k : Fin 1024 => v0 (ix2 r k)) (fun k => v3 (ix2 k n)) := by
  pointwise [k0_pay1, rowDot]

/-- The output window at one row and one lane. -/
theorem out_at (x0 : Vec Ideal S512x1024 .f32) (x1 : Vec Ideal S1024x2048 .bf16) (r : Fin 512) (n : Fin 2048) :
    out0_2 x0 x1 (ix2 r n) = rowDot (fun k : Fin 1024 => x0 (ix2 r k)) (fun k => x1 (ix2 k n)) := by
  have h0 : out0_2 x0 x1 = k0_pay1 x0 x1 := by
    unfold out0_2
    rw [View.canon_cons_unit_lit _ _ _ (by decide), View.ld_unit_lit _ _ (by decide), View.ld_unit_lit _ _ (by decide)]
  rw [h0]
  exact pay_at x0 x1 r n

/-- What one grid point writes, at one row and one lane of its block. -/
theorem point (c : Dev nD) (t : Fin cfg0.N) (r : Fin 512) (n : Fin 2048) (R : Fin 2048) (hR : (R : ℕ) = 512 * t + r) :
    out0_2 (iblk m c 0 t) (iblk m c 1 t) (ix2 r n) = G m c (ix2 R n) := by
  refine (out_at (iblk m c 0 t) (iblk m c 1 t) r n).trans ?_
  unfold G
  exact congrArg₂ rowDot (funext fun k => blk0 m c t r k R hR) (funext fun k => blk1 m c t k n)

/-- The array after the call. -/
theorem final (c : Dev nD) : (dats m 0 c).arrAt 2 cfg0.N = G m c := by
  refine (dats m 0 c).arrAt_eq_of_covers 2 _ (by decide +kernel) fun t _ y => ?_
  blk_simp
  rw [after0_2]
  idx_vars y
  have ht : t.val < 4 := t.isLt
  refine (point m c t y0 y1 ⟨512 * t.val + y0, by omega⟩ rfl).trans (congrArg (G m c) ?_)
  symm
  blk_ext [idx t]

end Cert.Kernel6Ideal.Mkv

namespace Trunk

open Idealize.ShloMosaic Idealize.ShloMosaic.TcCoe Idealize.SL.Sem

/-- The reference of the memory's projection at one row and one lane. -/
theorem mkv_ref_at (x0 : FVec Ideal Cert.Reference6Ideal.S8x256x1024 .f32) (x1 : FVec Ideal Cert.Reference6Ideal.S1024x2048 .f32) (R n : Fin 2048) :
    Cert.Reference6Ideal.Read.val_main_v2 (F := Ideal) x0 x1 (ix2 R n)
      = rowDot (fun k : Fin 1024 => x0 (ix3 (mbat R) (mrow R) k)) (fun k => x1 (ix2 k n)) := by
  pointwise [Cert.Reference6Ideal.Read.val_main_v2, Cert.Reference6Ideal.Read.val_main_v1, Cert.Reference6Ideal.Read.val_main_v0, rowDot, mbat, mrow]

/-- The reference of the memory's projection runs, keeps its arguments and leaves every counter at zero. -/
theorem mkv_ref_frame [Cert.Reference6Ideal.Facts] : Cert.quiescent_Reference6Ideal := fun m ρ _ =>
  (θ_run _ _ _).mono (fun r h => ⟨fun c => (h c).2, sem_eq_zero_of_no_sems rfl r.2⟩) (Cert.Reference6Ideal.Value.run m ρ)

/-- From equal arguments the memory's projection and its reference end with equal results. -/
theorem mkv_algebraic [Cert.Kernel6Ideal.Facts] [Cert.Reference6Ideal.Facts] : Cert.algebraic_Kernel6Ideal_Reference6Ideal :=
  fun m ρ m' ρ' _ hag => ⟨fun c => Cert.Kernel6Ideal.Mkv.G m c,
    (θ_run _ _ _).mono (fun _ h c => ⟨(h c).1.trans (Cert.Kernel6Ideal.Mkv.final m c), (h c).2⟩) (Cert.Kernel6Ideal.Value.run_blocks m ρ),
    (θ_run _ _ _).mono (fun _ h c => ⟨(h c).1.trans (by
      obtain ⟨e0, e1⟩ := hag c
      rw [Cert.Reference6Ideal.Read.val_main_v2_eq, e0, e1]
      funext y
      idx_vars y
      exact mkv_ref_at _ _ y0 y1), (h c).2⟩) (Cert.Reference6Ideal.Value.run m' ρ')⟩

end Trunk
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Pre_finite
public import proofs.«01_k».proof.Proof.Gen.Pre_finite_inputs
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.CmpClaim
public import proofs.«01_k».proof.Proof.SguClaim
public import proofs.«01_k».proof.Proof.FfnClaim
public import proofs.«01_k».proof.Proof.MemClaim
public import proofs.«01_k».proof.Proof.InpClaim
public import proofs.«01_k».proof.Proof.PoolClaim
public import proofs.«01_k».proof.Proof.MkvValue

@[expose] public section

noncomputable section

namespace Cert.Proof

open Idealize.ShloMosaic Idealize.SL.Sem

/-- Every claim of this certificate holds. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite.Gen.facts, Cert.Pre_finite_inputs.Gen.facts,
  fun m ρ _ => Cert.Kernel.Gen.frame m ρ, fun m ρ _ => Cert.KernelIdeal.Gen.frame m ρ, Trunk.sgu_ref_frame,
  fun m ρ _ => Cert.Kernel2.Gen.frame m ρ, fun m ρ _ => Cert.Kernel2Ideal.Gen.frame m ρ, Trunk.ffn_ref_frame,
  fun m ρ _ => Cert.Kernel3.Gen.frame m ρ, fun m ρ _ => Cert.Kernel3Ideal.Gen.frame m ρ, fun m ρ _ => Cert.Kernel3Ideal.Gen.frame m ρ,
  Trunk.mem_ref_frame, fun m ρ _ => Trunk.mem_ref_frame m ρ trivial,
  fun m ρ _ => Cert.Kernel4.Gen.frame m ρ, fun m ρ _ => Cert.Kernel4Ideal.Gen.frame m ρ, Trunk.inp_ref_frame,
  fun m ρ _ => Cert.Kernel5.Gen.frame m ρ, fun m ρ _ => Cert.Kernel5Ideal.Gen.frame m ρ, fun m ρ _ => Cert.Kernel5Ideal.Gen.frame m ρ,
  Trunk.pool_ref_frame, fun m ρ _ => Trunk.pool_ref_frame m ρ trivial,
  fun m ρ _ => Cert.Kernel6.Gen.frame m ρ, fun m ρ _ => Cert.Kernel6Ideal.Gen.frame m ρ, Trunk.mkv_ref_frame,
  fun m ρ _ => Cert.Kernel7.Gen.frame m ρ, fun m ρ _ => Cert.Kernel7Ideal.Gen.frame m ρ, Trunk.cmp_ref_frame,
  trivial, Trunk.sgu_algebraic, trivial, Trunk.ffn_algebraic, trivial, Trunk.mem_algebraic,
  trivial, Trunk.inp_algebraic, trivial, Trunk.pool_algebraic, trivial, Trunk.mkv_algebraic, trivial, Trunk.cmp_algebraic⟩

end Cert.Proof

end
